-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MlpDu (m : (ℓ : Loc Cert.MlpDu.nD Cert.MlpDu.τ Cert.MlpDu.sig) → Buf (Elt Bits) ℓ) : Prop :=
  True

def Pre_MlpDuIdeal (m : (ℓ : Loc Cert.MlpDuIdeal.nD Cert.MlpDuIdeal.τ Cert.MlpDuIdeal.sig) → Buf (Elt Ideal) ℓ) : Prop :=
  True

def Pre_MlpDuReferenceIdeal (m : (ℓ : Loc Cert.MlpDuReferenceIdeal.nD Cert.MlpDuReferenceIdeal.τ Cert.MlpDuReferenceIdeal.sig) → Buf (Elt Ideal) ℓ) : Prop :=
  True

def Pre_RetDu (m : (ℓ : Loc Cert.RetDu.nD Cert.RetDu.τ Cert.RetDu.sig) → Buf (Elt Bits) ℓ) : Prop :=
  True

def Pre_RetDuIdeal (m : (ℓ : Loc Cert.RetDuIdeal.nD Cert.RetDuIdeal.τ Cert.RetDuIdeal.sig) → Buf (Elt Ideal) ℓ) : Prop :=
  True

def Pre_RetDuReferenceIdeal (m : (ℓ : Loc Cert.RetDuReferenceIdeal.nD Cert.RetDuReferenceIdeal.τ Cert.RetDuReferenceIdeal.sig) → Buf (Elt Ideal) ℓ) : Prop :=
  True

def Pre_RetDwout (m : (ℓ : Loc Cert.RetDwout.nD Cert.RetDwout.τ Cert.RetDwout.sig) → Buf (Elt Bits) ℓ) : Prop :=
  True

def Pre_RetDwoutIdeal (m : (ℓ : Loc Cert.RetDwoutIdeal.nD Cert.RetDwoutIdeal.τ Cert.RetDwoutIdeal.sig) → Buf (Elt Ideal) ℓ) : Prop :=
  True

def Pre_RetDwoutReferenceIdeal (m : (ℓ : Loc Cert.RetDwoutReferenceIdeal.nD Cert.RetDwoutReferenceIdeal.τ Cert.RetDwoutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_MlpDu [hMlpDu : Cert.MlpDu.Facts] : Prop :=
  ∀ (m : (ℓ : Loc Cert.MlpDu.nD Cert.MlpDu.τ Cert.MlpDu.sig) → Buf (Elt Bits) ℓ) (g : Dev Cert.MlpDu.nD → PrngReg), Pre_MlpDu m →
    θ_run (Cert.MlpDu.defs (F := Bits)) (onTc (τ := Cert.MlpDu.τ) (Cert.MlpDu.main (F := Bits))) ⟨m, fun _ => 0, g⟩ (fun r => (∀ c : Dev Cert.MlpDu.nD,
      r.2.mem ((c.tc : Thread Cert.MlpDu.nD Cert.MlpDu.τ).loc Cert.MlpDu.main_arg0) = m ((c.tc : Thread Cert.MlpDu.nD Cert.MlpDu.τ).loc Cert.MlpDu.main_arg0)
      ∧ r.2.mem ((c.tc : Thread Cert.MlpDu.nD Cert.MlpDu.τ).loc Cert.MlpDu.main_arg1) = m ((c.tc : Thread Cert.MlpDu.nD Cert.MlpDu.τ).loc Cert.MlpDu.main_arg1))
      ∧ r.2.sem = fun _ => 0)

def quiescent_MlpDuIdeal [hMlpDuIdeal : Cert.MlpDuIdeal.Facts] : Prop :=
  ∀ (m : (ℓ : Loc Cert.MlpDuIdeal.nD Cert.MlpDuIdeal.τ Cert.MlpDuIdeal.sig) → Buf (Elt Ideal) ℓ) (g : Dev Cert.MlpDuIdeal.nD → PrngReg), Pre_MlpDuIdeal m →
    θ_run (Cert.MlpDuIdeal.defs (F := Ideal)) (onTc (τ := Cert.MlpDuIdeal.τ) (Cert.MlpDuIdeal.main (F := Ideal))) ⟨m, fun _ => 0, g⟩ (fun r => (∀ c : Dev Cert.MlpDuIdeal.nD,
      r.2.mem ((c.tc : Thread Cert.MlpDuIdeal.nD Cert.MlpDuIdeal.τ).loc Cert.MlpDuIdeal.main_arg0) = m ((c.tc : Thread Cert.MlpDuIdeal.nD Cert.MlpDuIdeal.τ).loc Cert.MlpDuIdeal.main_arg0)
      ∧ r.2.mem ((c.tc : Thread Cert.MlpDuIdeal.nD Cert.MlpDuIdeal.τ).loc Cert.MlpDuIdeal.main_arg1) = m ((c.tc : Thread Cert.MlpDuIdeal.nD Cert.MlpDuIdeal.τ).loc Cert.MlpDuIdeal.main_arg1))
      ∧ r.2.sem = fun _ => 0)

def quiescent_MlpDuReferenceIdeal [hMlpDuReferenceIdeal : Cert.MlpDuReferenceIdeal.Facts] : Prop :=
  ∀ (m : (ℓ : Loc Cert.MlpDuReferenceIdeal.nD Cert.MlpDuReferenceIdeal.τ Cert.MlpDuReferenceIdeal.sig) → Buf (Elt Ideal) ℓ) (g : Dev Cert.MlpDuReferenceIdeal.nD → PrngReg), Pre_MlpDuReferenceIdeal m →
    θ_run (Cert.MlpDuReferenceIdeal.defs (F := Ideal)) (onTc (τ := Cert.MlpDuReferenceIdeal.τ) (Cert.MlpDuReferenceIdeal.main (F := Ideal))) ⟨m, fun _ => 0, g⟩ (fun r => (∀ c : Dev Cert.MlpDuReferenceIdeal.nD,
      r.2.mem ((c.tc : Thread Cert.MlpDuReferenceIdeal.nD Cert.MlpDuReferenceIdeal.τ).loc Cert.MlpDuReferenceIdeal.main_arg0) = m ((c.tc : Thread Cert.MlpDuReferenceIdeal.nD Cert.MlpDuReferenceIdeal.τ).loc Cert.MlpDuReferenceIdeal.main_arg0)
      ∧ r.2.mem ((c.tc : Thread Cert.MlpDuReferenceIdeal.nD Cert.MlpDuReferenceIdeal.τ).loc Cert.MlpDuReferenceIdeal.main_arg1) = m ((c.tc : Thread Cert.MlpDuReferenceIdeal.nD Cert.MlpDuReferenceIdeal.τ).loc Cert.MlpDuReferenceIdeal.main_arg1))
      ∧ r.2.sem = fun _ => 0)

def quiescent_RetDu [hRetDu : Cert.RetDu.Facts] : Prop :=
  ∀ (m : (ℓ : Loc Cert.RetDu.nD Cert.RetDu.τ Cert.RetDu.sig) → Buf (Elt Bits) ℓ) (g : Dev Cert.RetDu.nD → PrngReg), Pre_RetDu m →
    θ_run (Cert.RetDu.defs (F := Bits)) (onTc (τ := Cert.RetDu.τ) (Cert.RetDu.main (F := Bits))) ⟨m, fun _ => 0, g⟩ (fun r => (∀ c : Dev Cert.RetDu.nD,
      r.2.mem ((c.tc : Thread Cert.RetDu.nD Cert.RetDu.τ).loc Cert.RetDu.main_arg0) = m ((c.tc : Thread Cert.RetDu.nD Cert.RetDu.τ).loc Cert.RetDu.main_arg0)
      ∧ r.2.mem ((c.tc : Thread Cert.RetDu.nD Cert.RetDu.τ).loc Cert.RetDu.main_arg1) = m ((c.tc : Thread Cert.RetDu.nD Cert.RetDu.τ).loc Cert.RetDu.main_arg1))
      ∧ r.2.sem = fun _ => 0)

def quiescent_RetDuIdeal [hRetDuIdeal : Cert.RetDuIdeal.Facts] : Prop :=
  ∀ (m : (ℓ : Loc Cert.RetDuIdeal.nD Cert.RetDuIdeal.τ Cert.RetDuIdeal.sig) → Buf (Elt Ideal) ℓ) (g : Dev Cert.RetDuIdeal.nD → PrngReg), Pre_RetDuIdeal m →
    θ_run (Cert.RetDuIdeal.defs (F := Ideal)) (onTc (τ := Cert.RetDuIdeal.τ) (Cert.RetDuIdeal.main (F := Ideal))) ⟨m, fun _ => 0, g⟩ (fun r => (∀ c : Dev Cert.RetDuIdeal.nD,
      r.2.mem ((c.tc : Thread Cert.RetDuIdeal.nD Cert.RetDuIdeal.τ).loc Cert.RetDuIdeal.main_arg0) = m ((c.tc : Thread Cert.RetDuIdeal.nD Cert.RetDuIdeal.τ).loc Cert.RetDuIdeal.main_arg0)
      ∧ r.2.mem ((c.tc : Thread Cert.RetDuIdeal.nD Cert.RetDuIdeal.τ).loc Cert.RetDuIdeal.main_arg1) = m ((c.tc : Thread Cert.RetDuIdeal.nD Cert.RetDuIdeal.τ).loc Cert.RetDuIdeal.main_arg1))
      ∧ r.2.sem = fun _ => 0)

def quiescent_RetDuReferenceIdeal [hRetDuReferenceIdeal : Cert.RetDuReferenceIdeal.Facts] : Prop :=
  ∀ (m : (ℓ : Loc Cert.RetDuReferenceIdeal.nD Cert.RetDuReferenceIdeal.τ Cert.RetDuReferenceIdeal.sig) → Buf (Elt Ideal) ℓ) (g : Dev Cert.RetDuReferenceIdeal.nD → PrngReg), Pre_RetDuReferenceIdeal m →
    θ_run (Cert.RetDuReferenceIdeal.defs (F := Ideal)) (onTc (τ := Cert.RetDuReferenceIdeal.τ) (Cert.RetDuReferenceIdeal.main (F := Ideal))) ⟨m, fun _ => 0, g⟩ (fun r => (∀ c : Dev Cert.RetDuReferenceIdeal.nD,
      r.2.mem ((c.tc : Thread Cert.RetDuReferenceIdeal.nD Cert.RetDuReferenceIdeal.τ).loc Cert.RetDuReferenceIdeal.main_arg0) = m ((c.tc : Thread Cert.RetDuReferenceIdeal.nD Cert.RetDuReferenceIdeal.τ).loc Cert.RetDuReferenceIdeal.main_arg0)
      ∧ r.2.mem ((c.tc : Thread Cert.RetDuReferenceIdeal.nD Cert.RetDuReferenceIdeal.τ).loc Cert.RetDuReferenceIdeal.main_arg1) = m ((c.tc : Thread Cert.RetDuReferenceIdeal.nD Cert.RetDuReferenceIdeal.τ).loc Cert.RetDuReferenceIdeal.main_arg1))
      ∧ r.2.sem = fun _ => 0)

def quiescent_RetDwout [hRetDwout : Cert.RetDwout.Facts] : Prop :=
  ∀ (m : (ℓ : Loc Cert.RetDwout.nD Cert.RetDwout.τ Cert.RetDwout.sig) → Buf (Elt Bits) ℓ) (g : Dev Cert.RetDwout.nD → PrngReg), Pre_RetDwout m →
    θ_run (Cert.RetDwout.defs (F := Bits)) (onTc (τ := Cert.RetDwout.τ) (Cert.RetDwout.main (F := Bits))) ⟨m, fun _ => 0, g⟩ (fun r => (∀ c : Dev Cert.RetDwout.nD,
      r.2.mem ((c.tc : Thread Cert.RetDwout.nD Cert.RetDwout.τ).loc Cert.RetDwout.main_arg0) = m ((c.tc : Thread Cert.RetDwout.nD Cert.RetDwout.τ).loc Cert.RetDwout.main_arg0)
      ∧ r.2.mem ((c.tc : Thread Cert.RetDwout.nD Cert.RetDwout.τ).loc Cert.RetDwout.main_arg1) = m ((c.tc : Thread Cert.RetDwout.nD Cert.RetDwout.τ).loc Cert.RetDwout.main_arg1))
      ∧ r.2.sem = fun _ => 0)

def quiescent_RetDwoutIdeal [hRetDwoutIdeal : Cert.RetDwoutIdeal.Facts] : Prop :=
  ∀ (m : (ℓ : Loc Cert.RetDwoutIdeal.nD Cert.RetDwoutIdeal.τ Cert.RetDwoutIdeal.sig) → Buf (Elt Ideal) ℓ) (g : Dev Cert.RetDwoutIdeal.nD → PrngReg), Pre_RetDwoutIdeal m →
    θ_run (Cert.RetDwoutIdeal.defs (F := Ideal)) (onTc (τ := Cert.RetDwoutIdeal.τ) (Cert.RetDwoutIdeal.main (F := Ideal))) ⟨m, fun _ => 0, g⟩ (fun r => (∀ c : Dev Cert.RetDwoutIdeal.nD,
      r.2.mem ((c.tc : Thread Cert.RetDwoutIdeal.nD Cert.RetDwoutIdeal.τ).loc Cert.RetDwoutIdeal.main_arg0) = m ((c.tc : Thread Cert.RetDwoutIdeal.nD Cert.RetDwoutIdeal.τ).loc Cert.RetDwoutIdeal.main_arg0)
      ∧ r.2.mem ((c.tc : Thread Cert.RetDwoutIdeal.nD Cert.RetDwoutIdeal.τ).loc Cert.RetDwoutIdeal.main_arg1) = m ((c.tc : Thread Cert.RetDwoutIdeal.nD Cert.RetDwoutIdeal.τ).loc Cert.RetDwoutIdeal.main_arg1))
      ∧ r.2.sem = fun _ => 0)

def quiescent_RetDwoutReferenceIdeal [hRetDwoutReferenceIdeal : Cert.RetDwoutReferenceIdeal.Facts] : Prop :=
  ∀ (m : (ℓ : Loc Cert.RetDwoutReferenceIdeal.nD Cert.RetDwoutReferenceIdeal.τ Cert.RetDwoutReferenceIdeal.sig) → Buf (Elt Ideal) ℓ) (g : Dev Cert.RetDwoutReferenceIdeal.nD → PrngReg), Pre_RetDwoutReferenceIdeal m →
    θ_run (Cert.RetDwoutReferenceIdeal.defs (F := Ideal)) (onTc (τ := Cert.RetDwoutReferenceIdeal.τ) (Cert.RetDwoutReferenceIdeal.main (F := Ideal))) ⟨m, fun _ => 0, g⟩ (fun r => (∀ c : Dev Cert.RetDwoutReferenceIdeal.nD,
      r.2.mem ((c.tc : Thread Cert.RetDwoutReferenceIdeal.nD Cert.RetDwoutReferenceIdeal.τ).loc Cert.RetDwoutReferenceIdeal.main_arg0) = m ((c.tc : Thread Cert.RetDwoutReferenceIdeal.nD Cert.RetDwoutReferenceIdeal.τ).loc Cert.RetDwoutReferenceIdeal.main_arg0)
      ∧ r.2.mem ((c.tc : Thread Cert.RetDwoutReferenceIdeal.nD Cert.RetDwoutReferenceIdeal.τ).loc Cert.RetDwoutReferenceIdeal.main_arg1) = m ((c.tc : Thread Cert.RetDwoutReferenceIdeal.nD Cert.RetDwoutReferenceIdeal.τ).loc Cert.RetDwoutReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v51_0)) (v2 : (c : Dev Cert.KernelIdeal.nD) → Buf (Elt Ideal) ((c.tc : Thread Cert.KernelIdeal.nD Cert.KernelIdeal.τ).loc Cert.KernelIdeal.main_v51_1)) (v3 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v51_0) = v1 c
          ∧ r.2.mem ((c.tc : Thread Cert.KernelIdeal.nD Cert.KernelIdeal.τ).loc Cert.KernelIdeal.main_v51_1) = v2 c
          ∧ r.2.mem ((c.tc : Thread Cert.KernelIdeal.nD Cert.KernelIdeal.τ).loc Cert.KernelIdeal.main_v51_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v130) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v1)) (v1 : (c : Dev Cert.MlpIdeal.nD) → Buf (Elt Ideal) ((c.tc : Thread Cert.MlpIdeal.nD Cert.MlpIdeal.τ).loc Cert.MlpIdeal.main_v4)) (v2 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_v4) = v1 c
          ∧ r.2.mem ((c.tc : Thread Cert.MlpIdeal.nD Cert.MlpIdeal.τ).loc Cert.MlpIdeal.main_v3) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v27) = v0 c
          ∧ r.2.mem ((c.tc : Thread Cert.MlpReferenceIdeal.nD Cert.MlpReferenceIdeal.τ).loc Cert.MlpReferenceIdeal.main_v28) = v1 c
          ∧ r.2.mem ((c.tc : Thread Cert.MlpReferenceIdeal.nD Cert.MlpReferenceIdeal.τ).loc Cert.MlpReferenceIdeal.main_v29) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v0)) (v1 : (c : Dev Cert.ProjIdeal.nD) → Buf (Elt Ideal) ((c.tc : Thread Cert.ProjIdeal.nD Cert.ProjIdeal.τ).loc Cert.ProjIdeal.main_v1)) (v2 : (c : Dev Cert.ProjIdeal.nD) → Buf (Elt Ideal) ((c.tc : Thread Cert.ProjIdeal.nD Cert.ProjIdeal.τ).loc Cert.ProjIdeal.main_v3)) (v3 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_v1) = v1 c
          ∧ r.2.mem ((c.tc : Thread Cert.ProjIdeal.nD Cert.ProjIdeal.τ).loc Cert.ProjIdeal.main_v3) = v2 c
          ∧ r.2.mem ((c.tc : Thread Cert.ProjIdeal.nD Cert.ProjIdeal.τ).loc Cert.ProjIdeal.main_v2) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_v16) = v1 c
          ∧ r.2.mem ((c.tc : Thread Cert.ProjReferenceIdeal.nD Cert.ProjReferenceIdeal.τ).loc Cert.ProjReferenceIdeal.main_v17) = v2 c
          ∧ r.2.mem ((c.tc : Thread Cert.ProjReferenceIdeal.nD Cert.ProjReferenceIdeal.τ).loc Cert.ProjReferenceIdeal.main_v18) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_MlpDu_MlpDuIdeal : Prop :=
  True

def algebraic_MlpDuIdeal_MlpDuReferenceIdeal [hMlpDuIdeal : Cert.MlpDuIdeal.Facts] [hMlpDuReferenceIdeal : Cert.MlpDuReferenceIdeal.Facts] : Prop :=
  ∀ (m : (ℓ : Loc Cert.MlpDuIdeal.nD Cert.MlpDuIdeal.τ Cert.MlpDuIdeal.sig) → Buf (Elt Ideal) ℓ) (g : Dev Cert.MlpDuIdeal.nD → PrngReg)
    (m' : (ℓ : Loc Cert.MlpDuReferenceIdeal.nD Cert.MlpDuReferenceIdeal.τ Cert.MlpDuReferenceIdeal.sig) → Buf (Elt Ideal) ℓ) (g' : Dev Cert.MlpDuReferenceIdeal.nD → PrngReg), Pre_MlpDuIdeal m →
    (∀ c : Dev Cert.MlpDuIdeal.nD,
      m' ((c.tc : Thread Cert.MlpDuReferenceIdeal.nD Cert.MlpDuReferenceIdeal.τ).loc Cert.MlpDuReferenceIdeal.main_arg0) = m ((c.tc : Thread Cert.MlpDuIdeal.nD Cert.MlpDuIdeal.τ).loc Cert.MlpDuIdeal.main_arg0)
      ∧ m' ((c.tc : Thread Cert.MlpDuReferenceIdeal.nD Cert.MlpDuReferenceIdeal.τ).loc Cert.MlpDuReferenceIdeal.main_arg1) = m ((c.tc : Thread Cert.MlpDuIdeal.nD Cert.MlpDuIdeal.τ).loc Cert.MlpDuIdeal.main_arg1)) →
    ∃ (v0 : (c : Dev Cert.MlpDuIdeal.nD) → Buf (Elt Ideal) ((c.tc : Thread Cert.MlpDuIdeal.nD Cert.MlpDuIdeal.τ).loc Cert.MlpDuIdeal.main_v0)),
      θ_run (Cert.MlpDuIdeal.defs (F := Ideal)) (onTc (τ := Cert.MlpDuIdeal.τ) (Cert.MlpDuIdeal.main (F := Ideal))) ⟨m, fun _ => 0, g⟩ (fun r => ∀ c : Dev Cert.MlpDuIdeal.nD,
          r.2.mem ((c.tc : Thread Cert.MlpDuIdeal.nD Cert.MlpDuIdeal.τ).loc Cert.MlpDuIdeal.main_v0) = v0 c
          ∧ r.2.mem ((c.tc : Thread Cert.MlpDuIdeal.nD Cert.MlpDuIdeal.τ).loc Cert.MlpDuIdeal.main_arg0) = m ((c.tc : Thread Cert.MlpDuIdeal.nD Cert.MlpDuIdeal.τ).loc Cert.MlpDuIdeal.main_arg0)
          ∧ r.2.mem ((c.tc : Thread Cert.MlpDuIdeal.nD Cert.MlpDuIdeal.τ).loc Cert.MlpDuIdeal.main_arg1) = m ((c.tc : Thread Cert.MlpDuIdeal.nD Cert.MlpDuIdeal.τ).loc Cert.MlpDuIdeal.main_arg1))
      ∧ θ_run (Cert.MlpDuReferenceIdeal.defs (F := Ideal)) (onTc (τ := Cert.MlpDuReferenceIdeal.τ) (Cert.MlpDuReferenceIdeal.main (F := Ideal))) ⟨m', fun _ => 0, g'⟩ (fun r => ∀ c : Dev Cert.MlpDuReferenceIdeal.nD,
          r.2.mem ((c.tc : Thread Cert.MlpDuReferenceIdeal.nD Cert.MlpDuReferenceIdeal.τ).loc Cert.MlpDuReferenceIdeal.main_v7) = v0 c
          ∧ r.2.mem ((c.tc : Thread Cert.MlpDuReferenceIdeal.nD Cert.MlpDuReferenceIdeal.τ).loc Cert.MlpDuReferenceIdeal.main_arg0) = m' ((c.tc : Thread Cert.MlpDuReferenceIdeal.nD Cert.MlpDuReferenceIdeal.τ).loc Cert.MlpDuReferenceIdeal.main_arg0)
          ∧ r.2.mem ((c.tc : Thread Cert.MlpDuReferenceIdeal.nD Cert.MlpDuReferenceIdeal.τ).loc Cert.MlpDuReferenceIdeal.main_arg1) = m' ((c.tc : Thread Cert.MlpDuReferenceIdeal.nD Cert.MlpDuReferenceIdeal.τ).loc Cert.MlpDuReferenceIdeal.main_arg1))

def preserves_RetDu_RetDuIdeal : Prop :=
  True

def algebraic_RetDuIdeal_RetDuReferenceIdeal [hRetDuIdeal : Cert.RetDuIdeal.Facts] [hRetDuReferenceIdeal : Cert.RetDuReferenceIdeal.Facts] : Prop :=
  ∀ (m : (ℓ : Loc Cert.RetDuIdeal.nD Cert.RetDuIdeal.τ Cert.RetDuIdeal.sig) → Buf (Elt Ideal) ℓ) (g : Dev Cert.RetDuIdeal.nD → PrngReg)
    (m' : (ℓ : Loc Cert.RetDuReferenceIdeal.nD Cert.RetDuReferenceIdeal.τ Cert.RetDuReferenceIdeal.sig) → Buf (Elt Ideal) ℓ) (g' : Dev Cert.RetDuReferenceIdeal.nD → PrngReg), Pre_RetDuIdeal m →
    (∀ c : Dev Cert.RetDuIdeal.nD,
      m' ((c.tc : Thread Cert.RetDuReferenceIdeal.nD Cert.RetDuReferenceIdeal.τ).loc Cert.RetDuReferenceIdeal.main_arg0) = m ((c.tc : Thread Cert.RetDuIdeal.nD Cert.RetDuIdeal.τ).loc Cert.RetDuIdeal.main_arg0)
      ∧ m' ((c.tc : Thread Cert.RetDuReferenceIdeal.nD Cert.RetDuReferenceIdeal.τ).loc Cert.RetDuReferenceIdeal.main_arg1) = m ((c.tc : Thread Cert.RetDuIdeal.nD Cert.RetDuIdeal.τ).loc Cert.RetDuIdeal.main_arg1)) →
    ∃ (v0 : (c : Dev Cert.RetDuIdeal.nD) → Buf (Elt Ideal) ((c.tc : Thread Cert.RetDuIdeal.nD Cert.RetDuIdeal.τ).loc Cert.RetDuIdeal.main_v0)),
      θ_run (Cert.RetDuIdeal.defs (F := Ideal)) (onTc (τ := Cert.RetDuIdeal.τ) (Cert.RetDuIdeal.main (F := Ideal))) ⟨m, fun _ => 0, g⟩ (fun r => ∀ c : Dev Cert.RetDuIdeal.nD,
          r.2.mem ((c.tc : Thread Cert.RetDuIdeal.nD Cert.RetDuIdeal.τ).loc Cert.RetDuIdeal.main_v0) = v0 c
          ∧ r.2.mem ((c.tc : Thread Cert.RetDuIdeal.nD Cert.RetDuIdeal.τ).loc Cert.RetDuIdeal.main_arg0) = m ((c.tc : Thread Cert.RetDuIdeal.nD Cert.RetDuIdeal.τ).loc Cert.RetDuIdeal.main_arg0)
          ∧ r.2.mem ((c.tc : Thread Cert.RetDuIdeal.nD Cert.RetDuIdeal.τ).loc Cert.RetDuIdeal.main_arg1) = m ((c.tc : Thread Cert.RetDuIdeal.nD Cert.RetDuIdeal.τ).loc Cert.RetDuIdeal.main_arg1))
      ∧ θ_run (Cert.RetDuReferenceIdeal.defs (F := Ideal)) (onTc (τ := Cert.RetDuReferenceIdeal.τ) (Cert.RetDuReferenceIdeal.main (F := Ideal))) ⟨m', fun _ => 0, g'⟩ (fun r => ∀ c : Dev Cert.RetDuReferenceIdeal.nD,
          r.2.mem ((c.tc : Thread Cert.RetDuReferenceIdeal.nD Cert.RetDuReferenceIdeal.τ).loc Cert.RetDuReferenceIdeal.main_v7) = v0 c
          ∧ r.2.mem ((c.tc : Thread Cert.RetDuReferenceIdeal.nD Cert.RetDuReferenceIdeal.τ).loc Cert.RetDuReferenceIdeal.main_arg0) = m' ((c.tc : Thread Cert.RetDuReferenceIdeal.nD Cert.RetDuReferenceIdeal.τ).loc Cert.RetDuReferenceIdeal.main_arg0)
          ∧ r.2.mem ((c.tc : Thread Cert.RetDuReferenceIdeal.nD Cert.RetDuReferenceIdeal.τ).loc Cert.RetDuReferenceIdeal.main_arg1) = m' ((c.tc : Thread Cert.RetDuReferenceIdeal.nD Cert.RetDuReferenceIdeal.τ).loc Cert.RetDuReferenceIdeal.main_arg1))

def preserves_RetDwout_RetDwoutIdeal : Prop :=
  True

def algebraic_RetDwoutIdeal_RetDwoutReferenceIdeal [hRetDwoutIdeal : Cert.RetDwoutIdeal.Facts] [hRetDwoutReferenceIdeal : Cert.RetDwoutReferenceIdeal.Facts] : Prop :=
  ∀ (m : (ℓ : Loc Cert.RetDwoutIdeal.nD Cert.RetDwoutIdeal.τ Cert.RetDwoutIdeal.sig) → Buf (Elt Ideal) ℓ) (g : Dev Cert.RetDwoutIdeal.nD → PrngReg)
    (m' : (ℓ : Loc Cert.RetDwoutReferenceIdeal.nD Cert.RetDwoutReferenceIdeal.τ Cert.RetDwoutReferenceIdeal.sig) → Buf (Elt Ideal) ℓ) (g' : Dev Cert.RetDwoutReferenceIdeal.nD → PrngReg), Pre_RetDwoutIdeal m →
    (∀ c : Dev Cert.RetDwoutIdeal.nD,
      m' ((c.tc : Thread Cert.RetDwoutReferenceIdeal.nD Cert.RetDwoutReferenceIdeal.τ).loc Cert.RetDwoutReferenceIdeal.main_arg0) = m ((c.tc : Thread Cert.RetDwoutIdeal.nD Cert.RetDwoutIdeal.τ).loc Cert.RetDwoutIdeal.main_arg0)
      ∧ m' ((c.tc : Thread Cert.RetDwoutReferenceIdeal.nD Cert.RetDwoutReferenceIdeal.τ).loc Cert.RetDwoutReferenceIdeal.main_arg1) = m ((c.tc : Thread Cert.RetDwoutIdeal.nD Cert.RetDwoutIdeal.τ).loc Cert.RetDwoutIdeal.main_arg1)) →
    ∃ (v0 : (c : Dev Cert.RetDwoutIdeal.nD) → Buf (Elt Ideal) ((c.tc : Thread Cert.RetDwoutIdeal.nD Cert.RetDwoutIdeal.τ).loc Cert.RetDwoutIdeal.main_v0)),
      θ_run (Cert.RetDwoutIdeal.defs (F := Ideal)) (onTc (τ := Cert.RetDwoutIdeal.τ) (Cert.RetDwoutIdeal.main (F := Ideal))) ⟨m, fun _ => 0, g⟩ (fun r => ∀ c : Dev Cert.RetDwoutIdeal.nD,
          r.2.mem ((c.tc : Thread Cert.RetDwoutIdeal.nD Cert.RetDwoutIdeal.τ).loc Cert.RetDwoutIdeal.main_v0) = v0 c
          ∧ r.2.mem ((c.tc : Thread Cert.RetDwoutIdeal.nD Cert.RetDwoutIdeal.τ).loc Cert.RetDwoutIdeal.main_arg0) = m ((c.tc : Thread Cert.RetDwoutIdeal.nD Cert.RetDwoutIdeal.τ).loc Cert.RetDwoutIdeal.main_arg0)
          ∧ r.2.mem ((c.tc : Thread Cert.RetDwoutIdeal.nD Cert.RetDwoutIdeal.τ).loc Cert.RetDwoutIdeal.main_arg1) = m ((c.tc : Thread Cert.RetDwoutIdeal.nD Cert.RetDwoutIdeal.τ).loc Cert.RetDwoutIdeal.main_arg1))
      ∧ θ_run (Cert.RetDwoutReferenceIdeal.defs (F := Ideal)) (onTc (τ := Cert.RetDwoutReferenceIdeal.τ) (Cert.RetDwoutReferenceIdeal.main (F := Ideal))) ⟨m', fun _ => 0, g'⟩ (fun r => ∀ c : Dev Cert.RetDwoutReferenceIdeal.nD,
          r.2.mem ((c.tc : Thread Cert.RetDwoutReferenceIdeal.nD Cert.RetDwoutReferenceIdeal.τ).loc Cert.RetDwoutReferenceIdeal.main_v6) = v0 c
          ∧ r.2.mem ((c.tc : Thread Cert.RetDwoutReferenceIdeal.nD Cert.RetDwoutReferenceIdeal.τ).loc Cert.RetDwoutReferenceIdeal.main_arg0) = m' ((c.tc : Thread Cert.RetDwoutReferenceIdeal.nD Cert.RetDwoutReferenceIdeal.τ).loc Cert.RetDwoutReferenceIdeal.main_arg0)
          ∧ r.2.mem ((c.tc : Thread Cert.RetDwoutReferenceIdeal.nD Cert.RetDwoutReferenceIdeal.τ).loc Cert.RetDwoutReferenceIdeal.main_arg1) = m' ((c.tc : Thread Cert.RetDwoutReferenceIdeal.nD Cert.RetDwoutReferenceIdeal.τ).loc Cert.RetDwoutReferenceIdeal.main_arg1))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hProj : Cert.Proj.Facts) (hProjIdeal : Cert.ProjIdeal.Facts) (hProjReferenceIdeal : Cert.ProjReferenceIdeal.Facts) (hMlpDu : Cert.MlpDu.Facts) (hMlpDuIdeal : Cert.MlpDuIdeal.Facts) (hMlpDuReferenceIdeal : Cert.MlpDuReferenceIdeal.Facts) (hRetDu : Cert.RetDu.Facts) (hRetDuIdeal : Cert.RetDuIdeal.Facts) (hRetDuReferenceIdeal : Cert.RetDuReferenceIdeal.Facts) (hRetDwout : Cert.RetDwout.Facts) (hRetDwoutIdeal : Cert.RetDwoutIdeal.Facts) (hRetDwoutReferenceIdeal : Cert.RetDwoutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MlpDu (hMlpDu := hMlpDu)
    ∧ quiescent_MlpDuIdeal (hMlpDuIdeal := hMlpDuIdeal)
    ∧ quiescent_MlpDuReferenceIdeal (hMlpDuReferenceIdeal := hMlpDuReferenceIdeal)
    ∧ quiescent_RetDu (hRetDu := hRetDu)
    ∧ quiescent_RetDuIdeal (hRetDuIdeal := hRetDuIdeal)
    ∧ quiescent_RetDuReferenceIdeal (hRetDuReferenceIdeal := hRetDuReferenceIdeal)
    ∧ quiescent_RetDwout (hRetDwout := hRetDwout)
    ∧ quiescent_RetDwoutIdeal (hRetDwoutIdeal := hRetDwoutIdeal)
    ∧ quiescent_RetDwoutReferenceIdeal (hRetDwoutReferenceIdeal := hRetDwoutReferenceIdeal)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_Proj_ProjIdeal
    ∧ algebraic_ProjIdeal_ProjReferenceIdeal (hProjIdeal := hProjIdeal) (hProjReferenceIdeal := hProjReferenceIdeal)
    ∧ preserves_MlpDu_MlpDuIdeal
    ∧ algebraic_MlpDuIdeal_MlpDuReferenceIdeal (hMlpDuIdeal := hMlpDuIdeal) (hMlpDuReferenceIdeal := hMlpDuReferenceIdeal)
    ∧ preserves_RetDu_RetDuIdeal
    ∧ algebraic_RetDuIdeal_RetDuReferenceIdeal (hRetDuIdeal := hRetDuIdeal) (hRetDuReferenceIdeal := hRetDuReferenceIdeal)
    ∧ preserves_RetDwout_RetDwoutIdeal
    ∧ algebraic_RetDwoutIdeal_RetDwoutReferenceIdeal (hRetDwoutIdeal := hRetDwoutIdeal) (hRetDwoutReferenceIdeal := hRetDwoutReferenceIdeal)
-- ==== Kernel.lean ====
abbrev S4096x1024 : Shape := ⟨2, ![4096, 1024]⟩
abbrev S4096x2048 : Shape := ⟨2, ![4096, 2048]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S4x1x512 : Shape := ⟨3, ![4, 1, 512]⟩
abbrev S4x32x256x512 : Shape := ⟨4, ![4, 32, 256, 512]⟩
abbrev S128x1024 : Shape := ⟨2, ![128, 1024]⟩
abbrev S128x2048 : Shape := ⟨2, ![128, 2048]⟩
abbrev S4x1x256x512 : Shape := ⟨4, ![4, 1, 256, 512]⟩
abbrev S4x256x512 : Shape := ⟨3, ![4, 256, 512]⟩
abbrev S128x256 : Shape := ⟨2, ![128, 256]⟩
abbrev S128x512 : Shape := ⟨2, ![128, 512]⟩
abbrev S1x256x512 : Shape := ⟨3, ![1, 256, 512]⟩
abbrev S256x512 : Shape := ⟨2, ![256, 512]⟩
abbrev S1x1x256x512 : Shape := ⟨4, ![1, 1, 256, 512]⟩
abbrev S1x128x256 : Shape := ⟨3, ![1, 128, 256]⟩
abbrev S1x1x512 : Shape := ⟨3, ![1, 1, 512]⟩
abbrev S1x512 : Shape := ⟨2, ![1, 512]⟩

abbrev nBuf : Space → Nat
  | .hbm => 70
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x2048, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S4x1x1, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S4x1, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128x1, .f32⟩
  | .hbm, ⟨47, _⟩ => ⟨S4x128x256, .f32⟩
  | .hbm, ⟨48, _⟩ => ⟨S4x1, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S4x128x1, .f32⟩
  | .hbm, ⟨58, _⟩ => ⟨S4x128x256, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4x1x1, .f32⟩
  | .hbm, ⟨64, _⟩ => ⟨S4x1x512, .f32⟩
  | .hbm, ⟨65, _⟩ => ⟨S4096x2048, .f32⟩
  | .hbm, ⟨66, _⟩ => ⟨S4x32x256x512, .bf16⟩
  | .hbm, ⟨67, _⟩ => ⟨S4096x1024, .f32⟩
  | .hbm, ⟨68, _⟩ => ⟨S4096x1024, .f32⟩
  | .hbm, ⟨69, _⟩ => ⟨S4096x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S4x128x128, .f32⟩
  | .local _ .vmem, ⟨7, _⟩ => ⟨S4x128x256, .f32⟩
  | .local _ .vmem, ⟨8, _⟩ => ⟨S4x128x256, .f32⟩
  | .local _ .vmem, ⟨9, _⟩ => ⟨S4x1x512, .f32⟩
  | .local _ .vmem, ⟨10, _⟩ => ⟨S128x2048, .f32⟩
  | .local _ .vmem, ⟨11, _⟩ => ⟨S128x2048, .f32⟩
  | .local _ .vmem, ⟨12, _⟩ => ⟨S4x1x256x512, .bf16⟩
  | .local _ .vmem, ⟨13, _⟩ => ⟨S4x1x256x512, .bf16⟩
  | .local _ .vmem, ⟨14, _⟩ => ⟨S4x256x512, .f32⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S4x1x256x512, .bf16⟩
  | .local _ .vmem, ⟨24, _⟩ => ⟨S4x1x256x512, .bf16⟩
  | .local _ .vmem, ⟨25, _⟩ => ⟨S4x128x128, .f32⟩
  | .local _ .vmem, ⟨26, _⟩ => ⟨S4x128x256, .f32⟩
  | .local _ .vmem, ⟨27, _⟩ => ⟨S4x128x256, .f32⟩
  | .local _ .vmem, ⟨28, _⟩ => ⟨S4x1x512, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x2048, .bf16⟩
  | .local _ .vmem, ⟨34, _⟩ => ⟨S128x2048, .bf16⟩
  | .local _ .vmem, ⟨35, _⟩ => ⟨S4x256x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v51_0 : Ref sig .tc := ⟨.hbm, 67, rfl⟩
abbrev main_v51_1 : Ref sig .tc := ⟨.hbm, 68, rfl⟩
abbrev main_v51_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_4 (i : grid1.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x128x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S4096x1024 : Shape := ⟨2, ![4096, 1024]⟩
abbrev S4096x2048 : Shape := ⟨2, ![4096, 2048]⟩
abbrev S1x4096x4x256 : Shape := ⟨4, ![1, 4096, 4, 256]⟩
abbrev S1x4096x4x512 : Shape := ⟨4, ![1, 4096, 4, 512]⟩
abbrev S1x32x128x4x256 : Shape := ⟨5, ![1, 32, 128, 4, 256]⟩
abbrev S32x1x4x128x256 : Shape := ⟨5, ![32, 1, 4, 128, 256]⟩
abbrev S1x32x128x4x512 : Shape := ⟨5, ![1, 32, 128, 4, 512]⟩
abbrev S32x1x4x128x512 : Shape := ⟨5, ![32, 1, 4, 128, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S4x32x32 : Shape := ⟨3, ![4, 32, 32]⟩
abbrev S32x1x4x128x128 : Shape := ⟨5, ![32, 1, 4, 128, 128]⟩
abbrev S1x1x4x128x128 : Shape := ⟨5, ![1, 1, 4, 128, 128]⟩
abbrev S1x1x4x128x1 : Shape := ⟨5, ![1, 1, 4, 128, 1]⟩
abbrev S32x1x4x256x512 : Shape := ⟨5, ![32, 1, 4, 256, 512]⟩
abbrev S4x1x256x512x32 : Shape := ⟨5, ![4, 1, 256, 512, 32]⟩
abbrev S32x1x4x512x256 : Shape := ⟨5, ![32, 1, 4, 512, 256]⟩
abbrev S32x1x4x512x128 : Shape := ⟨5, ![32, 1, 4, 512, 128]⟩
abbrev S32x1x4x256x128 : Shape := ⟨5, ![32, 1, 4, 256, 128]⟩

abbrev nBuf : Space → Nat
  | .hbm => 153
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x2048, .bf16⟩
  | 3 => ⟨S4096x2048, .bf16⟩
  | 4 => ⟨S4096x1024, .f32⟩
  | 5 => ⟨S4096x1024, .f32⟩
  | 6 => ⟨S4096x2048, .f32⟩
  | 7 => ⟨S4096x2048, .f32⟩
  | 8 => ⟨S1x4096x4x256, .f32⟩
  | 9 => ⟨S1x4096x4x256, .f32⟩
  | 10 => ⟨S1x4096x4x512, .f32⟩
  | 11 => ⟨S1x32x128x4x256, .f32⟩
  | 12 => ⟨S32x1x4x128x256, .f32⟩
  | 13 => ⟨S1x32x128x4x256, .f32⟩
  | 14 => ⟨S32x1x4x128x256, .f32⟩
  | 15 => ⟨S1x32x128x4x512, .f32⟩
  | 16 => ⟨S32x1x4x128x512, .f32⟩
  | 17 => ⟨S4, .f32⟩
  | 18 => ⟨S_, .f32⟩
  | 19 => ⟨S4, .f32⟩
  | 20 => ⟨S4, .f32⟩
  | 21 => ⟨S_, .f32⟩
  | 22 => ⟨S4, .f32⟩
  | 23 => ⟨S4, .f32⟩
  | 24 => ⟨S4, .f32⟩
  | 25 => ⟨S4, .f32⟩
  | 26 => ⟨S4, .f32⟩
  | 27 => ⟨S128, .f32⟩
  | 28 => ⟨S128x1, .f32⟩
  | 29 => ⟨S1x128, .f32⟩
  | 30 => ⟨S128x128, .f32⟩
  | 31 => ⟨S128x128, .f32⟩
  | 32 => ⟨S128x128, .f32⟩
  | 33 => ⟨S_, .f32⟩
  | 34 => ⟨S128x128, .f32⟩
  | 35 => ⟨S128x128, .i1⟩
  | 36 => ⟨S4x1x1, .f32⟩
  | 37 => ⟨S_, .f32⟩
  | 38 => ⟨S128x128, .f32⟩
  | 39 => ⟨S128x128, .f32⟩
  | 40 => ⟨S1x128x128, .f32⟩
  | 41 => ⟨S4x128x128, .f32⟩
  | 42 => ⟨S4x128x128, .f32⟩
  | 43 => ⟨S4x128x128, .f32⟩
  | 44 => ⟨S4x128x128, .f32⟩
  | 45 => ⟨S_, .f32⟩
  | 46 => ⟨S_, .f32⟩
  | 47 => ⟨S4x128x128, .i1⟩
  | 48 => ⟨S4x128x128, .f32⟩
  | 49 => ⟨S4x128x128, .f32⟩
  | 50 => ⟨S4x1, .f32⟩
  | 51 => ⟨S_, .f32⟩
  | 52 => ⟨S128, .f32⟩
  | 53 => ⟨S128, .f32⟩
  | 54 => ⟨S1x128, .f32⟩
  | 55 => ⟨S4x128, .f32⟩
  | 56 => ⟨S4x128, .f32⟩
  | 57 => ⟨S4x128, .f32⟩
  | 58 => ⟨S4x128, .f32⟩
  | 59 => ⟨S1x4x128x1, .f32⟩
  | 60 => ⟨S4x1, .f32⟩
  | 61 => ⟨S_, .f32⟩
  | 62 => ⟨S128, .f32⟩
  | 63 => ⟨S128, .f32⟩
  | 64 => ⟨S1x128, .f32⟩
  | 65 => ⟨S4x128, .f32⟩
  | 66 => ⟨S4x128, .f32⟩
  | 67 => ⟨S4x128, .f32⟩
  | 68 => ⟨S4x128, .f32⟩
  | 69 => ⟨S1x4x128x1, .f32⟩
  | 70 => ⟨S32, .f32⟩
  | 71 => ⟨S32x1, .f32⟩
  | 72 => ⟨S1x32, .f32⟩
  | 73 => ⟨S32x32, .f32⟩
  | 74 => ⟨S32x32, .f32⟩
  | 75 => ⟨S32x32, .f32⟩
  | 76 => ⟨S_, .f32⟩
  | 77 => ⟨S32x32, .f32⟩
  | 78 => ⟨S32x32, .f32⟩
  | 79 => ⟨S_, .f32⟩
  | 80 => ⟨S32x32, .f32⟩
  | 81 => ⟨S32x32, .i1⟩
  | 82 => ⟨S4x1x1, .f32⟩
  | 83 => ⟨S_, .f32⟩
  | 84 => ⟨S32x32, .f32⟩
  | 85 => ⟨S32x32, .f32⟩
  | 86 => ⟨S_, .f32⟩
  | 87 => ⟨S32x32, .f32⟩
  | 88 => ⟨S32x32, .f32⟩
  | 89 => ⟨S1x32x32, .f32⟩
  | 90 => ⟨S4x32x32, .f32⟩
  | 91 => ⟨S4x32x32, .f32⟩
  | 92 => ⟨S4x32x32, .f32⟩
  | 93 => ⟨S4x32x32, .f32⟩
  | 94 => ⟨S_, .f32⟩
  | 95 => ⟨S_, .f32⟩
  | 96 => ⟨S4x32x32, .i1⟩
  | 97 => ⟨S4x32x32, .f32⟩
  | 98 => ⟨S4x32x32, .f32⟩
  | 99 => ⟨S32x1x4x128x128, .f32⟩
  | 100 => ⟨S1x1x4x128x128, .f32⟩
  | 101 => ⟨S32x1x4x128x128, .f32⟩
  | 102 => ⟨S32x1x4x128x128, .f32⟩
  | 103 => ⟨S32x1x4x128x512, .f32⟩
  | 104 => ⟨S1x1x4x128x1, .f32⟩
  | 105 => ⟨S32x1x4x128x256, .f32⟩
  | 106 => ⟨S32x1x4x128x256, .f32⟩
  | 107 => ⟨S32x1x4x256x512, .f32⟩
  | 108 => ⟨S4x1x256x512x32, .f32⟩
  | 109 => ⟨S32x1x4x256x512, .f32⟩
  | 110 => ⟨S1x1x4x128x1, .f32⟩
  | 111 => ⟨S32x1x4x128x256, .f32⟩
  | 112 => ⟨S32x1x4x128x256, .f32⟩
  | 113 => ⟨S32x1x4x128x512, .f32⟩
  | 114 => ⟨S32x1x4x128x512, .f32⟩
  | 115 => ⟨S1x32x128x4x512, .f32⟩
  | 116 => ⟨S4096x2048, .f32⟩
  | 117 => ⟨S1x32x128x4x512, .f32⟩
  | 118 => ⟨S32x1x4x128x512, .f32⟩
  | 119 => ⟨S32x1x4x512x256, .f32⟩
  | 120 => ⟨S32x1x4x256x512, .f32⟩
  | 121 => ⟨S32x1x4x128x256, .f32⟩
  | 122 => ⟨S32x1x4x128x256, .f32⟩
  | 123 => ⟨S32x1x4x128x256, .f32⟩
  | 124 => ⟨S4x1x256x512x32, .f32⟩
  | 125 => ⟨S4x1x256x512x32, .f32⟩
  | 126 => ⟨S32x1x4x256x512, .f32⟩
  | 127 => ⟨S32x1x4x512x128, .f32⟩
  | _ => ⟨S4096x1024, .bf16⟩

abbrev hbmTy0_1 (i : Nat) : BufTy := match i % 128 with
  | 0 => ⟨S32x1x4x128x512, .f32⟩
  | 1 => ⟨S32x1x4x256x128, .f32⟩
  | 2 => ⟨S32x1x4x128x256, .f32⟩
  | 3 => ⟨S32x1x4x128x256, .f32⟩
  | 4 => ⟨S32x1x4x128x256, .f32⟩
  | 5 => ⟨S32x1x4x512x128, .f32⟩
  | 6 => ⟨S32x1x4x128x512, .f32⟩
  | 7 => ⟨S32x1x4x128x512, .f32⟩
  | 8 => ⟨S32x1x4x128x128, .f32⟩
  | 9 => ⟨S32x1x4x128x128, .f32⟩
  | 10 => ⟨S32x1x4x128x128, .f32⟩
  | 11 => ⟨S32x1x4x128x256, .f32⟩
  | 12 => ⟨S32x1x4x128x256, .f32⟩
  | 13 => ⟨S32x1x4x128x256, .f32⟩
  | 14 => ⟨S32x1x4x128x256, .f32⟩
  | 15 => ⟨S1x32x128x4x512, .f32⟩
  | 16 => ⟨S1x4096x4x512, .f32⟩
  | 17 => ⟨S1x32x128x4x256, .f32⟩
  | 18 => ⟨S1x4096x4x256, .f32⟩
  | 19 => ⟨S1x32x128x4x256, .f32⟩
  | 20 => ⟨S1x4096x4x256, .f32⟩
  | 21 => ⟨S4096x2048, .f32⟩
  | 22 => ⟨S4096x1024, .f32⟩
  | 23 => ⟨S4096x1024, .f32⟩
  | 24 => ⟨S4096x2048, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_cst_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_10 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩

abbrev nD : Nat := 1
abbrev τ : Topo := Topo.v7x

variable {F : FTy → Type} [FloatOps F]
-- ==== Mlp.lean ====
abbrev S4096x1024 : Shape := ⟨2, ![4096, 1024]⟩
abbrev S8x1024x512 : Shape := ⟨3, ![8, 1024, 512]⟩
abbrev S8x512x1024 : Shape := ⟨3, ![8, 512, 1024]⟩
abbrev S4096x4096 : Shape := ⟨2, ![4096, 4096]⟩
abbrev S1x1024x512 : Shape := ⟨3, ![1, 1024, 512]⟩
abbrev S4096x512 : Shape := ⟨2, ![4096, 512]⟩
abbrev S1024x512 : Shape := ⟨2, ![1024, 512]⟩
abbrev S512x4096 : Shape := ⟨2, ![512, 4096]⟩
abbrev S512x1024 : Shape := ⟨2, ![512, 1024]⟩
abbrev S2048x1024 : Shape := ⟨2, ![2048, 1024]⟩
abbrev S1x512x1024 : Shape := ⟨3, ![1, 512, 1024]⟩
abbrev S2048x512 : Shape := ⟨2, ![2048, 512]⟩

abbrev nBuf : Space → Nat
  | .hbm => 9
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S8x512x1024, .bf16⟩
  | .hbm, ⟨3, _⟩ => ⟨S4096x1024, .bf16⟩
  | .hbm, ⟨4, _⟩ => ⟨S4096x4096, .bf16⟩
  | .hbm, ⟨5, _⟩ => ⟨S4096x1024, .bf16⟩
  | .hbm, ⟨6, _⟩ => ⟨S4096x4096, .bf16⟩
  | .hbm, ⟨7, _⟩ => ⟨S8x512x1024, .bf16⟩
  | .hbm, ⟨8, _⟩ => ⟨S8x1024x512, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | .local _ .vmem, ⟨5, _⟩ => ⟨S512x4096, .bf16⟩
  | .local _ .vmem, ⟨6, _⟩ => ⟨S512x4096, .bf16⟩
  | .local _ .vmem, ⟨7, _⟩ => ⟨S8x512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S4096x512, .bf16⟩
  | .local _ .vmem, ⟨19, _⟩ => ⟨S4096x512, .bf16⟩
  | .local _ .vmem, ⟨20, _⟩ => ⟨S4096x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S4096x1024, .bf16⟩
  | .local _ .vmem, ⟨24, _⟩ => ⟨S4096x512, .bf16⟩
  | .local _ .vmem, ⟨25, _⟩ => ⟨S4096x512, .bf16⟩
  | .local _ .vmem, ⟨26, _⟩ => ⟨S1x1024x512, .bf16⟩
  | .local _ .vmem, ⟨27, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false, true]

abbrev stage3_2 : Fin 2 → Memref sig .tc .vmem S1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage4_0 : Fin 1 → Memref sig .tc .vmem S4096x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]
-- ==== MlpReferenceIdeal.lean ====
abbrev S4096x1024 : Shape := ⟨2, ![4096, 1024]⟩
abbrev S8x1024x512 : Shape := ⟨3, ![8, 1024, 512]⟩
abbrev S8x512x1024 : Shape := ⟨3, ![8, 512, 1024]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S8x512x1024, .bf16⟩
  | .hbm, ⟨3, _⟩ => ⟨S4096x1024, .bf16⟩
  | .hbm, ⟨4, _⟩ => ⟨S4096x1024, .f32⟩
  | .hbm, ⟨5, _⟩ => ⟨S8x1024x512, .f32⟩
  | .hbm, ⟨6, _⟩ => ⟨S8x512x1024, .f32⟩
  | .hbm, ⟨7, _⟩ => ⟨S4096x1024, .f32⟩
  | .hbm, ⟨8, _⟩ => ⟨S1024x8x512, .f32⟩
  | .hbm, ⟨9, _⟩ => ⟨S1024x4096, .f32⟩
  | .hbm, ⟨10, _⟩ => ⟨S4096x1024, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S1024x4096, .f32⟩
  | .hbm, ⟨26, _⟩ => ⟨S4096x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x1024, .f32⟩
  | .hbm, ⟨33, _⟩ => ⟨S1024x4096, .f32⟩
  | .hbm, ⟨34, _⟩ => ⟨S8x512x1024, .f32⟩
  | .hbm, ⟨35, _⟩ => ⟨S1024x8x512, .f32⟩
  | .hbm, ⟨36, _⟩ => ⟨S8x1024x512, .f32⟩
  | .hbm, ⟨37, _⟩ => ⟨S4096x1024, .bf16⟩
  | .hbm, ⟨38, _⟩ => ⟨S8x1024x512, .bf16⟩
  | .hbm, ⟨39, _⟩ => ⟨S8x512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proj.lean ====
abbrev S4096x1024 : Shape := ⟨2, ![4096, 1024]⟩
abbrev S8x1024x768 : Shape := ⟨3, ![8, 1024, 768]⟩
abbrev S4096x2048 : Shape := ⟨2, ![4096, 2048]⟩
abbrev S2048x1024 : Shape := ⟨2, ![2048, 1024]⟩
abbrev S4096x6144 : Shape := ⟨2, ![4096, 6144]⟩
abbrev S1x1024x768 : Shape := ⟨3, ![1, 1024, 768]⟩
abbrev S2048x768 : Shape := ⟨2, ![2048, 768]⟩
abbrev S1024x768 : Shape := ⟨2, ![1024, 768]⟩
abbrev S2048x2048 : Shape := ⟨2, ![2048, 2048]⟩
abbrev S2048x512 : Shape := ⟨2, ![2048, 512]⟩
abbrev S512x1024 : Shape := ⟨2, ![512, 1024]⟩
abbrev S4096x768 : Shape := ⟨2, ![4096, 768]⟩

abbrev nBuf : Space → Nat
  | .hbm => 10
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x2048, .bf16⟩
  | .hbm, ⟨3, _⟩ => ⟨S2048x1024, .bf16⟩
  | .hbm, ⟨4, _⟩ => ⟨S4096x6144, .bf16⟩
  | .hbm, ⟨5, _⟩ => ⟨S4096x1024, .bf16⟩
  | .hbm, ⟨6, _⟩ => ⟨S4096x6144, .bf16⟩
  | .hbm, ⟨7, _⟩ => ⟨S4096x1024, .bf16⟩
  | .hbm, ⟨8, _⟩ => ⟨S4096x2048, .bf16⟩
  | .hbm, ⟨9, _⟩ => ⟨S8x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | .local _ .vmem, ⟨6, _⟩ => ⟨S2048x2048, .bf16⟩
  | .local _ .vmem, ⟨7, _⟩ => ⟨S2048x2048, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x1024, .bf16⟩
  | .local _ .vmem, ⟨13, _⟩ => ⟨S2048x1024, .bf16⟩
  | .local _ .vmem, ⟨14, _⟩ => ⟨S512x1024, .bf16⟩
  | .local _ .vmem, ⟨15, _⟩ => ⟨S512x1024, .bf16⟩
  | .local _ .vmem, ⟨16, _⟩ => ⟨S2048x512, .bf16⟩
  | .local _ .vmem, ⟨17, _⟩ => ⟨S2048x512, .bf16⟩
  | .local _ .vmem, ⟨18, _⟩ => ⟨S4096x1024, .bf16⟩
  | .local _ .vmem, ⟨19, _⟩ => ⟨S4096x768, .bf16⟩
  | .local _ .vmem, ⟨20, _⟩ => ⟨S4096x768, .bf16⟩
  | .local _ .vmem, ⟨21, _⟩ => ⟨S1x1024x768, .bf16⟩
  | .local _ .vmem, ⟨22, _⟩ => ⟨S1x1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false, true]

abbrev stage3_1 : Fin 2 → Memref sig .tc .vmem S4096x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]
-- ==== ProjReferenceIdeal.lean ====
abbrev S4096x1024 : Shape := ⟨2, ![4096, 1024]⟩
abbrev S8x1024x768 : Shape := ⟨3, ![8, 1024, 768]⟩
abbrev S4096x2048 : Shape := ⟨2, ![4096, 2048]⟩
abbrev S2048x1024 : Shape := ⟨2, ![2048, 1024]⟩
abbrev S4096x6144 : Shape := ⟨2, ![4096, 6144]⟩
abbrev S1024x8x768 : Shape := ⟨3, ![1024, 8, 768]⟩
abbrev S1024x6144 : Shape := ⟨2, ![1024, 6144]⟩
abbrev S6144x1024 : Shape := ⟨2, ![6144, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x768, .bf16⟩
  | .hbm, ⟨2, _⟩ => ⟨S4096x2048, .bf16⟩
  | .hbm, ⟨3, _⟩ => ⟨S2048x1024, .bf16⟩
  | .hbm, ⟨4, _⟩ => ⟨S4096x6144, .bf16⟩
  | .hbm, ⟨5, _⟩ => ⟨S4096x1024, .bf16⟩
  | .hbm, ⟨6, _⟩ => ⟨S4096x1024, .f32⟩
  | .hbm, ⟨7, _⟩ => ⟨S8x1024x768, .f32⟩
  | .hbm, ⟨8, _⟩ => ⟨S4096x2048, .f32⟩
  | .hbm, ⟨9, _⟩ => ⟨S2048x1024, .f32⟩
  | .hbm, ⟨10, _⟩ => ⟨S4096x6144, .f32⟩
  | .hbm, ⟨11, _⟩ => ⟨S4096x1024, .f32⟩
  | .hbm, ⟨12, _⟩ => ⟨S1024x8x768, .f32⟩
  | .hbm, ⟨13, _⟩ => ⟨S1024x6144, .f32⟩
  | .hbm, ⟨14, _⟩ => ⟨S4096x6144, .f32⟩
  | .hbm, ⟨15, _⟩ => ⟨S4096x1024, .f32⟩
  | .hbm, ⟨16, _⟩ => ⟨S4096x2048, .f32⟩
  | .hbm, ⟨17, _⟩ => ⟨S6144x1024, .f32⟩
  | .hbm, ⟨18, _⟩ => ⟨S1024x6144, .f32⟩
  | .hbm, ⟨19, _⟩ => ⟨S1024x8x768, .f32⟩
  | .hbm, ⟨20, _⟩ => ⟨S8x1024x768, .f32⟩
  | .hbm, ⟨21, _⟩ => ⟨S4096x6144, .bf16⟩
  | .hbm, ⟨22, _⟩ => ⟨S4096x1024, .bf16⟩
  | .hbm, ⟨23, _⟩ => ⟨S8x1024x768, .bf16⟩
  | .hbm, ⟨24, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MlpDu.lean ====
abbrev S4096x4096 : Shape := ⟨2, ![4096, 4096]⟩
abbrev S8x1024x512 : Shape := ⟨3, ![8, 1024, 512]⟩
abbrev S4096x1024 : Shape := ⟨2, ![4096, 1024]⟩
abbrev S512x4096 : Shape := ⟨2, ![512, 4096]⟩
abbrev S512x1024 : Shape := ⟨2, ![512, 1024]⟩
abbrev S1024x4096 : Shape := ⟨2, ![1024, 4096]⟩
abbrev S8 : Shape := ⟨1, ![8]⟩
abbrev S1 : Shape := ⟨1, ![1]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S1024x4096, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MlpDuReferenceIdeal.lean ====
abbrev S4096x4096 : Shape := ⟨2, ![4096, 4096]⟩
abbrev S8x1024x512 : Shape := ⟨3, ![8, 1024, 512]⟩
abbrev S_ : Shape := ⟨0, ![]⟩
abbrev S4096x1024 : Shape := ⟨2, ![4096, 1024]⟩
abbrev S1024x8x512 : Shape := ⟨3, ![1024, 8, 512]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S_, .f32⟩
  | .hbm, ⟨3, _⟩ => ⟨S4096x1024, .f32⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== RetDu.lean ====
abbrev S4096x6144 : Shape := ⟨2, ![4096, 6144]⟩
abbrev S8x1024x768 : Shape := ⟨3, ![8, 1024, 768]⟩
abbrev S4096x1024 : Shape := ⟨2, ![4096, 1024]⟩
abbrev S512x6144 : Shape := ⟨2, ![512, 6144]⟩
abbrev S512x1024 : Shape := ⟨2, ![512, 1024]⟩
abbrev S1024x6144 : Shape := ⟨2, ![1024, 6144]⟩
abbrev S8 : Shape := ⟨1, ![8]⟩
abbrev S1 : Shape := ⟨1, ![1]⟩
abbrev S_ : Shape := ⟨0, ![]⟩
abbrev S1024x768 : Shape := ⟨2, ![1024, 768]⟩
abbrev S1x1024x768 : Shape := ⟨3, ![1, 1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .bf16⟩
  | .local _ .vmem, ⟨0, _⟩ => ⟨S512x6144, .bf16⟩
  | .local _ .vmem, ⟨1, _⟩ => ⟨S512x6144, .bf16⟩
  | .local _ .vmem, ⟨2, _⟩ => ⟨S512x1024, .bf16⟩
  | .local _ .vmem, ⟨3, _⟩ => ⟨S512x1024, .bf16⟩
  | .local _ .vmem, ⟨4, _⟩ => ⟨S1024x6144, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RetDuReferenceIdeal.lean ====
abbrev S4096x6144 : Shape := ⟨2, ![4096, 6144]⟩
abbrev S8x1024x768 : Shape := ⟨3, ![8, 1024, 768]⟩
abbrev S_ : Shape := ⟨0, ![]⟩
abbrev S4096x1024 : Shape := ⟨2, ![4096, 1024]⟩
abbrev S1024x8x768 : Shape := ⟨3, ![1024, 8, 768]⟩
abbrev S1024x6144 : Shape := ⟨2, ![1024, 6144]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S_, .f32⟩
  | .hbm, ⟨3, _⟩ => ⟨S4096x1024, .f32⟩
  | .hbm, ⟨4, _⟩ => ⟨S8x1024x768, .f32⟩
  | .hbm, ⟨5, _⟩ => ⟨S1024x8x768, .f32⟩
  | .hbm, ⟨6, _⟩ => ⟨S1024x6144, .f32⟩
  | .hbm, ⟨7, _⟩ => ⟨S4096x6144, .f32⟩
  | .hbm, ⟨8, _⟩ => ⟨S4096x6144, .f32⟩
  | .hbm, ⟨9, _⟩ => ⟨S4096x1024, .f32⟩
  | .hbm, ⟨10, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== RetDwout.lean ====
abbrev S4096x2048 : Shape := ⟨2, ![4096, 2048]⟩
abbrev S4096x1024 : Shape := ⟨2, ![4096, 1024]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RetDwoutReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Ret.Fwd.lean ====
/- The forward call: it runs over the 32 chunks in order and carries the state in scratch.
   Here, at any buffer contents `V` on entry: what the body leaves at each grid point, the
   invariant between points (the carried scratch at what the point before left), and the proof that the body keeps it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One staging buffer of output window 7, through which its contents are stated. -/
abbrev VO0_7 : View sig .tc .vmem S128x2048 .f32 := (Memref.whole cc0_stg7_0 : Memref sig .tc .vmem S128x2048 .f32).view
/-- One staging buffer of output window 8, through which its contents are stated. -/
abbrev VO0_8 : View sig .tc .vmem S4x1x256x512 .bf16 := (Memref.whole cc0_stg8_0 : Memref sig .tc .vmem S4x1x256x512 .bf16).view
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1x256x512 .bf16 := win0_8.stage (cfg0.slots t 8)
abbrev hs0_8 (t : Fin cfg0.N) : (ms0_8 t).IsWhole := hstage0_8 ((cfg0.slots t 8).cast nbuf0_8)

/-- The carried scratch. -/
abbrev scM0_0 : Memref sig .tc .vmem S4x256x512 .f32 := Memref.whole cc0_scratch0
abbrev VS0_0 : View sig .tc .vmem S4x256x512 .f32 := scM0_0.view

/-- Whether the body is at the first point: there it zeroes the scratch. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 := by
  have h : ∀ t : Fin grid0.N, cond0_0 (grid0.coords t) ↔ t.val = 0 := fun t => by
    have ht : t.val < 32 := Nat.lt_of_lt_of_eq t.isLt N_0
    have e0 : (grid0.coords t 0).val = t.val / 1 % 32 := Pipeline.Grid.coords_val t 0 (by decide) rfl
    simp only [cond0_0, e0]
    word_cmp
  exact h

/-! ## The body's run, at the first point (A) and at a later one (B) -/

set_option maxHeartbeats 1000000 in
/-- The body at the first point, the scratch at anything: the pieces its stores leave in each output and in the scratch, found by the run. -/
noncomputable def kernelRun0_A (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S4x128x128 .f32) (harg4 : arg4.IsWhole) (arg5 : Memref sig .tc .vmem S4x128x256 .f32) (harg5 : arg5.IsWhole) (arg6 : Memref sig .tc .vmem S4x128x256 .f32) (harg6 : arg6.IsWhole) (arg7 : Memref sig .tc .vmem S4x1x512 .f32) (harg7 : arg7.IsWhole) (arg8 : Memref sig .tc .vmem S128x2048 .f32) (harg8 : arg8.IsWhole) (arg9 : Memref sig .tc .vmem S4x1x256x512 .bf16) (harg9 : arg9.IsWhole) (arg10 : Memref sig .tc .vmem S4x256x512 .f32) (harg10 : arg10.IsWhole) (hc0 : cond0_0 i)
    (x0 : Vec F S128x1024 .bf16) (x1 : Vec F S128x1024 .bf16) (x2 : Vec F S128x2048 .bf16) (x3 : Vec F S4x128x128 .f32) (x4 : Vec F S4x128x256 .f32) (x5 : Vec F S4x128x256 .f32) (x6 : Vec F S4x1x512 .f32) :
    Σ' (L7 : List (View.Piece (Elt F) S128x2048 .f32)), Σ' (L8 : List (View.Piece (Elt F) S4x1x256x512 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc0_ret_fwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

set_option maxHeartbeats 1000000 in
/-- The body at a later point, the scratch at `xs0`. -/
noncomputable def kernelRun0_B (c : Dev nD) (i : grid0.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S4x128x128 .f32) (harg4 : arg4.IsWhole) (arg5 : Memref sig .tc .vmem S4x128x256 .f32) (harg5 : arg5.IsWhole) (arg6 : Memref sig .tc .vmem S4x128x256 .f32) (harg6 : arg6.IsWhole) (arg7 : Memref sig .tc .vmem S4x1x512 .f32) (harg7 : arg7.IsWhole) (arg8 : Memref sig .tc .vmem S128x2048 .f32) (harg8 : arg8.IsWhole) (arg9 : Memref sig .tc .vmem S4x1x256x512 .bf16) (harg9 : arg9.IsWhole) (arg10 : Memref sig .tc .vmem S4x256x512 .f32) (harg10 : arg10.IsWhole) (hc0 : ¬cond0_0 i)
    (x0 : Vec F S128x1024 .bf16) (x1 : Vec F S128x1024 .bf16) (x2 : Vec F S128x2048 .bf16) (x3 : Vec F S4x128x128 .f32) (x4 : Vec F S4x128x256 .f32) (x5 : Vec F S4x128x256 .f32) (x6 : Vec F S4x1x512 .f32) (xs0 : Vec F S4x256x512 .f32) :
    Σ' (L7 : List (View.Piece (Elt F) S128x2048 .f32)), Σ' (L8 : List (View.Piece (Elt F) S4x1x256x512 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0)) -∗ K ⟨⟩))
          ⊢ wp frame (wpE (defs₀ (F := F)) Variants.none c none) E (cc0_ret_fwd i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS0

/-- The run at point 0 on the point's own buffers and blocks, -/
abbrev runA0 (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h) (iblk0 V c 0 t) (iblk0 V c 1 t) (iblk0 V c 2 t) (iblk0 V c 3 t) (iblk0 V c 4 t) (iblk0 V c 5 t) (iblk0 V c 6 t)
/-- and at a later point. -/
abbrev runB0 (c : Dev nD) (t : Fin cfg0.N) (h : ¬t.val = 0) (xs : Vec F S4x256x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun e => h ((hcond0_0 t).mp e)) (iblk0 V c 0 t) (iblk0 V c 1 t) (iblk0 V c 2 t) (iblk0 V c 3 t) (iblk0 V c 4 t) (iblk0 V c 5 t) (iblk0 V c 6 t) xs

theorem coverA0_7 (c : Dev nD) (t : Fin cfg0.N) (h : t.val = 0) (y : S128x2048.Idx) :
    ∃ pc ∈ (runA0 V c t h).1, y ∈ pc.1.set :=
  View.cover_of_tiledL (runA0 V c t h).1 S128x512.size (by sl_kernel_rfl) y
theorem coverA0_8 (c : Dev nD) (t : Fin cfg0.N) (h : t.val = 0) (y : S4x1x256x512.Idx) :
    ∃ pc ∈ (runA0 V c t h).2.1, y ∈ pc.1.set :=
  View.cover_of_tiledL (runA0 V c t h).2.1 S1x1x256x512.size (by sl_kernel_rfl) y
theorem scoverA0 (c : Dev nD) (t : Fin cfg0.N) (h : t.val = 0) (y : S4x256x512.Idx) :
    ∃ pc ∈ (runA0 V c t h).2.2.1, y ∈ pc.1.set :=
  View.cover_of_wholeMem (runA0 V c t h).2.2.1 (by sl_whole_mem) y

/-- What the body leaves at such a point: the outputs' buffers, then the scratch. -/
def outA0 (c : Dev nD) (t : Fin cfg0.N) (h : t.val = 0) : Vec F S128x2048 .f32 × Vec F S4x1x256x512 .bf16 × Vec F S4x256x512 .f32 :=
  (VO0_7.read (Elt F) (VO0_7.writes (Elt F) VO0_7.junk (runA0 V c t h).1), VO0_8.read (Elt F) (VO0_8.writes (Elt F) VO0_8.junk (runA0 V c t h).2.1), VS0_0.read (Elt F) (VS0_0.writes (Elt F) VS0_0.junk (runA0 V c t h).2.2.1))

theorem coverB0_7 (c : Dev nD) (t : Fin cfg0.N) (h : ¬t.val = 0) (xs : Vec F S4x256x512 .f32) (y : S128x2048.Idx) :
    ∃ pc ∈ (runB0 V c t h xs).1, y ∈ pc.1.set :=
  View.cover_of_tiledL (runB0 V c t h xs).1 S128x512.size (by sl_kernel_rfl) y
theorem coverB0_8 (c : Dev nD) (t : Fin cfg0.N) (h : ¬t.val = 0) (xs : Vec F S4x256x512 .f32) (y : S4x1x256x512.Idx) :
    ∃ pc ∈ (runB0 V c t h xs).2.1, y ∈ pc.1.set :=
  View.cover_of_tiledL (runB0 V c t h xs).2.1 S1x1x256x512.size (by sl_kernel_rfl) y
theorem scoverB0 (c : Dev nD) (t : Fin cfg0.N) (h : ¬t.val = 0) (xs : Vec F S4x256x512 .f32) (y : S4x256x512.Idx) :
    ∃ pc ∈ (runB0 V c t h xs).2.2.1, y ∈ pc.1.set :=
  View.cover_of_tiledL (runB0 V c t h xs).2.2.1 S1x256x512.size (by sl_kernel_rfl) y

/-- What the body leaves at such a point: the outputs' buffers, then the scratch. -/
def outB0 (c : Dev nD) (t : Fin cfg0.N) (h : ¬t.val = 0) (xs : Vec F S4x256x512 .f32) : Vec F S128x2048 .f32 × Vec F S4x1x256x512 .bf16 × Vec F S4x256x512 .f32 :=
  (VO0_7.read (Elt F) (VO0_7.writes (Elt F) VO0_7.junk (runB0 V c t h xs).1), VO0_8.read (Elt F) (VO0_8.writes (Elt F) VO0_8.junk (runB0 V c t h xs).2.1), VS0_0.read (Elt F) (VS0_0.writes (Elt F) VS0_0.junk (runB0 V c t h xs).2.2.1))

/-- What the outputs' buffers and the scratch hold after point `n`. -/
def outsAt0 (c : Dev nD) : (n : ℕ) → n < cfg0.N → Vec F S128x2048 .f32 × Vec F S4x1x256x512 .bf16 × Vec F S4x256x512 .f32
  | 0, hn => outA0 V c ⟨0, hn⟩ rfl
  | n + 1, hn => outB0 V c ⟨n + 1, hn⟩ (Nat.succ_ne_zero n) (outsAt0 c n (Nat.lt_of_succ_lt hn)).2.2

theorem outsAt0_A (c : Dev nD) (t : Fin cfg0.N) (h : t.val = 0) : outsAt0 V c t.val t.isLt = outA0 V c t h := by
  obtain ⟨n, hn⟩ := t; dsimp only at h; subst h; rfl
theorem outsAt0_B (c : Dev nD) (t : Fin cfg0.N) (h : ¬t.val = 0) :
    outsAt0 V c t.val t.isLt = outB0 V c t h (outsAt0 V c (t.val - 1) (Nat.lt_of_le_of_lt (Nat.sub_le _ _) t.isLt)).2.2 := by
  obtain ⟨n, hn⟩ := t
  cases n with
  | zero => exact absurd rfl h
  | succ n => rfl

/-! ## The invariant between points -/

/-- A buffer this call leaves alone, at some contents. -/
abbrev someAt (c : Dev nD) (b : Ref sig .tc) : sProp 𝕄 :=
  iprop(∃ f : Buf (Elt F) ((c : Thread nD τ).loc b), ((c : Thread nD τ).loc b) ↦{fullShare} f)

/-- The staging and scratch buffers of the other call, each at some contents. -/
def rest0 (c : Dev nD) : sProp 𝕄 := iprop(someAt c cc1_stg0_0 ∗ someAt c cc1_stg0_1 ∗ someAt c cc1_stg1_0 ∗ someAt c cc1_stg1_1 ∗ someAt c cc1_stg2_0 ∗ someAt c cc1_stg2_1 ∗ someAt c cc1_stg3_0 ∗ someAt c cc1_stg3_1 ∗ someAt c cc1_stg4_0 ∗ someAt c cc1_stg4_1 ∗ someAt c cc1_stg5_0 ∗ someAt c cc1_stg6_0 ∗ someAt c cc1_stg7_0 ∗ someAt c cc1_stg8_0 ∗ someAt c cc1_stg9_0 ∗ someAt c cc1_stg9_1 ∗ someAt c cc1_stg10_0 ∗ someAt c cc1_stg10_1 ∗ someAt c cc1_stg11_0 ∗ someAt c cc1_stg11_1 ∗ someAt c cc1_scratch0)

/-- Before the first point the scoped buffers are the other call's and the scratch, at anything. -/
theorem PhiA0_iff (c : Dev nD) : (Pipeline.ΦA spec0 c : sProp 𝕄) =
    iprop(iprop((∃ d, owns (c : Thread nD τ) scM0_0 fullShare d) ∗ someAt c cc1_stg0_0 ∗ someAt c cc1_stg0_1 ∗ someAt c cc1_stg1_0 ∗ someAt c cc1_stg1_1 ∗ someAt c cc1_stg2_0 ∗ someAt c cc1_stg2_1 ∗ someAt c cc1_stg3_0 ∗ someAt c cc1_stg3_1 ∗ someAt c cc1_stg4_0 ∗ someAt c cc1_stg4_1 ∗ someAt c cc1_stg5_0 ∗ someAt c cc1_stg6_0 ∗ someAt c cc1_stg7_0 ∗ someAt c cc1_stg8_0 ∗ someAt c cc1_stg9_0 ∗ someAt c cc1_stg9_1 ∗ someAt c cc1_stg10_0 ∗ someAt c cc1_stg10_1 ∗ someAt c cc1_stg11_0 ∗ someAt c cc1_stg11_1 ∗ someAt c cc1_scratch0) ∗ (∃ r, prngReg c r)) := by
  unfold Pipeline.ΦA; rw [scopedRest0_eq]; simp only [scM0_0, owns_whole]; try rfl

theorem PhiA0_open (c : Dev nD) : (Pipeline.ΦA spec0 c : sProp 𝕄) ⊢
    iprop((rest0 c ∗ (∃ d, owns (c : Thread nD τ) scM0_0 fullShare d)) ∗ (∃ r, prngReg c r)) := by
  rw [PhiA0_iff]; unfold rest0
  iintro ⟨⟨S, R0, R1, R2, R3, R4, R5, R6, R7, R8, R9, R10, R11, R12, R13, R14, R15, R16, R17, R18, R19, R20⟩, G⟩
  isplitr [G]
  · isplitr [S]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      iexact R20
    iexact S
  iexact G
theorem PhiA0_close (c : Dev nD) : iprop((rest0 c ∗ (∃ d, owns (c : Thread nD τ) scM0_0 fullShare d)) ∗ (∃ r, prngReg c r)) ⊢
    (Pipeline.ΦA spec0 c : sProp 𝕄) := by
  rw [PhiA0_iff]; unfold rest0
  iintro ⟨⟨⟨R0, R1, R2, R3, R4, R5, R6, R7, R8, R9, R10, R11, R12, R13, R14, R15, R16, R17, R18, R19, R20⟩, S⟩, G⟩
  isplitr [G]
  · isplitl [S]; · iexact S
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact R20
  iexact G

/-- Before point `n`: the scratch at what point `n - 1` left; before the first point at anything. -/
def PhiS0 (c : Dev nD) : (n : ℕ) → n ≤ cfg0.N → sProp 𝕄
  | 0, _ => Pipeline.ΦA spec0 c
  | n + 1, hn => iprop((rest0 c ∗ owns (c : Thread nD τ) scM0_0 fullShare (outsAt0 V c n hn).2.2) ∗ (∃ r, prngReg c r))
theorem PhiS0_zero (c : Dev nD) (n : ℕ) (h : n ≤ cfg0.N) (hz : n = 0) : PhiS0 V c n h = Pipeline.ΦA spec0 c := by
  subst hz; rfl
theorem PhiS0_pos (c : Dev nD) (n : ℕ) (h : n ≤ cfg0.N) (hz : ¬n = 0) :
    PhiS0 V c n h = iprop((rest0 c ∗ owns (c : Thread nD τ) scM0_0 fullShare (outsAt0 V c (n - 1) (by omega)).2.2) ∗ (∃ r, prngReg c r)) := by
  cases n with
  | zero => exact absurd rfl hz
  | succ n => rfl

/-! ## The proof data and the body obligation -/

/-- The arrays as the call finds them; after point `t` each input's buffer at its block, the outputs' at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]

/-! Each input's buffer holds its block at every point, fetched there or kept from the point before. -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 6400000 in
/-- The body keeps the invariant at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8]
  rw [show (dat0 V c).Φ t.succ = iprop((rest0 c ∗ owns (c : Thread nD τ) scM0_0 fullShare (outsAt0 V c t.val t.isLt).2.2) ∗ (∃ r, prngReg c r)) from rfl,
    Phi0_castSucc V c t]
  by_cases h : t.val = 0
  · rw [PhiS0_zero V c _ _ h, outsAt0_A V c t h]
    unfold outA0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ := PhiA0_open c $$ HΦ
    icases HΦ with ⟨⟨HR, HS⟩, Hg⟩
    iapply ((runA0 V c t h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, ⟨%es, HS⟩⟩
    isplitl [HR HS Hg]
    · isplitl [HR HS]
      · isplitl [HR]; · iexact HR
        unfold owns; iexists _; isplitr
        swap; · iexact HS
        ipureintro; exact View.read_writes_of_cover _ _ _ _ _ (scoverA0 V c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA0_7 V c t h)
    unfold owns; iexists _; isplitr
    swap; · iexact H8
    ipureintro; exact View.read_writes_of_cover _ _ _ _ _ (coverA0_8 V c t h)
  · rw [PhiS0_pos V c _ _ h, outsAt0_B V c t h]
    unfold outB0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩

    icases HΦ with ⟨⟨HR, HS⟩, Hg⟩
    iapply ((runB0 V c t h _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, ⟨%es, HS⟩⟩
    isplitl [HR HS Hg]
    · isplitl [HR HS]
      · isplitl [HR]; · iexact HR
        unfold owns; iexists _; isplitr
        swap; · iexact HS
        ipureintro; exact View.read_writes_of_cover _ _ _ _ _ (scoverB0 V c t h _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB0_7 V c t h _)
    unfold owns; iexists _; isplitr
    swap; · iexact H8
    ipureintro; exact View.read_writes_of_cover _ _ _ _ _ (coverB0_8 V c t h _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the scratch's contents are forgotten. -/
theorem Phi0_last (c : Dev nD) : (dat0 V c).Φ (Fin.last cfg0.N) ⊢ Pipeline.ΦA spec0 c := by
  have hN : cfg0.N = 32 := N_0
  rw [show (dat0 V c).Φ (Fin.last cfg0.N) = PhiS0 V c cfg0.N le_rfl from rfl, PhiS0_pos V c _ _ (by omega)]
  iintro ⟨⟨HR, HS⟩, Hg⟩
  iapply PhiA0_close c
  isplitl [HR HS]
  · isplitl [HR]; · iexact HR
    iexists _; iexact HS
  iexact Hg

end Cert.KernelIdeal.Ret

end
-- ==== Proof.Ret.Model.lean ====
/- The retention and its gradients as formulas over the reals: the decay tables, the state entering each chunk as a sum
   over the chunks before it, and the proof that this sum obeys the recurrence the kernel runs. -/
module

public import Idealize.ShloMosaic.PureOps.Ideal.Laws
public import Idealize.ShloMosaic.Lib.IdealHost

@[expose] public section

noncomputable section

namespace Cert.Ret

open Idealize.ShloMosaic
open scoped BigOperators

/-- Column `d` of head `h` of q and k. -/
abbrev hq (h : Fin 4) (d : Fin 256) : Fin 1024 := ⟨256 * h.val + d.val, by omega⟩
/-- Column `e` of head `h` of v and of the output's gradient. -/
abbrev hv (h : Fin 4) (e : Fin 512) : Fin 2048 := ⟨512 * h.val + e.val, by omega⟩
/-- Row `r` of chunk `n`. -/
abbrev row (n : Fin 32) (r : Fin 128) : Fin 4096 := ⟨128 * n.val + r.val, by omega⟩

/-! ## The decay tables -/

/-- A position as a value. -/
abbrev num (n : ℕ) : EReal := FloatOps.sitofp (F := Ideal) .f32 (BitVec.ofNat 32 n)
/-- The logarithm of head `h`'s decay. -/
def lg (h : ℕ) : EReal :=
  Ideal.log1p (-Ideal.exp (Ideal.ofBits .f32 1060205080#32 * (Ideal.ofBits .f32 3231711232#32 - num h)))
/-- The decay from position `s` to position `r` of one chunk, zero where `s` comes after `r`. -/
def tM (h : ℕ) (r s : ℕ) : EReal := if (0 : EReal) ≤ num r - num s then Ideal.exp (lg h * max (num r - num s) 0) else 0
/-- The decay from the start of the chunk to its position `r`. -/
def tQ (h r : ℕ) : EReal := Ideal.exp (lg h * (num r + 1))
/-- The decay from position `r` to the end of the chunk. -/
def tK (h r : ℕ) : EReal := Ideal.exp (lg h * (Ideal.ofBits .f32 1123942400#32 - num r))
/-- The decay across one chunk. -/
def tC (h : ℕ) : EReal := Ideal.exp (lg h * Ideal.ofBits .f32 1124073472#32)
/-- The decay across the chunks strictly between `m` and `n`, zero unless `m` comes before `n`. -/
def carry (h n m : ℕ) : EReal :=
  if (0 : EReal) ≤ num n - num m - 1 then
    Ideal.exp (lg h * (Ideal.ofBits .f32 1124073472#32 * max (num n - num m - 1) 0)) else 0

theorem num_eq {n : ℕ} (h : n < 2 ^ 31) : num n = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e, Int.cast_natCast]

theorem w128 : Ideal.ofBits .f32 1124073472#32 = ((128 : ℝ) : EReal) := by
  simp [Ideal.ofBits, Ideal.ieee, -EReal.coe_mul]; norm_num

theorem wNeg5 : Ideal.ofBits .f32 3231711232#32 = ((-5 : ℝ) : EReal) := by
  simp [Ideal.ofBits, Ideal.ieee, -EReal.coe_mul, -EReal.coe_neg]; norm_num

theorem wLog2 : ∃ a : ℝ, 0 < a ∧ Ideal.ofBits .f32 1060205080#32 = (a : EReal) := by
  refine ⟨(2 ^ 23 + 3240472 : ℝ) * 2 ^ (-24 : ℤ), by positivity, ?_⟩
  simp [Ideal.ofBits, Ideal.ieee, -EReal.coe_mul]; norm_num

/-- The logarithm of a decay is a real number: the decay lies strictly between 0 and 1. -/
theorem lg_real {h : ℕ} (hh : h < 2 ^ 31) : ∃ l : ℝ, lg h = (l : EReal) := by
  obtain ⟨a, ha, e⟩ := wLog2
  unfold lg Ideal.log1p
  rw [e, wNeg5, num_eq hh, ← EReal.coe_sub, ← EReal.coe_mul, Ideal.exp_coe, ← EReal.coe_neg, ← EReal.coe_one, ← EReal.coe_add,
    Ideal.log_coe]
  have hneg : a * (-5 - (h : ℝ)) < 0 := mul_neg_of_pos_of_neg ha (by have : (0 : ℝ) ≤ h := Nat.cast_nonneg h; linarith)
  have : Real.exp (a * (-5 - (h : ℝ))) < 1 := by rw [← Real.exp_zero]; exact Real.exp_lt_exp.mpr hneg
  rw [if_neg (by linarith)]
  exact ⟨_, rfl⟩

/-- The decay across one chunk is a nonnegative real. -/
theorem tC_real {h : ℕ} (hh : h < 2 ^ 31) : ∃ g : ℝ, 0 ≤ g ∧ tC h = (g : EReal) := by
  obtain ⟨l, e⟩ := lg_real hh
  unfold tC
  rw [e, w128, ← EReal.coe_mul, Ideal.exp_coe]
  exact ⟨_, (Real.exp_pos _).le, rfl⟩

theorem gap_eq {n m : ℕ} (hn : n < 2 ^ 31) (hm : m < 2 ^ 31) : num n - num m - 1 = (((n : ℝ) - m - 1 : ℝ) : EReal) := by
  rw [num_eq hn, num_eq hm, ← EReal.coe_sub, ← EReal.coe_one, ← EReal.coe_sub]

theorem carry_of_le {h n m : ℕ} (hn : n < 2 ^ 31) (hm : m < 2 ^ 31) (hnm : n ≤ m) : carry h n m = 0 := by
  have : (n : ℝ) ≤ m := by exact_mod_cast hnm
  unfold carry
  refine if_neg ?_
  rw [gap_eq hn hm, ← EReal.coe_zero, EReal.coe_le_coe_iff]
  linarith

theorem carry_of_lt {h n m : ℕ} {l : ℝ} (hl : lg h = (l : EReal)) (hn : n < 2 ^ 31) (hm : m < 2 ^ 31) (hnm : m < n) :
    carry h n m = ((Real.exp (l * (128 * ((n : ℝ) - m - 1))) : ℝ) : EReal) := by
  have : (m : ℝ) + 1 ≤ n := by exact_mod_cast hnm
  have h0 : (0 : EReal) ≤ (((n : ℝ) - m - 1 : ℝ) : EReal) := by
    rw [← EReal.coe_zero, EReal.coe_le_coe_iff]; linarith
  unfold carry
  refine (if_pos (by rw [gap_eq hn hm]; exact h0)).trans ?_
  rw [gap_eq hn hm, max_eq_left h0, w128, hl, ← EReal.coe_mul, ← EReal.coe_mul, Ideal.exp_coe]

/-- One chunk further, the decay is one chunk's decay more. -/
theorem carry_mul {h n m : ℕ} (hh : h < 2 ^ 31) (hn : n + 1 < 2 ^ 31) (hm : m < 2 ^ 31) (hnm : m ≠ n) :
    carry h n m * tC h = carry h (n + 1) m := by
  obtain ⟨l, hl⟩ := lg_real hh
  rcases Nat.lt_or_ge m n with hlt | hge
  · rw [carry_of_lt hl (by omega) (by omega) hlt, carry_of_lt hl hn (by omega) (by omega)]
    unfold tC
    rw [hl, w128, ← EReal.coe_mul, Ideal.exp_coe, ← EReal.coe_mul, ← Real.exp_add]
    push_cast
    ring_nf
  · rw [carry_of_le (by omega) hm hge, carry_of_le hn hm (by omega), zero_mul]

/-- The chunk just passed has not decayed yet. -/
theorem carry_self_succ {h n : ℕ} (hh : h < 2 ^ 31) (hn : n + 1 < 2 ^ 31) : carry h (n + 1) n = 1 := by
  obtain ⟨l, hl⟩ := lg_real hh
  rw [carry_of_lt hl hn (by omega) (by omega)]
  push_cast
  simp

/-- The decay depends on the distance alone. -/
theorem carry_shift {h n m n' m' : ℕ} (hh : h < 2 ^ 31) (hn : n < 2 ^ 31) (hm : m < 2 ^ 31) (hn' : n' < 2 ^ 31) (hm' : m' < 2 ^ 31)
    (e : n + m' = n' + m) : carry h n m = carry h n' m' := by
  obtain ⟨l, hl⟩ := lg_real hh
  rcases Nat.lt_or_ge m n with hlt | hge
  · rw [carry_of_lt hl hn hm hlt, carry_of_lt hl hn' hm' (by omega)]
    have : (n : ℝ) + m' = n' + m := by exact_mod_cast e
    rw [show (n : ℝ) - m = n' - m' by linarith]
  · rw [carry_of_le hn hm hge, carry_of_le hn' hm' (by omega)]

/-! ## The sum over the earlier chunks, and the recurrence -/

/-- A nonnegative real factor goes into a sum of extended reals. -/
theorem sum_mul_real {ι : Type} (s : Finset ι) (f : ι → EReal) {g : ℝ} (hg : 0 ≤ g) :
    (∑ i ∈ s, f i) * (g : EReal) = ∑ i ∈ s, f i * (g : EReal) := by
  classical
  induction s using Finset.induction_on with
  | empty => simp
  | insert a s ha ih =>
    rw [Finset.sum_insert ha, Finset.sum_insert ha,
      EReal.right_distrib_of_nonneg_of_ne_top (by rw [← EReal.coe_zero, EReal.coe_le_coe_iff]; exact hg) (EReal.coe_ne_top g), ih]

/-- What the chunks before `n` have added, each decayed to the start of chunk `n`. -/
def past (h : ℕ) (U : Fin 32 → EReal) (n : ℕ) : EReal := ∑ m : Fin 32, U m * carry h n m.val

theorem past_zero (h : ℕ) (U : Fin 32 → EReal) : past h U 0 = 0 :=
  Finset.sum_eq_zero fun m _ => by rw [carry_of_le (by norm_num) (by omega) (Nat.zero_le _), mul_zero]

/-- The recurrence: a chunk decays what it finds and adds its own. -/
theorem past_succ {h : ℕ} (hh : h < 2 ^ 31) (U : Fin 32 → EReal) (n : Fin 32) :
    past h U (n.val + 1) = past h U n.val * tC h + U n := by
  obtain ⟨g, hg, e⟩ := tC_real hh
  unfold past
  rw [e, sum_mul_real _ _ hg]
  have hself : ∑ m : Fin 32, (if m = n then U m else 0) = U n := by simp
  rw [← hself, ← Finset.sum_add_distrib]
  refine Finset.sum_congr rfl fun m _ => ?_
  by_cases hm : m = n
  · subst hm
    rw [if_pos rfl, carry_self_succ hh (by omega), carry_of_le (by omega) (by omega) (Nat.le_refl _), mul_one, mul_zero, zero_mul, zero_add]
  · rw [if_neg hm, add_zero, mul_assoc, ← e, carry_mul hh (by omega) (by omega) (fun hh => hm (Fin.ext hh))]

/-- A sequence that starts from zero and follows the recurrence is the sum. -/
theorem past_of_rec {h : ℕ} (hh : h < 2 ^ 31) (U : Fin 32 → EReal) (s : (n : ℕ) → n < 32 → EReal)
    (h0 : s 0 (by norm_num) = 0 * tC h + U 0)
    (hs : ∀ (n : ℕ) (hn : n + 1 < 32), s (n + 1) hn = s n (by omega) * tC h + U ⟨n + 1, hn⟩) :
    ∀ (n : ℕ) (hn : n < 32), s n hn = past h U (n + 1) := by
  intro n
  induction n with
  | zero => intro hn; rw [h0, past_succ hh U ⟨0, hn⟩, past_zero]; rfl
  | succ n ih => intro hn; rw [hs n hn, ih (by omega), past_succ hh U ⟨n + 1, hn⟩]

/-! ## The results -/

variable (q k : Fin 4096 → Fin 1024 → EReal) (v g : Fin 4096 → Fin 2048 → EReal)

/-- What chunk `n` adds to the state. -/
def gU (h : Fin 4) (n : Fin 32) (d : Fin 256) (e : Fin 512) : EReal :=
  ∑ c : Fin 128, k (row n c) (hq h d) * tK h.val c.val * v (row n c) (hv h e)
/-- The state entering chunk `n`. -/
def gS (h : Fin 4) (n : Fin 32) (d : Fin 256) (e : Fin 512) : EReal := past h.val (fun m => gU k v h m d e) n.val
/-- The output. -/
def gO (n : Fin 32) (r : Fin 128) (h : Fin 4) (e : Fin 512) : EReal :=
  (∑ c : Fin 128, (∑ d : Fin 256, q (row n r) (hq h d) * k (row n c) (hq h d)) * tM h.val r.val c.val * v (row n c) (hv h e))
    + ∑ d : Fin 256, q (row n r) (hq h d) * tQ h.val r.val * gS k v h n d e
/-- What chunk `n` adds to the gradient of the state entering it. -/
def gW (h : Fin 4) (n : Fin 32) (d : Fin 256) (e : Fin 512) : EReal :=
  ∑ c : Fin 128, q (row n c) (hq h d) * tQ h.val c.val * g (row n c) (hv h e)
/-- The gradient of the state leaving chunk `n`: what the chunks after it have added. -/
def gT (h : Fin 4) (n : Fin 32) (d : Fin 256) (e : Fin 512) : EReal := ∑ n' : Fin 32, gW q g h n' d e * carry h.val n'.val n.val
/-- The gradient of q. -/
def gDQ (n : Fin 32) (r : Fin 128) (h : Fin 4) (d : Fin 256) : EReal :=
  (∑ c : Fin 128, (∑ e : Fin 512, g (row n r) (hv h e) * v (row n c) (hv h e)) * tM h.val r.val c.val * k (row n c) (hq h d))
    + tQ h.val r.val * ∑ e : Fin 512, g (row n r) (hv h e) * gS k v h n d e
/-- The gradient of k. -/
def gDK (n : Fin 32) (r : Fin 128) (h : Fin 4) (d : Fin 256) : EReal :=
  (∑ c : Fin 128, (∑ e : Fin 512, g (row n c) (hv h e) * v (row n r) (hv h e)) * tM h.val c.val r.val * q (row n c) (hq h d))
    + tK h.val r.val * ∑ e : Fin 512, v (row n r) (hv h e) * gT q g h n d e
/-- The gradient of v. -/
def gDV (n : Fin 32) (r : Fin 128) (h : Fin 4) (e : Fin 512) : EReal :=
  (∑ c : Fin 128, (∑ d : Fin 256, q (row n c) (hq h d) * k (row n r) (hq h d)) * tM h.val c.val r.val * g (row n c) (hv h e))
    + ∑ d : Fin 256, k (row n r) (hq h d) * tK h.val r.val * gT q g h n d e

/-- Counted from the last chunk backwards, the gradient of the state is a sum over the chunks already passed. -/
theorem gT_rev (h : Fin 4) (t : Fin 32) (d : Fin 256) (e : Fin 512) :
    gT q g h t.rev d e = past h.val (fun m => gW q g h m.rev d e) t.val := by
  unfold gT past
  rw [← Equiv.sum_comp Fin.revPerm]
  refine Finset.sum_congr rfl fun m _ => ?_
  rw [Fin.revPerm_apply]
  congr 1
  exact carry_shift (by omega) (by omega) (by omega) (by omega) (by omega) (by simp only [Fin.val_rev]; omega)

end Cert.Ret

end
-- ==== Proof.Ret.Vocab.lean ====
/- What the two calls compute of one chunk and one head, as sums over the chunk's rows and the head's columns. -/
module

public import proofs.«01_k».proof.Proof.Ret.Model
public import proofs.«01_k».proof.Proof.Gen.KernelIdeal
public import Idealize.ShloMosaic.Lib.Pointwise
public import Idealize.ShloMosaic.Lib.Pipeline.CanonAppend

@[expose] public section

noncomputable section

namespace Cert.KernelIdeal.Ret

open Idealize.ShloMosaic
open Cert.KernelIdeal
open scoped BigOperators

/-- Where the later stores already cover an index, the earlier ones play no part in what is read there. -/
theorem canon_append_left {S : Shape} {e : EltTy} {Val : EltTy → Type} [∀ e, Nonempty (Val e)] (L' : List (View.Piece Val S e)) :
    ∀ (L : List (View.Piece Val S e)) (y : S.Idx) (_ : ∃ p ∈ L, y ∈ p.1.set), View.canon (L ++ L') y = View.canon L y
  | [], _, h => by obtain ⟨p, hp, _⟩ := h; simp at hp
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine canon_append_left L' L y ?_
      obtain ⟨q, hq, hy⟩ := h
      rcases List.mem_cons.mp hq with rfl | hq'
      · exact absurd hy hm
      · exact ⟨q, hq', hy⟩

/-- The same for four later stores over one earlier store. -/
theorem canon_five {S : Shape} {e : EltTy} {Val : EltTy → Type} [∀ e, Nonempty (Val e)] (p₃ p₂ p₁ p₀ z : View.Piece Val S e) (y : S.Idx)
    (h : ∃ p ∈ [p₃, p₂, p₁, p₀], y ∈ p.1.set) : View.canon [p₃, p₂, p₁, p₀, z] y = View.canon [p₃, p₂, p₁, p₀] y :=
  canon_append_left [z] [p₃, p₂, p₁, p₀] y h

export Cert.Ret (hq hv row)

/-- The output at row `r`: the chunk's own keys under the decay mask `M`, and the state `S` entering the chunk under
    the query decay `Q`. -/
def Oblk (q k : FVec Ideal S128x1024 .bf16) (v : FVec Ideal S128x2048 .bf16) (M : FVec Ideal S4x128x128 .f32)
    (Q : FVec Ideal S4x128x256 .f32) (S : FVec Ideal S4x256x512 .f32) (h : Fin 4) (r : Fin 128) (e : Fin 512) : EReal :=
  (∑ c : Fin 128, (∑ d : Fin 256, q (ix2 r (hq h d)) * k (ix2 c (hq h d))) * M (ix3 h r c) * v (ix2 c (hv h e)))
    + ∑ d : Fin 256, q (ix2 r (hq h d)) * Q (ix3 h r d) * S (ix3 h d e)

/-- What the chunk adds to the state: its keys under the key decay `K`, against its values. -/
def Ublk (k : FVec Ideal S128x1024 .bf16) (v : FVec Ideal S128x2048 .bf16) (K : FVec Ideal S4x128x256 .f32)
    (h : Fin 4) (d : Fin 256) (e : Fin 512) : EReal :=
  ∑ c : Fin 128, k (ix2 c (hq h d)) * K (ix3 h c d) * v (ix2 c (hv h e))

/-- The gradient of q at row `r`, from the output's gradient `g` and the state `S` entering the chunk. -/
def DQblk (k : FVec Ideal S128x1024 .bf16) (v g : FVec Ideal S128x2048 .bf16) (S : FVec Ideal S4x1x256x512 .bf16)
    (M : FVec Ideal S4x128x128 .f32) (Q : FVec Ideal S4x128x256 .f32) (h : Fin 4) (r : Fin 128) (d : Fin 256) : EReal :=
  (∑ c : Fin 128, (∑ e : Fin 512, g (ix2 r (hv h e)) * v (ix2 c (hv h e))) * M (ix3 h r c) * k (ix2 c (hq h d)))
    + Q (ix3 h r d) * ∑ e : Fin 512, g (ix2 r (hv h e)) * S (ix4 h 0 d e)

/-- The gradient of k at row `r`, from the gradient `T` of the state leaving the chunk. -/
def DKblk (q : FVec Ideal S128x1024 .bf16) (v g : FVec Ideal S128x2048 .bf16) (M : FVec Ideal S4x128x128 .f32)
    (K : FVec Ideal S4x128x256 .f32) (T : FVec Ideal S4x256x512 .f32) (h : Fin 4) (r : Fin 128) (d : Fin 256) : EReal :=
  (∑ c : Fin 128, (∑ e : Fin 512, g (ix2 c (hv h e)) * v (ix2 r (hv h e))) * M (ix3 h c r) * q (ix2 c (hq h d)))
    + K (ix3 h r d) * ∑ e : Fin 512, v (ix2 r (hv h e)) * T (ix3 h d e)

/-- The gradient of v at row `r`, from the gradient `T` of the state leaving the chunk. -/
def DVblk (q k : FVec Ideal S128x1024 .bf16) (g : FVec Ideal S128x2048 .bf16) (M : FVec Ideal S4x128x128 .f32)
    (K : FVec Ideal S4x128x256 .f32) (T : FVec Ideal S4x256x512 .f32) (h : Fin 4) (r : Fin 128) (e : Fin 512) : EReal :=
  (∑ c : Fin 128, (∑ d : Fin 256, q (ix2 c (hq h d)) * k (ix2 r (hq h d))) * M (ix3 h c r) * g (ix2 c (hv h e)))
    + ∑ d : Fin 256, k (ix2 r (hq h d)) * K (ix3 h r d) * T (ix3 h d e)

/-- What the chunk adds to the gradient of the state entering it: its queries under the query decay `Q`, against the
    output's gradient. -/
def Wblk (q : FVec Ideal S128x1024 .bf16) (g : FVec Ideal S128x2048 .bf16) (Q : FVec Ideal S4x128x256 .f32)
    (h : Fin 4) (d : Fin 256) (e : Fin 512) : EReal :=
  ∑ c : Fin 128, q (ix2 c (hq h d)) * Q (ix3 h c d) * g (ix2 c (hv h e))

end Cert.KernelIdeal.Ret

end
-- ==== Proof.Ret.FwdBlk.lean ====
/- What the forward call's body leaves at a grid point, read at an index: at the first point, where the state is zero,
   and at a later one, where it is what the point before left. -/
module

public import proofs.«01_k».proof.Proof.Ret.Fwd
public import proofs.«01_k».proof.Proof.Ret.Vocab
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen
open scoped BigOperators

variable (V : (c : Dev nD) → (b : Ref sig .tc) → Buf (Elt Ideal) ((c : Thread nD τ).loc b))

section

attribute [local irreducible] iblk0
set_option maxHeartbeats 1000000

/-- At the first point: the output. -/
theorem outA0_o (c : Dev nD) (t : Fin cfg0.N) (h : t.val = 0) (r : Fin 128) (hd : Fin 4) (e : Fin 512) :
    (outA0 V c t h).1 (ix2 r (hv hd e)) = Oblk (iblk0 V c 0 t) (iblk0 V c 1 t) (iblk0 V c 2 t) (iblk0 V c 3 t) (iblk0 V c 4 t) (fun _ => 0) hd r e := by
  unfold outA0; dsimp only
  rw [View.read_writes_eq_canon _ _ _ (coverA0_7 V c t h)]
  unfold runA0 kernelRun0_A; dsimp only
  sl_unfold_words
  canon_tiles x hx using coverA0_7 V c t h _
  all_goals simp (disch := decide) only [↓View.readCov_skip, ↓View.readCov_fill]
  all_goals try simp only [View.readAt_eq_ld, Memref.IsWhole.read_unread]
  all_goals open_payloads
  all_goals pointwise [k0_pay2]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- At the first point: the state written for the backward call, the one entering the chunk. -/
theorem outA0_st (c : Dev nD) (t : Fin cfg0.N) (h : t.val = 0) (hd : Fin 4) (d : Fin 256) (e : Fin 512) :
    (outA0 V c t h).2.1 (ix4 hd 0 d e) = 0 := by
  unfold outA0; dsimp only
  rw [View.read_writes_eq_canon _ _ _ (coverA0_8 V c t h)]
  unfold runA0 kernelRun0_A; dsimp only
  sl_unfold_words
  canon_tiles x hx using coverA0_8 V c t h _
  all_goals simp (disch := decide) only [↓View.readCov_skip, ↓View.readCov_fill]
  all_goals try simp only [View.readAt_eq_ld, Memref.IsWhole.read_unread]
  all_goals open_payloads
  all_goals pointwise [k0_pay2]

/-- The four heads' stores alone cover the scratch. -/
theorem scover4A0 (c : Dev nD) (t : Fin cfg0.N) (h : t.val = 0) (y : S4x256x512.Idx) :
    ∃ pc ∈ (runA0 V c t h).2.2.1.take 4, y ∈ pc.1.set :=
  View.cover_of_tiledL ((runA0 V c t h).2.2.1.take 4) S1x256x512.size (by sl_kernel_rfl) y

/-- At the first point: the state leaving the chunk. -/
theorem outA0_s (c : Dev nD) (t : Fin cfg0.N) (h : t.val = 0) (hd : Fin 4) (d : Fin 256) (e : Fin 512) :
    (outA0 V c t h).2.2 (ix3 hd d e) = 0 * (iblk0 V c 6 t : FVec Ideal S4x1x512 .f32) (ix3 hd 0 e) + Ublk (iblk0 V c 1 t) (iblk0 V c 2 t) (iblk0 V c 5 t) hd d e := by
  unfold outA0; dsimp only
  rw [View.read_writes_eq_canon _ _ _ (scoverA0 V c t h)]
  unfold runA0 kernelRun0_A; dsimp only
  sl_unfold_words
  refine (canon_five _ _ _ _ _ _ (scover4A0 V c t h _)).trans ?_
  sl_unfold_words
  canon_tiles x hx using scover4A0 V c t h _
  all_goals simp (disch := decide) only [↓View.readCov_skip, ↓View.readCov_fill]
  all_goals try simp only [View.readAt_eq_ld, Memref.IsWhole.read_unread]
  all_goals open_payloads
  all_goals pointwise [k0_pay2]
  all_goals dsimp only [ix3_0, ix3_1, ix3_2] at hx0 hx1 hx2
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : d = x 1 := Fin.ext hx1
  all_goals obtain rfl : e = x 2 := Fin.ext hx2
  all_goals first | rfl | simp [Oblk, Ublk, DQblk, DKblk, DVblk, Wblk, hq, hv]

/-- At a later point: the output. -/
theorem outB0_o (c : Dev nD) (t : Fin cfg0.N) (h : ¬t.val = 0) (xs : Vec Ideal S4x256x512 .f32) (r : Fin 128) (hd : Fin 4) (e : Fin 512) :
    (outB0 V c t h xs).1 (ix2 r (hv hd e)) = Oblk (iblk0 V c 0 t) (iblk0 V c 1 t) (iblk0 V c 2 t) (iblk0 V c 3 t) (iblk0 V c 4 t) xs hd r e := by
  unfold outB0; dsimp only
  rw [View.read_writes_eq_canon _ _ _ (coverB0_7 V c t h xs)]
  unfold runB0 kernelRun0_B; dsimp only
  sl_unfold_words
  canon_tiles x hx using coverB0_7 V c t h xs _
  all_goals try simp only [View.readAt_eq_ld, Memref.IsWhole.read_unread]
  all_goals open_payloads
  all_goals pointwise
  all_goals try simp only [read_unread_whole]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- At a later point: the state written for the backward call, the one entering the chunk. -/
theorem outB0_st (c : Dev nD) (t : Fin cfg0.N) (h : ¬t.val = 0) (xs : Vec Ideal S4x256x512 .f32) (hd : Fin 4) (d : Fin 256) (e : Fin 512) :
    (outB0 V c t h xs).2.1 (ix4 hd 0 d e) = xs (ix3 hd d e) := by
  unfold outB0; dsimp only
  rw [View.read_writes_eq_canon _ _ _ (coverB0_8 V c t h xs)]
  unfold runB0 kernelRun0_B; dsimp only
  sl_unfold_words
  canon_tiles x hx using coverB0_8 V c t h xs _
  all_goals try simp only [View.readAt_eq_ld, Memref.IsWhole.read_unread]
  all_goals open_payloads
  all_goals pointwise
  all_goals try simp only [read_unread_whole]
  all_goals dsimp only [ix4_0, ix4_1, ix4_2, ix4_3] at hx0 hx1 hx2 hx3
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : d = x 2 := Fin.ext hx2
  all_goals obtain rfl : e = x 3 := Fin.ext hx3
  all_goals first | rfl | simp [Oblk, Ublk, DQblk, DKblk, DVblk, Wblk, hq, hv]

/-- At a later point: the state leaving the chunk. -/
theorem outB0_s (c : Dev nD) (t : Fin cfg0.N) (h : ¬t.val = 0) (xs : Vec Ideal S4x256x512 .f32) (hd : Fin 4) (d : Fin 256) (e : Fin 512) :
    (outB0 V c t h xs).2.2 (ix3 hd d e) = xs (ix3 hd d e) * (iblk0 V c 6 t : FVec Ideal S4x1x512 .f32) (ix3 hd 0 e) + Ublk (iblk0 V c 1 t) (iblk0 V c 2 t) (iblk0 V c 5 t) hd d e := by
  unfold outB0; dsimp only
  rw [View.read_writes_eq_canon _ _ _ (scoverB0 V c t h xs)]
  unfold runB0 kernelRun0_B; dsimp only
  sl_unfold_words
  canon_tiles x hx using scoverB0 V c t h xs _
  all_goals try simp only [View.readAt_eq_ld, Memref.IsWhole.read_unread]
  all_goals open_payloads
  all_goals pointwise
  all_goals try simp only [read_unread_whole]
  all_goals dsimp only [ix3_0, ix3_1, ix3_2] at hx0 hx1 hx2
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : d = x 1 := Fin.ext hx1
  all_goals obtain rfl : e = x 2 := Fin.ext hx2
  all_goals first | rfl | simp [Oblk, Ublk, DQblk, DKblk, DVblk, Wblk, hq, hv]

end

end Cert.KernelIdeal.Ret

end
-- ==== Proof.Ret.Bwd.lean ====
/- The backward call: it runs over the 32 chunks from the last to the first and carries the gradient of the state in scratch.
   Here, at any buffer contents `V` on entry: what the body leaves at each grid point, the
   invariant between points (the carried scratch at what the point before left), and the proof that the body keeps it. -/
module

public import proofs.«01_k».proof.Proof.Ret.Fwd
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One staging buffer of output window 9, through which its contents are stated. -/
abbrev VO1_9 : View sig .tc .vmem S128x1024 .f32 := (Memref.whole cc1_stg9_0 : Memref sig .tc .vmem S128x1024 .f32).view
/-- One staging buffer of output window 10, through which its contents are stated. -/
abbrev VO1_10 : View sig .tc .vmem S128x1024 .f32 := (Memref.whole cc1_stg10_0 : Memref sig .tc .vmem S128x1024 .f32).view
/-- One staging buffer of output window 11, through which its contents are stated. -/
abbrev VO1_11 : View sig .tc .vmem S128x2048 .bf16 := (Memref.whole cc1_stg11_0 : Memref sig .tc .vmem S128x2048 .bf16).view
abbrev ms1_0 (t : Fin cfg1.N) : Memref sig .tc .vmem S128x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4x1x256x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4x128x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4x128x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S4x1x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S128x1024 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x2048 .bf16 := win1_11.stage (cfg1.slots t 11)
abbrev hs1_11 (t : Fin cfg1.N) : (ms1_11 t).IsWhole := hstage1_11 ((cfg1.slots t 11).cast nbuf1_11)

/-- The carried scratch. -/
abbrev scM1_0 : Memref sig .tc .vmem S4x256x512 .f32 := Memref.whole cc1_scratch0
abbrev VS1_0 : View sig .tc .vmem S4x256x512 .f32 := scM1_0.view

/-- Whether the body is at the first point: there it zeroes the scratch. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by
  have h : ∀ t : Fin grid1.N, cond1_0 (grid1.coords t) ↔ t.val = 0 := fun t => by
    have ht : t.val < 32 := Nat.lt_of_lt_of_eq t.isLt N_1
    have e0 : (grid1.coords t 0).val = t.val / 1 % 32 := Pipeline.Grid.coords_val t 0 (by decide) rfl
    simp only [cond1_0, e0]
    word_cmp
  exact h

/-! ## The body's run, at the first point (A) and at a later one (B) -/

set_option maxHeartbeats 1000000 in
/-- The body at the first point, the scratch at anything: the pieces its stores leave in each output and in the scratch, found by the run. -/
noncomputable def kernelRun1_A (c : Dev nD) (i : grid1.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S4x1x256x512 .bf16) (harg5 : arg5.IsWhole) (arg6 : Memref sig .tc .vmem S4x128x128 .f32) (harg6 : arg6.IsWhole) (arg7 : Memref sig .tc .vmem S4x128x256 .f32) (harg7 : arg7.IsWhole) (arg8 : Memref sig .tc .vmem S4x128x256 .f32) (harg8 : arg8.IsWhole) (arg9 : Memref sig .tc .vmem S4x1x512 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x2048 .bf16) (harg12 : arg12.IsWhole) (arg13 : Memref sig .tc .vmem S4x256x512 .f32) (harg13 : arg13.IsWhole) (hc0 : cond1_0 i)
    (x0 : Vec F S128x1024 .bf16) (x1 : Vec F S128x1024 .bf16) (x2 : Vec F S128x2048 .bf16) (x3 : Vec F S128x2048 .bf16) (x4 : Vec F S4x1x256x512 .bf16) (x5 : Vec F S4x128x128 .f32) (x6 : Vec F S4x128x256 .f32) (x7 : Vec F S4x128x256 .f32) (x8 : Vec F S4x1x512 .f32) :
    Σ' (L9 : List (View.Piece (Elt F) S128x1024 .f32)), Σ' (L10 : List (View.Piece (Elt F) S128x1024 .f32)), Σ' (L11 : List (View.Piece (Elt F) S128x2048 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0)) -∗ K ⟨⟩))
          ⊢ wp frame (wpE (defs₀ (F := F)) Variants.none c none) E (cc1_ret_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact HS0

set_option maxHeartbeats 1000000 in
/-- The body at a later point, the scratch at `xs0`. -/
noncomputable def kernelRun1_B (c : Dev nD) (i : grid1.Coords) (arg1 : Memref sig .tc .vmem S128x1024 .bf16) (harg1 : arg1.IsWhole) (arg2 : Memref sig .tc .vmem S128x1024 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S4x1x256x512 .bf16) (harg5 : arg5.IsWhole) (arg6 : Memref sig .tc .vmem S4x128x128 .f32) (harg6 : arg6.IsWhole) (arg7 : Memref sig .tc .vmem S4x128x256 .f32) (harg7 : arg7.IsWhole) (arg8 : Memref sig .tc .vmem S4x128x256 .f32) (harg8 : arg8.IsWhole) (arg9 : Memref sig .tc .vmem S4x1x512 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S128x2048 .bf16) (harg12 : arg12.IsWhole) (arg13 : Memref sig .tc .vmem S4x256x512 .f32) (harg13 : arg13.IsWhole) (hc0 : ¬cond1_0 i)
    (x0 : Vec F S128x1024 .bf16) (x1 : Vec F S128x1024 .bf16) (x2 : Vec F S128x2048 .bf16) (x3 : Vec F S128x2048 .bf16) (x4 : Vec F S4x1x256x512 .bf16) (x5 : Vec F S4x128x128 .f32) (x6 : Vec F S4x128x256 .f32) (x7 : Vec F S4x128x256 .f32) (x8 : Vec F S4x1x512 .f32) (xs0 : Vec F S4x256x512 .f32) :
    Σ' (L9 : List (View.Piece (Elt F) S128x1024 .f32)), Σ' (L10 : List (View.Piece (Elt F) S128x1024 .f32)), Σ' (L11 : List (View.Piece (Elt F) S128x2048 .bf16)), { LS0 : List (View.Piece (Elt F) S4x256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0)) -∗ K ⟨⟩))
          ⊢ wp frame (wpE (defs₀ (F := F)) Variants.none c none) E (cc1_ret_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact HS0

/-- The run at point 0 on the point's own buffers and blocks, -/
abbrev runA1 (c : Dev nD) (t : Fin cfg1.N) (h : t.val = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) ((hcond1_0 t).mpr h) (iblk1 V c 0 t) (iblk1 V c 1 t) (iblk1 V c 2 t) (iblk1 V c 3 t) (iblk1 V c 4 t) (iblk1 V c 5 t) (iblk1 V c 6 t) (iblk1 V c 7 t) (iblk1 V c 8 t)
/-- and at a later point. -/
abbrev runB1 (c : Dev nD) (t : Fin cfg1.N) (h : ¬t.val = 0) (xs : Vec F S4x256x512 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) (fun e => h ((hcond1_0 t).mp e)) (iblk1 V c 0 t) (iblk1 V c 1 t) (iblk1 V c 2 t) (iblk1 V c 3 t) (iblk1 V c 4 t) (iblk1 V c 5 t) (iblk1 V c 6 t) (iblk1 V c 7 t) (iblk1 V c 8 t) xs

theorem coverA1_9 (c : Dev nD) (t : Fin cfg1.N) (h : t.val = 0) (y : S128x1024.Idx) :
    ∃ pc ∈ (runA1 V c t h).1, y ∈ pc.1.set :=
  View.cover_of_tiledL (runA1 V c t h).1 S128x256.size (by sl_kernel_rfl) y
theorem coverA1_10 (c : Dev nD) (t : Fin cfg1.N) (h : t.val = 0) (y : S128x1024.Idx) :
    ∃ pc ∈ (runA1 V c t h).2.1, y ∈ pc.1.set :=
  View.cover_of_tiledL (runA1 V c t h).2.1 S128x256.size (by sl_kernel_rfl) y
theorem coverA1_11 (c : Dev nD) (t : Fin cfg1.N) (h : t.val = 0) (y : S128x2048.Idx) :
    ∃ pc ∈ (runA1 V c t h).2.2.1, y ∈ pc.1.set :=
  View.cover_of_tiledL (runA1 V c t h).2.2.1 S128x512.size (by sl_kernel_rfl) y
theorem scoverA1 (c : Dev nD) (t : Fin cfg1.N) (h : t.val = 0) (y : S4x256x512.Idx) :
    ∃ pc ∈ (runA1 V c t h).2.2.2.1, y ∈ pc.1.set :=
  View.cover_of_wholeMem (runA1 V c t h).2.2.2.1 (by sl_whole_mem) y

/-- What the body leaves at such a point: the outputs' buffers, then the scratch. -/
def outA1 (c : Dev nD) (t : Fin cfg1.N) (h : t.val = 0) : Vec F S128x1024 .f32 × Vec F S128x1024 .f32 × Vec F S128x2048 .bf16 × Vec F S4x256x512 .f32 :=
  (VO1_9.read (Elt F) (VO1_9.writes (Elt F) VO1_9.junk (runA1 V c t h).1), VO1_10.read (Elt F) (VO1_10.writes (Elt F) VO1_10.junk (runA1 V c t h).2.1), VO1_11.read (Elt F) (VO1_11.writes (Elt F) VO1_11.junk (runA1 V c t h).2.2.1), VS1_0.read (Elt F) (VS1_0.writes (Elt F) VS1_0.junk (runA1 V c t h).2.2.2.1))

theorem coverB1_9 (c : Dev nD) (t : Fin cfg1.N) (h : ¬t.val = 0) (xs : Vec F S4x256x512 .f32) (y : S128x1024.Idx) :
    ∃ pc ∈ (runB1 V c t h xs).1, y ∈ pc.1.set :=
  View.cover_of_tiledL (runB1 V c t h xs).1 S128x256.size (by sl_kernel_rfl) y
theorem coverB1_10 (c : Dev nD) (t : Fin cfg1.N) (h : ¬t.val = 0) (xs : Vec F S4x256x512 .f32) (y : S128x1024.Idx) :
    ∃ pc ∈ (runB1 V c t h xs).2.1, y ∈ pc.1.set :=
  View.cover_of_tiledL (runB1 V c t h xs).2.1 S128x256.size (by sl_kernel_rfl) y
theorem coverB1_11 (c : Dev nD) (t : Fin cfg1.N) (h : ¬t.val = 0) (xs : Vec F S4x256x512 .f32) (y : S128x2048.Idx) :
    ∃ pc ∈ (runB1 V c t h xs).2.2.1, y ∈ pc.1.set :=
  View.cover_of_tiledL (runB1 V c t h xs).2.2.1 S128x512.size (by sl_kernel_rfl) y
theorem scoverB1 (c : Dev nD) (t : Fin cfg1.N) (h : ¬t.val = 0) (xs : Vec F S4x256x512 .f32) (y : S4x256x512.Idx) :
    ∃ pc ∈ (runB1 V c t h xs).2.2.2.1, y ∈ pc.1.set :=
  View.cover_of_tiledL (runB1 V c t h xs).2.2.2.1 S1x256x512.size (by sl_kernel_rfl) y

/-- What the body leaves at such a point: the outputs' buffers, then the scratch. -/
def outB1 (c : Dev nD) (t : Fin cfg1.N) (h : ¬t.val = 0) (xs : Vec F S4x256x512 .f32) : Vec F S128x1024 .f32 × Vec F S128x1024 .f32 × Vec F S128x2048 .bf16 × Vec F S4x256x512 .f32 :=
  (VO1_9.read (Elt F) (VO1_9.writes (Elt F) VO1_9.junk (runB1 V c t h xs).1), VO1_10.read (Elt F) (VO1_10.writes (Elt F) VO1_10.junk (runB1 V c t h xs).2.1), VO1_11.read (Elt F) (VO1_11.writes (Elt F) VO1_11.junk (runB1 V c t h xs).2.2.1), VS1_0.read (Elt F) (VS1_0.writes (Elt F) VS1_0.junk (runB1 V c t h xs).2.2.2.1))

/-- What the outputs' buffers and the scratch hold after point `n`. -/
def outsAt1 (c : Dev nD) : (n : ℕ) → n < cfg1.N → Vec F S128x1024 .f32 × Vec F S128x1024 .f32 × Vec F S128x2048 .bf16 × Vec F S4x256x512 .f32
  | 0, hn => outA1 V c ⟨0, hn⟩ rfl
  | n + 1, hn => outB1 V c ⟨n + 1, hn⟩ (Nat.succ_ne_zero n) (outsAt1 c n (Nat.lt_of_succ_lt hn)).2.2.2

theorem outsAt1_A (c : Dev nD) (t : Fin cfg1.N) (h : t.val = 0) : outsAt1 V c t.val t.isLt = outA1 V c t h := by
  obtain ⟨n, hn⟩ := t; dsimp only at h; subst h; rfl
theorem outsAt1_B (c : Dev nD) (t : Fin cfg1.N) (h : ¬t.val = 0) :
    outsAt1 V c t.val t.isLt = outB1 V c t h (outsAt1 V c (t.val - 1) (Nat.lt_of_le_of_lt (Nat.sub_le _ _) t.isLt)).2.2.2 := by
  obtain ⟨n, hn⟩ := t
  cases n with
  | zero => exact absurd rfl h
  | succ n => rfl

/-! ## The invariant between points -/

/-- The staging and scratch buffers of the other call, each at some contents. -/
def rest1 (c : Dev nD) : sProp 𝕄 := iprop(someAt c cc0_stg0_0 ∗ someAt c cc0_stg0_1 ∗ someAt c cc0_stg1_0 ∗ someAt c cc0_stg1_1 ∗ someAt c cc0_stg2_0 ∗ someAt c cc0_stg2_1 ∗ someAt c cc0_stg3_0 ∗ someAt c cc0_stg4_0 ∗ someAt c cc0_stg5_0 ∗ someAt c cc0_stg6_0 ∗ someAt c cc0_stg7_0 ∗ someAt c cc0_stg7_1 ∗ someAt c cc0_stg8_0 ∗ someAt c cc0_stg8_1 ∗ someAt c cc0_scratch0)

/-- Before the first point the scoped buffers are the other call's and the scratch, at anything. -/
theorem PhiA1_iff (c : Dev nD) : (Pipeline.ΦA spec1 c : sProp 𝕄) =
    iprop(iprop(someAt c cc0_stg0_0 ∗ someAt c cc0_stg0_1 ∗ someAt c cc0_stg1_0 ∗ someAt c cc0_stg1_1 ∗ someAt c cc0_stg2_0 ∗ someAt c cc0_stg2_1 ∗ someAt c cc0_stg3_0 ∗ someAt c cc0_stg4_0 ∗ someAt c cc0_stg5_0 ∗ someAt c cc0_stg6_0 ∗ someAt c cc0_stg7_0 ∗ someAt c cc0_stg7_1 ∗ someAt c cc0_stg8_0 ∗ someAt c cc0_stg8_1 ∗ someAt c cc0_scratch0 ∗ (∃ d, owns (c : Thread nD τ) scM1_0 fullShare d)) ∗ (∃ r, prngReg c r)) := by
  unfold Pipeline.ΦA; rw [scopedRest1_eq]; simp only [scM1_0, owns_whole]; try rfl

theorem PhiA1_open (c : Dev nD) : (Pipeline.ΦA spec1 c : sProp 𝕄) ⊢
    iprop((rest1 c ∗ (∃ d, owns (c : Thread nD τ) scM1_0 fullShare d)) ∗ (∃ r, prngReg c r)) := by
  rw [PhiA1_iff]; unfold rest1
  iintro ⟨⟨R0, R1, R2, R3, R4, R5, R6, R7, R8, R9, R10, R11, R12, R13, R14, S⟩, G⟩
  isplitr [G]
  · isplitr [S]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact R14
    iexact S
  iexact G
theorem PhiA1_close (c : Dev nD) : iprop((rest1 c ∗ (∃ d, owns (c : Thread nD τ) scM1_0 fullShare d)) ∗ (∃ r, prngReg c r)) ⊢
    (Pipeline.ΦA spec1 c : sProp 𝕄) := by
  rw [PhiA1_iff]; unfold rest1
  iintro ⟨⟨⟨R0, R1, R2, R3, R4, R5, R6, R7, R8, R9, R10, R11, R12, R13, R14⟩, S⟩, G⟩
  isplitr [G]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact S
  iexact G

/-- Before point `n`: the scratch at what point `n - 1` left; before the first point at anything. -/
def PhiS1 (c : Dev nD) : (n : ℕ) → n ≤ cfg1.N → sProp 𝕄
  | 0, _ => Pipeline.ΦA spec1 c
  | n + 1, hn => iprop((rest1 c ∗ owns (c : Thread nD τ) scM1_0 fullShare (outsAt1 V c n hn).2.2.2) ∗ (∃ r, prngReg c r))
theorem PhiS1_zero (c : Dev nD) (n : ℕ) (h : n ≤ cfg1.N) (hz : n = 0) : PhiS1 V c n h = Pipeline.ΦA spec1 c := by
  subst hz; rfl
theorem PhiS1_pos (c : Dev nD) (n : ℕ) (h : n ≤ cfg1.N) (hz : ¬n = 0) :
    PhiS1 V c n h = iprop((rest1 c ∗ owns (c : Thread nD τ) scM1_0 fullShare (outsAt1 V c (n - 1) (by omega)).2.2.2) ∗ (∃ r, prngReg c r)) := by
  cases n with
  | zero => exact absurd rfl hz
  | succ n => rfl

/-! ## The proof data and the body obligation -/

/-- The arrays as the call finds them; after point `t` each input's buffer at its block, the outputs' at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]

/-! Each input's buffer holds its block at every point, fetched there or kept from the point before. -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 6400000 in
/-- The body keeps the invariant at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl,
    after1_0, after1_1, after1_2, after1_3, after1_4, after1_5, after1_6, after1_7, after1_8, after1_9, after1_10, after1_11]
  rw [show (dat1 V c).Φ t.succ = iprop((rest1 c ∗ owns (c : Thread nD τ) scM1_0 fullShare (outsAt1 V c t.val t.isLt).2.2.2) ∗ (∃ r, prngReg c r)) from rfl,
    Phi1_castSucc V c t]
  by_cases h : t.val = 0
  · rw [PhiS1_zero V c _ _ h, outsAt1_A V c t h]
    unfold outA1; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HΦ := PhiA1_open c $$ HΦ
    icases HΦ with ⟨⟨HR, HS⟩, Hg⟩
    iapply ((runA1 V c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS]; · iexact HS
    iintro ⟨H0, H1, H2, H3, H4, H5, H6, H7, H8, ⟨%e9, H9⟩, ⟨%e10, H10⟩, ⟨%e11, H11⟩, ⟨%es, HS⟩⟩
    isplitl [HR HS Hg]
    · isplitl [HR HS]
      · isplitl [HR]; · iexact HR
        unfold owns; iexists _; isplitr
        swap; · iexact HS
        ipureintro; exact View.read_writes_of_cover _ _ _ _ _ (scoverA1 V c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverA1_9 V c t h)
    isplitl [H10]
    · unfold owns; iexists _; isplitr
      swap; · iexact H10
      ipureintro; exact View.read_writes_of_cover _ _ _ _ _ (coverA1_10 V c t h)
    unfold owns; iexists _; isplitr
    swap; · iexact H11
    ipureintro; exact View.read_writes_of_cover _ _ _ _ _ (coverA1_11 V c t h)
  · rw [PhiS1_pos V c _ _ h, outsAt1_B V c t h]
    unfold outB1; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩

    icases HΦ with ⟨⟨HR, HS⟩, Hg⟩
    iapply ((runB1 V c t h _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS]; · iexact HS
    iintro ⟨H0, H1, H2, H3, H4, H5, H6, H7, H8, ⟨%e9, H9⟩, ⟨%e10, H10⟩, ⟨%e11, H11⟩, ⟨%es, HS⟩⟩
    isplitl [HR HS Hg]
    · isplitl [HR HS]
      · isplitl [HR]; · iexact HR
        unfold owns; iexists _; isplitr
        swap; · iexact HS
        ipureintro; exact View.read_writes_of_cover _ _ _ _ _ (scoverB1 V c t h _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (coverB1_9 V c t h _)
    isplitl [H10]
    · unfold owns; iexists _; isplitr
      swap; · iexact H10
      ipureintro; exact View.read_writes_of_cover _ _ _ _ _ (coverB1_10 V c t h _)
    unfold owns; iexists _; isplitr
    swap; · iexact H11
    ipureintro; exact View.read_writes_of_cover _ _ _ _ _ (coverB1_11 V c t h _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the scratch's contents are forgotten. -/
theorem Phi1_last (c : Dev nD) : (dat1 V c).Φ (Fin.last cfg1.N) ⊢ Pipeline.ΦA spec1 c := by
  have hN : cfg1.N = 32 := N_1
  rw [show (dat1 V c).Φ (Fin.last cfg1.N) = PhiS1 V c cfg1.N le_rfl from rfl, PhiS1_pos V c _ _ (by omega)]
  iintro ⟨⟨HR, HS⟩, Hg⟩
  iapply PhiA1_close c
  isplitl [HR HS]
  · isplitl [HR]; · iexact HR
    iexists _; iexact HS
  iexact Hg

end Cert.KernelIdeal.Ret

end
-- ==== Proof.Ret.BwdBlk.lean ====
/- What the backward call's body leaves at a grid point, read at an index: at the first point, where the state's gradient
   is zero, and at a later one, where it is what the point before left. -/
module

public import proofs.«01_k».proof.Proof.Ret.Bwd
public import proofs.«01_k».proof.Proof.Ret.Vocab
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen
open scoped BigOperators

variable (V : (c : Dev nD) → (b : Ref sig .tc) → Buf (Elt Ideal) ((c : Thread nD τ).loc b))

section

attribute [local irreducible] iblk1
set_option maxHeartbeats 1000000

/-- At the first point: the gradient of q. -/
theorem outA1_dq (c : Dev nD) (t : Fin cfg1.N) (h : t.val = 0) (r : Fin 128) (hd : Fin 4) (e : Fin 256) :
    (outA1 V c t h).1 (ix2 r (hq hd e)) = DQblk (iblk1 V c 1 t) (iblk1 V c 2 t) (iblk1 V c 3 t) (iblk1 V c 4 t) (iblk1 V c 5 t) (iblk1 V c 6 t) hd r e := by
  unfold outA1; dsimp only
  rw [View.read_writes_eq_canon _ _ _ (coverA1_9 V c t h)]
  unfold runA1 kernelRun1_A; dsimp only
  sl_unfold_words
  canon_tiles x hx using coverA1_9 V c t h _
  all_goals simp (disch := decide) only [↓View.readCov_skip, ↓View.readCov_fill]
  all_goals try simp only [View.readAt_eq_ld, Memref.IsWhole.read_unread]
  all_goals open_payloads
  all_goals pointwise [k1_pay2]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- At the first point: the gradient of k. -/
theorem outA1_dk (c : Dev nD) (t : Fin cfg1.N) (h : t.val = 0) (r : Fin 128) (hd : Fin 4) (e : Fin 256) :
    (outA1 V c t h).2.1 (ix2 r (hq hd e)) = DKblk (iblk1 V c 0 t) (iblk1 V c 2 t) (iblk1 V c 3 t) (iblk1 V c 5 t) (iblk1 V c 7 t) (fun _ => 0) hd r e := by
  unfold outA1; dsimp only
  rw [View.read_writes_eq_canon _ _ _ (coverA1_10 V c t h)]
  unfold runA1 kernelRun1_A; dsimp only
  sl_unfold_words
  canon_tiles x hx using coverA1_10 V c t h _
  all_goals simp (disch := decide) only [↓View.readCov_skip, ↓View.readCov_fill]
  all_goals try simp only [View.readAt_eq_ld, Memref.IsWhole.read_unread]
  all_goals open_payloads
  all_goals pointwise [k1_pay2]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- At the first point: the gradient of v. -/
theorem outA1_dv (c : Dev nD) (t : Fin cfg1.N) (h : t.val = 0) (r : Fin 128) (hd : Fin 4) (e : Fin 512) :
    (outA1 V c t h).2.2.1 (ix2 r (hv hd e)) = DVblk (iblk1 V c 0 t) (iblk1 V c 1 t) (iblk1 V c 3 t) (iblk1 V c 5 t) (iblk1 V c 7 t) (fun _ => 0) hd r e := by
  unfold outA1; dsimp only
  rw [View.read_writes_eq_canon _ _ _ (coverA1_11 V c t h)]
  unfold runA1 kernelRun1_A; dsimp only
  sl_unfold_words
  canon_tiles x hx using coverA1_11 V c t h _
  all_goals simp (disch := decide) only [↓View.readCov_skip, ↓View.readCov_fill]
  all_goals try simp only [View.readAt_eq_ld, Memref.IsWhole.read_unread]
  all_goals open_payloads
  all_goals pointwise [k1_pay2]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- The four heads' stores alone cover the scratch. -/
theorem scover4A1 (c : Dev nD) (t : Fin cfg1.N) (h : t.val = 0) (y : S4x256x512.Idx) :
    ∃ pc ∈ (runA1 V c t h).2.2.2.1.take 4, y ∈ pc.1.set :=
  View.cover_of_tiledL ((runA1 V c t h).2.2.2.1.take 4) S1x256x512.size (by sl_kernel_rfl) y

/-- At the first point: the state's gradient leaving the chunk. -/
theorem outA1_ds (c : Dev nD) (t : Fin cfg1.N) (h : t.val = 0) (hd : Fin 4) (d : Fin 256) (e : Fin 512) :
    (outA1 V c t h).2.2.2 (ix3 hd d e) = 0 * (iblk1 V c 8 t : FVec Ideal S4x1x512 .f32) (ix3 hd 0 e) + Wblk (iblk1 V c 0 t) (iblk1 V c 3 t) (iblk1 V c 6 t) hd d e := by
  unfold outA1; dsimp only
  rw [View.read_writes_eq_canon _ _ _ (scoverA1 V c t h)]
  unfold runA1 kernelRun1_A; dsimp only
  sl_unfold_words
  refine (canon_five _ _ _ _ _ _ (scover4A1 V c t h _)).trans ?_
  sl_unfold_words
  canon_tiles x hx using scover4A1 V c t h _
  all_goals simp (disch := decide) only [↓View.readCov_skip, ↓View.readCov_fill]
  all_goals try simp only [View.readAt_eq_ld, Memref.IsWhole.read_unread]
  all_goals open_payloads
  all_goals pointwise [k1_pay2]
  all_goals dsimp only [ix3_0, ix3_1, ix3_2] at hx0 hx1 hx2
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : d = x 1 := Fin.ext hx1
  all_goals obtain rfl : e = x 2 := Fin.ext hx2
  all_goals first | rfl | simp [Oblk, Ublk, DQblk, DKblk, DVblk, Wblk, hq, hv]

/-- At a later point: the gradient of q. -/
theorem outB1_dq (c : Dev nD) (t : Fin cfg1.N) (h : ¬t.val = 0) (xs : Vec Ideal S4x256x512 .f32) (r : Fin 128) (hd : Fin 4) (e : Fin 256) :
    (outB1 V c t h xs).1 (ix2 r (hq hd e)) = DQblk (iblk1 V c 1 t) (iblk1 V c 2 t) (iblk1 V c 3 t) (iblk1 V c 4 t) (iblk1 V c 5 t) (iblk1 V c 6 t) hd r e := by
  unfold outB1; dsimp only
  rw [View.read_writes_eq_canon _ _ _ (coverB1_9 V c t h xs)]
  unfold runB1 kernelRun1_B; dsimp only
  sl_unfold_words
  canon_tiles x hx using coverB1_9 V c t h xs _
  all_goals try simp only [View.readAt_eq_ld, Memref.IsWhole.read_unread]
  all_goals open_payloads
  all_goals pointwise
  all_goals try simp only [read_unread_whole]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- At a later point: the gradient of k. -/
theorem outB1_dk (c : Dev nD) (t : Fin cfg1.N) (h : ¬t.val = 0) (xs : Vec Ideal S4x256x512 .f32) (r : Fin 128) (hd : Fin 4) (e : Fin 256) :
    (outB1 V c t h xs).2.1 (ix2 r (hq hd e)) = DKblk (iblk1 V c 0 t) (iblk1 V c 2 t) (iblk1 V c 3 t) (iblk1 V c 5 t) (iblk1 V c 7 t) xs hd r e := by
  unfold outB1; dsimp only
  rw [View.read_writes_eq_canon _ _ _ (coverB1_10 V c t h xs)]
  unfold runB1 kernelRun1_B; dsimp only
  sl_unfold_words
  canon_tiles x hx using coverB1_10 V c t h xs _
  all_goals try simp only [View.readAt_eq_ld, Memref.IsWhole.read_unread]
  all_goals open_payloads
  all_goals pointwise
  all_goals try simp only [read_unread_whole]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- At a later point: the gradient of v. -/
theorem outB1_dv (c : Dev nD) (t : Fin cfg1.N) (h : ¬t.val = 0) (xs : Vec Ideal S4x256x512 .f32) (r : Fin 128) (hd : Fin 4) (e : Fin 512) :
    (outB1 V c t h xs).2.2.1 (ix2 r (hv hd e)) = DVblk (iblk1 V c 0 t) (iblk1 V c 1 t) (iblk1 V c 3 t) (iblk1 V c 5 t) (iblk1 V c 7 t) xs hd r e := by
  unfold outB1; dsimp only
  rw [View.read_writes_eq_canon _ _ _ (coverB1_11 V c t h xs)]
  unfold runB1 kernelRun1_B; dsimp only
  sl_unfold_words
  canon_tiles x hx using coverB1_11 V c t h xs _
  all_goals try simp only [View.readAt_eq_ld, Memref.IsWhole.read_unread]
  all_goals open_payloads
  all_goals pointwise
  all_goals try simp only [read_unread_whole]
  all_goals dsimp only [ix2_0, ix2_1] at hx0 hx1
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : r = x 0 := Fin.ext hx0
  all_goals obtain rfl : e = x 1 := Fin.ext (by omega)
  all_goals first | rfl | simp [Oblk, Ublk, DQblk, DKblk, DVblk, Wblk, hq, hv]

/-- At a later point: the state's gradient leaving the chunk. -/
theorem outB1_ds (c : Dev nD) (t : Fin cfg1.N) (h : ¬t.val = 0) (xs : Vec Ideal S4x256x512 .f32) (hd : Fin 4) (d : Fin 256) (e : Fin 512) :
    (outB1 V c t h xs).2.2.2 (ix3 hd d e) = xs (ix3 hd d e) * (iblk1 V c 8 t : FVec Ideal S4x1x512 .f32) (ix3 hd 0 e) + Wblk (iblk1 V c 0 t) (iblk1 V c 3 t) (iblk1 V c 6 t) hd d e := by
  unfold outB1; dsimp only
  rw [View.read_writes_eq_canon _ _ _ (scoverB1 V c t h xs)]
  unfold runB1 kernelRun1_B; dsimp only
  sl_unfold_words
  canon_tiles x hx using scoverB1 V c t h xs _
  all_goals try simp only [View.readAt_eq_ld, Memref.IsWhole.read_unread]
  all_goals open_payloads
  all_goals pointwise
  all_goals try simp only [read_unread_whole]
  all_goals dsimp only [ix3_0, ix3_1, ix3_2] at hx0 hx1 hx2
  case' piece0 => obtain rfl : hd = 3 := Fin.ext (by change _ = 3; omega)
  case' piece1 => obtain rfl : hd = 2 := Fin.ext (by change _ = 2; omega)
  case' piece2 => obtain rfl : hd = 1 := Fin.ext (by change _ = 1; omega)
  case' piece3 => obtain rfl : hd = 0 := Fin.ext (by change _ = 0; omega)
  all_goals obtain rfl : d = x 1 := Fin.ext hx1
  all_goals obtain rfl : e = x 2 := Fin.ext hx2
  all_goals first | rfl | simp [Oblk, Ublk, DQblk, DKblk, DVblk, Wblk, hq, hv]

end

end Cert.KernelIdeal.Ret

end
-- ==== Proof.Ret.Launch.lean ====
/- The run of the gradient's program: the host prepares the decay tables, the forward call writes the states, the
   backward call the three gradients. Every final state has the arguments as launched, each buffer at its contents
   after the last call, and every semaphore counter at zero. -/
module

public import proofs.«01_k».proof.Proof.Ret.Fwd
public import proofs.«01_k».proof.Proof.Ret.Bwd
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_cst, main_v1, main_v2, main_cst_0, main_v3, main_v4, main_v5, main_v6, main_v7, main_v8, main_v9, main_v10, main_v11, main_v12, main_v13, main_cst_1, main_v14, main_v15, main_v16, main_cst_2, main_v17, main_v18, main_v19, main_v20, main_v21, main_v22, main_v23, main_cst_3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_v24]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v25, main_cst_4, main_v26, main_v27, main_v28, main_v29, main_v30, main_v31, main_v32, main_v33, main_v34, main_v35, main_cst_5, main_v36, main_v37, main_v38, main_v39, main_v40, main_v41, main_v42, main_v43, main_v44, main_cst_6, main_v45, main_v46, main_v47, main_v48, main_v49]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hl : (pdats m ρ 0 c).Φ (Fin.last _) ⊢ Pipeline.ΦA spec0 c := Phi0_last (V3 m ρ) c
    unfold Pipeline.ΦA at hl
    iintro H
    ihave H := hl $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hl : (pdats m ρ 1 c).Φ (Fin.last _) ⊢ Pipeline.ΦA spec1 c := Phi1_last (V4 m ρ) c
    unfold Pipeline.ΦA at hl
    iintro H
    ihave H := hl $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every execution ends with each unscoped buffer at `W5` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

/-- The run with the forward output and the three gradients named: what the two calls' write-backs leave, the
    arguments as launched. -/
theorem run_vals : θ_run defs (onTc (τ := τ) (main (F := F))) ⟨m, fun _ => 0, ρ⟩ (fun r => ∀ c : Dev nD,
      r.2.mem ((c.tc : Thread nD τ).loc main_v50_0) = (dat0 (V3 m ρ) c).arrAt 7 cfg0.N
      ∧ r.2.mem ((c.tc : Thread nD τ).loc main_v51_0) = (dat1 (V4 m ρ) c).arrAt 9 cfg1.N
      ∧ r.2.mem ((c.tc : Thread nD τ).loc main_v51_1) = (dat1 (V4 m ρ) c).arrAt 10 cfg1.N
      ∧ r.2.mem ((c.tc : Thread nD τ).loc main_v51_2) = (dat1 (V4 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1 c _ (mem_uc main_v50_0 (by decide))).trans (W5_of_ne m ρ c main_v50_0 (by decide))).trans (W4_arr m ρ c 7),
       (h.1 c _ (mem_uc main_v51_0 (by decide))).trans (W5_arr m ρ c 9),
       (h.1 c _ (mem_uc main_v51_1 (by decide))).trans (W5_arr m ρ c 10),
       (h.1 c _ (mem_uc main_v51_2 (by decide))).trans (W5_arr m ρ c 11),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩) (run_all m ρ)

end Cert.KernelIdeal.Ret

end
-- ==== Proof.Ret.Win.lean ====
/- Where the blocks of the two calls' windows sit in their arrays: chunk `t` of the rows for the forward call, chunk
   `31 − t` for the backward call, and the decay tables whole. -/
module

public import proofs.«01_k».proof.Proof.Ret.Launch
public import proofs.«01_k».proof.Proof.Ret.Model
public import Idealize.ShloMosaic.Lib.Pointwise
public import Idealize.ShloMosaic.Lib.Pipeline.ValueKit.Geometry

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen
open Cert.Ret (row)

variable (V : (c : Dev nD) → (b : Ref sig .tc) → Buf (Elt Ideal) ((c : Thread nD τ).loc b))

/-- A grid point of the forward call as a chunk. -/
abbrev T0 (t : Fin cfg0.N) : Fin 32 := ⟨t.val, t.isLt.trans_eq N_0⟩
/-- A grid point of the backward call as a position in its order. -/
abbrev T1 (t : Fin cfg1.N) : Fin 32 := ⟨t.val, t.isLt.trans_eq N_1⟩

/-! ## The forward call -/

theorem ix0_0 : ∀ t : Fin cfg0.N, win0_0.index t (0 : Fin 2) = t.val ∧ win0_0.index t (1 : Fin 2) = 0 :=
  (by decide +kernel : ∀ t : Fin grid0.N, _)
theorem emb0_0 (t : Fin cfg0.N) (r : Fin 128) (j : Fin 1024) : ((cfg0.win 0).blk t).view.emb (ix2 r j) = ix2 (row (T0 t) r) j := by
  obtain ⟨e0, e1⟩ := ix0_0 t
  have hN : t.val < 32 := t.isLt.trans_eq N_0
  funext a; apply Fin.ext
  match a with
  | ⟨0, _⟩ => show win0_0.index t (0 : Fin 2) * 128 + 1 * r.val = 128 * t.val + r.val; rw [e0]; omega
  | ⟨1, _⟩ => show win0_0.index t (1 : Fin 2) * 1024 + 1 * j.val = j.val; rw [e1]; omega
theorem blk0_0 (c : Dev nD) (t : Fin cfg0.N) (r : Fin 128) (j : Fin 1024) : (iblk0 V c 0 t : S128x1024.Idx → EReal) (ix2 r j) = (V c main_arg0 : S4096x1024.Idx → EReal) (ix2 (row (T0 t) r) j) := by
  show V c main_arg0 (((cfg0.win 0).blk t).view.emb (ix2 r j)) = _
  rw [emb0_0]

theorem ix0_1 : ∀ t : Fin cfg0.N, win0_1.index t (0 : Fin 2) = t.val ∧ win0_1.index t (1 : Fin 2) = 0 :=
  (by decide +kernel : ∀ t : Fin grid0.N, _)
theorem emb0_1 (t : Fin cfg0.N) (r : Fin 128) (j : Fin 1024) : ((cfg0.win 1).blk t).view.emb (ix2 r j) = ix2 (row (T0 t) r) j := by
  obtain ⟨e0, e1⟩ := ix0_1 t
  have hN : t.val < 32 := t.isLt.trans_eq N_0
  funext a; apply Fin.ext
  match a with
  | ⟨0, _⟩ => show win0_1.index t (0 : Fin 2) * 128 + 1 * r.val = 128 * t.val + r.val; rw [e0]; omega
  | ⟨1, _⟩ => show win0_1.index t (1 : Fin 2) * 1024 + 1 * j.val = j.val; rw [e1]; omega
theorem blk0_1 (c : Dev nD) (t : Fin cfg0.N) (r : Fin 128) (j : Fin 1024) : (iblk0 V c 1 t : S128x1024.Idx → EReal) (ix2 r j) = (V c main_arg1 : S4096x1024.Idx → EReal) (ix2 (row (T0 t) r) j) := by
  show V c main_arg1 (((cfg0.win 1).blk t).view.emb (ix2 r j)) = _
  rw [emb0_1]

theorem ix0_2 : ∀ t : Fin cfg0.N, win0_2.index t (0 : Fin 2) = t.val ∧ win0_2.index t (1 : Fin 2) = 0 :=
  (by decide +kernel : ∀ t : Fin grid0.N, _)
theorem emb0_2 (t : Fin cfg0.N) (r : Fin 128) (j : Fin 2048) : ((cfg0.win 2).blk t).view.emb (ix2 r j) = ix2 (row (T0 t) r) j := by
  obtain ⟨e0, e1⟩ := ix0_2 t
  have hN : t.val < 32 := t.isLt.trans_eq N_0
  funext a; apply Fin.ext
  match a with
  | ⟨0, _⟩ => show win0_2.index t (0 : Fin 2) * 128 + 1 * r.val = 128 * t.val + r.val; rw [e0]; omega
  | ⟨1, _⟩ => show win0_2.index t (1 : Fin 2) * 2048 + 1 * j.val = j.val; rw [e1]; omega
theorem blk0_2 (c : Dev nD) (t : Fin cfg0.N) (r : Fin 128) (j : Fin 2048) : (iblk0 V c 2 t : S128x2048.Idx → EReal) (ix2 r j) = (V c main_arg2 : S4096x2048.Idx → EReal) (ix2 (row (T0 t) r) j) := by
  show V c main_arg2 (((cfg0.win 2).blk t).view.emb (ix2 r j)) = _
  rw [emb0_2]

theorem ix0_3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb0_3 (t : Fin cfg0.N) (y : S4x128x128.Idx) : ((cfg0.win 3).blk t).view.emb (y) = y := by
  obtain ⟨e0, e1, e2⟩ := ix0_3 t
  have hN : t.val < 32 := t.isLt.trans_eq N_0
  funext a; apply Fin.ext
  match a with
  | ⟨0, _⟩ => show win0_3.index t (0 : Fin 3) * 4 + 1 * (y 0).val = (y 0).val; rw [e0]; omega
  | ⟨1, _⟩ => show win0_3.index t (1 : Fin 3) * 128 + 1 * (y 1).val = (y 1).val; rw [e1]; omega
  | ⟨2, _⟩ => show win0_3.index t (2 : Fin 3) * 128 + 1 * (y 2).val = (y 2).val; rw [e2]; omega
theorem blk0_3 (c : Dev nD) (t : Fin cfg0.N) (y : S4x128x128.Idx) : (iblk0 V c 3 t : S4x128x128.Idx → EReal) y = (V c main_v24 : S4x128x128.Idx → EReal) y := by
  show V c main_v24 (((cfg0.win 3).blk t).view.emb y) = _
  rw [emb0_3]

theorem ix0_4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb0_4 (t : Fin cfg0.N) (y : S4x128x256.Idx) : ((cfg0.win 4).blk t).view.emb (y) = y := by
  obtain ⟨e0, e1, e2⟩ := ix0_4 t
  have hN : t.val < 32 := t.isLt.trans_eq N_0
  funext a; apply Fin.ext
  match a with
  | ⟨0, _⟩ => show win0_4.index t (0 : Fin 3) * 4 + 1 * (y 0).val = (y 0).val; rw [e0]; omega
  | ⟨1, _⟩ => show win0_4.index t (1 : Fin 3) * 128 + 1 * (y 1).val = (y 1).val; rw [e1]; omega
  | ⟨2, _⟩ => show win0_4.index t (2 : Fin 3) * 256 + 1 * (y 2).val = (y 2).val; rw [e2]; omega
theorem blk0_4 (c : Dev nD) (t : Fin cfg0.N) (y : S4x128x256.Idx) : (iblk0 V c 4 t : S4x128x256.Idx → EReal) y = (V c main_v34 : S4x128x256.Idx → EReal) y := by
  show V c main_v34 (((cfg0.win 4).blk t).view.emb y) = _
  rw [emb0_4]

theorem ix0_5 : ∀ t : Fin cfg0.N, win0_5.index t (0 : Fin 3) = 0 ∧ win0_5.index t (1 : Fin 3) = 0 ∧ win0_5.index t (2 : Fin 3) = 0 :=
  (by decide +kernel : ∀ t : Fin grid0.N, _)
theorem emb0_5 (t : Fin cfg0.N) (y : S4x128x256.Idx) : ((cfg0.win 5).blk t).view.emb (y) = y := by
  obtain ⟨e0, e1, e2⟩ := ix0_5 t
  have hN : t.val < 32 := t.isLt.trans_eq N_0
  funext a; apply Fin.ext
  match a with
  | ⟨0, _⟩ => show win0_5.index t (0 : Fin 3) * 4 + 1 * (y 0).val = (y 0).val; rw [e0]; omega
  | ⟨1, _⟩ => show win0_5.index t (1 : Fin 3) * 128 + 1 * (y 1).val = (y 1).val; rw [e1]; omega
  | ⟨2, _⟩ => show win0_5.index t (2 : Fin 3) * 256 + 1 * (y 2).val = (y 2).val; rw [e2]; omega
theorem blk0_5 (c : Dev nD) (t : Fin cfg0.N) (y : S4x128x256.Idx) : (iblk0 V c 5 t : S4x128x256.Idx → EReal) y = (V c main_v44 : S4x128x256.Idx → EReal) y := by
  show V c main_v44 (((cfg0.win 5).blk t).view.emb y) = _
  rw [emb0_5]

theorem ix0_6 : ∀ t : Fin cfg0.N, win0_6.index t (0 : Fin 3) = 0 ∧ win0_6.index t (1 : Fin 3) = 0 ∧ win0_6.index t (2 : Fin 3) = 0 :=
  (by decide +kernel : ∀ t : Fin grid0.N, _)
theorem emb0_6 (t : Fin cfg0.N) (y : S4x1x512.Idx) : ((cfg0.win 6).blk t).view.emb (y) = y := by
  obtain ⟨e0, e1, e2⟩ := ix0_6 t
  have hN : t.val < 32 := t.isLt.trans_eq N_0
  funext a; apply Fin.ext
  match a with
  | ⟨0, _⟩ => show win0_6.index t (0 : Fin 3) * 4 + 1 * (y 0).val = (y 0).val; rw [e0]; omega
  | ⟨1, _⟩ => show win0_6.index t (1 : Fin 3) * 1 + 1 * (y 1).val = (y 1).val; rw [e1]; omega
  | ⟨2, _⟩ => show win0_6.index t (2 : Fin 3) * 512 + 1 * (y 2).val = (y 2).val; rw [e2]; omega
theorem blk0_6 (c : Dev nD) (t : Fin cfg0.N) (y : S4x1x512.Idx) : (iblk0 V c 6 t : S4x1x512.Idx → EReal) y = (V c main_v49 : S4x1x512.Idx → EReal) y := by
  show V c main_v49 (((cfg0.win 6).blk t).view.emb y) = _
  rw [emb0_6]

theorem ix0_7 : ∀ t : Fin cfg0.N, win0_7.index t (0 : Fin 2) = t.val ∧ win0_7.index t (1 : Fin 2) = 0 :=
  (by decide +kernel : ∀ t : Fin grid0.N, _)
theorem emb0_7 (t : Fin cfg0.N) (r : Fin 128) (j : Fin 2048) : ((cfg0.win 7).blk t).view.emb (ix2 r j) = ix2 (row (T0 t) r) j := by
  obtain ⟨e0, e1⟩ := ix0_7 t
  have hN : t.val < 32 := t.isLt.trans_eq N_0
  funext a; apply Fin.ext
  match a with
  | ⟨0, _⟩ => show win0_7.index t (0 : Fin 2) * 128 + 1 * r.val = 128 * t.val + r.val; rw [e0]; omega
  | ⟨1, _⟩ => show win0_7.index t (1 : Fin 2) * 2048 + 1 * j.val = j.val; rw [e1]; omega
theorem flush0_7 : ∀ t : Fin cfg0.N, (cfg0.win 7).flush t = true := (by decide +kernel : ∀ t : Fin grid0.N, win0_7.flush t = true)
theorem inj0_7 : ∀ t t' : Fin cfg0.N, (cfg0.win 7).flush t = true → (cfg0.win 7).flush t' = true → t ≠ t' →
    Disjoint ((cfg0.win 7).blk t).view.set ((cfg0.win 7).blk t').view.set :=
  (cfg0.win 7).hdisj_of_index_inj fun t t' _ _ e => by
    have h := congrFun e (0 : Fin 2)
    have h1 : win0_7.index t (0 : Fin 2) = win0_7.index t' (0 : Fin 2) := h
    rw [(ix0_7 t).1, (ix0_7 t').1] at h1
    have := t.isLt.trans_eq N_0
    have := t'.isLt.trans_eq N_0
    exact Fin.ext (by omega)

theorem ix0_8 : ∀ t : Fin cfg0.N, win0_8.index t (0 : Fin 4) = 0 ∧ win0_8.index t (1 : Fin 4) = t.val ∧ win0_8.index t (2 : Fin 4) = 0 ∧ win0_8.index t (3 : Fin 4) = 0 :=
  (by decide +kernel : ∀ t : Fin grid0.N, _)
theorem emb0_8 (t : Fin cfg0.N) (h : Fin 4) (u : Fin 1) (d : Fin 256) (e : Fin 512) : ((cfg0.win 8).blk t).view.emb (ix4 h u d e) = ix4 h (T0 t) d e := by
  obtain ⟨e0, e1, e2, e3⟩ := ix0_8 t
  have hN : t.val < 32 := t.isLt.trans_eq N_0
  funext a; apply Fin.ext
  match a with
  | ⟨0, _⟩ => show win0_8.index t (0 : Fin 4) * 4 + 1 * h.val = h.val; rw [e0]; omega
  | ⟨1, _⟩ => show win0_8.index t (1 : Fin 4) * 1 + 1 * u.val = t.val; rw [e1]; omega
  | ⟨2, _⟩ => show win0_8.index t (2 : Fin 4) * 256 + 1 * d.val = d.val; rw [e2]; omega
  | ⟨3, _⟩ => show win0_8.index t (3 : Fin 4) * 512 + 1 * e.val = e.val; rw [e3]; omega
theorem flush0_8 : ∀ t : Fin cfg0.N, (cfg0.win 8).flush t = true := (by decide +kernel : ∀ t : Fin grid0.N, win0_8.flush t = true)
theorem inj0_8 : ∀ t t' : Fin cfg0.N, (cfg0.win 8).flush t = true → (cfg0.win 8).flush t' = true → t ≠ t' →
    Disjoint ((cfg0.win 8).blk t).view.set ((cfg0.win 8).blk t').view.set :=
  (cfg0.win 8).hdisj_of_index_inj fun t t' _ _ e => by
    have h := congrFun e (1 : Fin 4)
    have h1 : win0_8.index t (1 : Fin 4) = win0_8.index t' (1 : Fin 4) := h
    rw [(ix0_8 t).2.1, (ix0_8 t').2.1] at h1
    have := t.isLt.trans_eq N_0
    have := t'.isLt.trans_eq N_0
    exact Fin.ext (by omega)

/-! ## The backward call -/

theorem ix1_0 : ∀ t : Fin cfg1.N, win1_0.index t (0 : Fin 2) = 31 - t.val ∧ win1_0.index t (1 : Fin 2) = 0 :=
  (by decide +kernel : ∀ t : Fin grid1.N, _)
theorem emb1_0 (t : Fin cfg1.N) (r : Fin 128) (j : Fin 1024) : ((cfg1.win 0).blk t).view.emb (ix2 r j) = ix2 (row (T1 t).rev r) j := by
  obtain ⟨e0, e1⟩ := ix1_0 t
  have hN : t.val < 32 := t.isLt.trans_eq N_1
  funext a; apply Fin.ext
  match a with
  | ⟨0, _⟩ => show win1_0.index t (0 : Fin 2) * 128 + 1 * r.val = 128 * (T1 t).rev.val + r.val; rw [Fin.val_rev, show (T1 t).val = t.val from rfl]; rw [e0]; omega
  | ⟨1, _⟩ => show win1_0.index t (1 : Fin 2) * 1024 + 1 * j.val = j.val; rw [e1]; omega
theorem blk1_0 (c : Dev nD) (t : Fin cfg1.N) (r : Fin 128) (j : Fin 1024) : (iblk1 V c 0 t : S128x1024.Idx → EReal) (ix2 r j) = (V c main_arg0 : S4096x1024.Idx → EReal) (ix2 (row (T1 t).rev r) j) := by
  show V c main_arg0 (((cfg1.win 0).blk t).view.emb (ix2 r j)) = _
  rw [emb1_0]

theorem ix1_1 : ∀ t : Fin cfg1.N, win1_1.index t (0 : Fin 2) = 31 - t.val ∧ win1_1.index t (1 : Fin 2) = 0 :=
  (by decide +kernel : ∀ t : Fin grid1.N, _)
theorem emb1_1 (t : Fin cfg1.N) (r : Fin 128) (j : Fin 1024) : ((cfg1.win 1).blk t).view.emb (ix2 r j) = ix2 (row (T1 t).rev r) j := by
  obtain ⟨e0, e1⟩ := ix1_1 t
  have hN : t.val < 32 := t.isLt.trans_eq N_1
  funext a; apply Fin.ext
  match a with
  | ⟨0, _⟩ => show win1_1.index t (0 : Fin 2) * 128 + 1 * r.val = 128 * (T1 t).rev.val + r.val; rw [Fin.val_rev, show (T1 t).val = t.val from rfl]; rw [e0]; omega
  | ⟨1, _⟩ => show win1_1.index t (1 : Fin 2) * 1024 + 1 * j.val = j.val; rw [e1]; omega
theorem blk1_1 (c : Dev nD) (t : Fin cfg1.N) (r : Fin 128) (j : Fin 1024) : (iblk1 V c 1 t : S128x1024.Idx → EReal) (ix2 r j) = (V c main_arg1 : S4096x1024.Idx → EReal) (ix2 (row (T1 t).rev r) j) := by
  show V c main_arg1 (((cfg1.win 1).blk t).view.emb (ix2 r j)) = _
  rw [emb1_1]

theorem ix1_2 : ∀ t : Fin cfg1.N, win1_2.index t (0 : Fin 2) = 31 - t.val ∧ win1_2.index t (1 : Fin 2) = 0 :=
  (by decide +kernel : ∀ t : Fin grid1.N, _)
theorem emb1_2 (t : Fin cfg1.N) (r : Fin 128) (j : Fin 2048) : ((cfg1.win 2).blk t).view.emb (ix2 r j) = ix2 (row (T1 t).rev r) j := by
  obtain ⟨e0, e1⟩ := ix1_2 t
  have hN : t.val < 32 := t.isLt.trans_eq N_1
  funext a; apply Fin.ext
  match a with
  | ⟨0, _⟩ => show win1_2.index t (0 : Fin 2) * 128 + 1 * r.val = 128 * (T1 t).rev.val + r.val; rw [Fin.val_rev, show (T1 t).val = t.val from rfl]; rw [e0]; omega
  | ⟨1, _⟩ => show win1_2.index t (1 : Fin 2) * 2048 + 1 * j.val = j.val; rw [e1]; omega
theorem blk1_2 (c : Dev nD) (t : Fin cfg1.N) (r : Fin 128) (j : Fin 2048) : (iblk1 V c 2 t : S128x2048.Idx → EReal) (ix2 r j) = (V c main_arg2 : S4096x2048.Idx → EReal) (ix2 (row (T1 t).rev r) j) := by
  show V c main_arg2 (((cfg1.win 2).blk t).view.emb (ix2 r j)) = _
  rw [emb1_2]

theorem ix1_3 : ∀ t : Fin cfg1.N, win1_3.index t (0 : Fin 2) = 31 - t.val ∧ win1_3.index t (1 : Fin 2) = 0 :=
  (by decide +kernel : ∀ t : Fin grid1.N, _)
theorem emb1_3 (t : Fin cfg1.N) (r : Fin 128) (j : Fin 2048) : ((cfg1.win 3).blk t).view.emb (ix2 r j) = ix2 (row (T1 t).rev r) j := by
  obtain ⟨e0, e1⟩ := ix1_3 t
  have hN : t.val < 32 := t.isLt.trans_eq N_1
  funext a; apply Fin.ext
  match a with
  | ⟨0, _⟩ => show win1_3.index t (0 : Fin 2) * 128 + 1 * r.val = 128 * (T1 t).rev.val + r.val; rw [Fin.val_rev, show (T1 t).val = t.val from rfl]; rw [e0]; omega
  | ⟨1, _⟩ => show win1_3.index t (1 : Fin 2) * 2048 + 1 * j.val = j.val; rw [e1]; omega
theorem blk1_3 (c : Dev nD) (t : Fin cfg1.N) (r : Fin 128) (j : Fin 2048) : (iblk1 V c 3 t : S128x2048.Idx → EReal) (ix2 r j) = (V c main_arg3 : S4096x2048.Idx → EReal) (ix2 (row (T1 t).rev r) j) := by
  show V c main_arg3 (((cfg1.win 3).blk t).view.emb (ix2 r j)) = _
  rw [emb1_3]

theorem ix1_4 : ∀ t : Fin cfg1.N, win1_4.index t (0 : Fin 4) = 0 ∧ win1_4.index t (1 : Fin 4) = 31 - t.val ∧ win1_4.index t (2 : Fin 4) = 0 ∧ win1_4.index t (3 : Fin 4) = 0 :=
  (by decide +kernel : ∀ t : Fin grid1.N, _)
theorem emb1_4 (t : Fin cfg1.N) (h : Fin 4) (u : Fin 1) (d : Fin 256) (e : Fin 512) : ((cfg1.win 4).blk t).view.emb (ix4 h u d e) = ix4 h (T1 t).rev d e := by
  obtain ⟨e0, e1, e2, e3⟩ := ix1_4 t
  have hN : t.val < 32 := t.isLt.trans_eq N_1
  funext a; apply Fin.ext
  match a with
  | ⟨0, _⟩ => show win1_4.index t (0 : Fin 4) * 4 + 1 * h.val = h.val; rw [e0]; omega
  | ⟨1, _⟩ => show win1_4.index t (1 : Fin 4) * 1 + 1 * u.val = (T1 t).rev.val; rw [Fin.val_rev, show (T1 t).val = t.val from rfl]; rw [e1]; omega
  | ⟨2, _⟩ => show win1_4.index t (2 : Fin 4) * 256 + 1 * d.val = d.val; rw [e2]; omega
  | ⟨3, _⟩ => show win1_4.index t (3 : Fin 4) * 512 + 1 * e.val = e.val; rw [e3]; omega
theorem blk1_4 (c : Dev nD) (t : Fin cfg1.N) (h : Fin 4) (u : Fin 1) (d : Fin 256) (e : Fin 512) : (iblk1 V c 4 t : S4x1x256x512.Idx → EReal) (ix4 h u d e) = (V c main_v50_1 : S4x32x256x512.Idx → EReal) (ix4 h (T1 t).rev d e) := by
  show V c main_v50_1 (((cfg1.win 4).blk t).view.emb (ix4 h u d e)) = _
  rw [emb1_4]

theorem ix1_5 : ∀ t : Fin cfg1.N, win1_5.index t (0 : Fin 3) = 0 ∧ win1_5.index t (1 : Fin 3) = 0 ∧ win1_5.index t (2 : Fin 3) = 0 :=
  (by decide +kernel : ∀ t : Fin grid1.N, _)
theorem emb1_5 (t : Fin cfg1.N) (y : S4x128x128.Idx) : ((cfg1.win 5).blk t).view.emb (y) = y := by
  obtain ⟨e0, e1, e2⟩ := ix1_5 t
  have hN : t.val < 32 := t.isLt.trans_eq N_1
  funext a; apply Fin.ext
  match a with
  | ⟨0, _⟩ => show win1_5.index t (0 : Fin 3) * 4 + 1 * (y 0).val = (y 0).val; rw [e0]; omega
  | ⟨1, _⟩ => show win1_5.index t (1 : Fin 3) * 128 + 1 * (y 1).val = (y 1).val; rw [e1]; omega
  | ⟨2, _⟩ => show win1_5.index t (2 : Fin 3) * 128 + 1 * (y 2).val = (y 2).val; rw [e2]; omega
theorem blk1_5 (c : Dev nD) (t : Fin cfg1.N) (y : S4x128x128.Idx) : (iblk1 V c 5 t : S4x128x128.Idx → EReal) y = (V c main_v24 : S4x128x128.Idx → EReal) y := by
  show V c main_v24 (((cfg1.win 5).blk t).view.emb y) = _
  rw [emb1_5]

theorem ix1_6 : ∀ t : Fin cfg1.N, win1_6.index t (0 : Fin 3) = 0 ∧ win1_6.index t (1 : Fin 3) = 0 ∧ win1_6.index t (2 : Fin 3) = 0 :=
  (by decide +kernel : ∀ t : Fin grid1.N, _)
theorem emb1_6 (t : Fin cfg1.N) (y : S4x128x256.Idx) : ((cfg1.win 6).blk t).view.emb (y) = y := by
  obtain ⟨e0, e1, e2⟩ := ix1_6 t
  have hN : t.val < 32 := t.isLt.trans_eq N_1
  funext a; apply Fin.ext
  match a with
  | ⟨0, _⟩ => show win1_6.index t (0 : Fin 3) * 4 + 1 * (y 0).val = (y 0).val; rw [e0]; omega
  | ⟨1, _⟩ => show win1_6.index t (1 : Fin 3) * 128 + 1 * (y 1).val = (y 1).val; rw [e1]; omega
  | ⟨2, _⟩ => show win1_6.index t (2 : Fin 3) * 256 + 1 * (y 2).val = (y 2).val; rw [e2]; omega
theorem blk1_6 (c : Dev nD) (t : Fin cfg1.N) (y : S4x128x256.Idx) : (iblk1 V c 6 t : S4x128x256.Idx → EReal) y = (V c main_v34 : S4x128x256.Idx → EReal) y := by
  show V c main_v34 (((cfg1.win 6).blk t).view.emb y) = _
  rw [emb1_6]

theorem ix1_7 : ∀ t : Fin cfg1.N, win1_7.index t (0 : Fin 3) = 0 ∧ win1_7.index t (1 : Fin 3) = 0 ∧ win1_7.index t (2 : Fin 3) = 0 :=
  (by decide +kernel : ∀ t : Fin grid1.N, _)
theorem emb1_7 (t : Fin cfg1.N) (y : S4x128x256.Idx) : ((cfg1.win 7).blk t).view.emb (y) = y := by
  obtain ⟨e0, e1, e2⟩ := ix1_7 t
  have hN : t.val < 32 := t.isLt.trans_eq N_1
  funext a; apply Fin.ext
  match a with
  | ⟨0, _⟩ => show win1_7.index t (0 : Fin 3) * 4 + 1 * (y 0).val = (y 0).val; rw [e0]; omega
  | ⟨1, _⟩ => show win1_7.index t (1 : Fin 3) * 128 + 1 * (y 1).val = (y 1).val; rw [e1]; omega
  | ⟨2, _⟩ => show win1_7.index t (2 : Fin 3) * 256 + 1 * (y 2).val = (y 2).val; rw [e2]; omega
theorem blk1_7 (c : Dev nD) (t : Fin cfg1.N) (y : S4x128x256.Idx) : (iblk1 V c 7 t : S4x128x256.Idx → EReal) y = (V c main_v44 : S4x128x256.Idx → EReal) y := by
  show V c main_v44 (((cfg1.win 7).blk t).view.emb y) = _
  rw [emb1_7]

theorem ix1_8 : ∀ t : Fin cfg1.N, win1_8.index t (0 : Fin 3) = 0 ∧ win1_8.index t (1 : Fin 3) = 0 ∧ win1_8.index t (2 : Fin 3) = 0 :=
  (by decide +kernel : ∀ t : Fin grid1.N, _)
theorem emb1_8 (t : Fin cfg1.N) (y : S4x1x512.Idx) : ((cfg1.win 8).blk t).view.emb (y) = y := by
  obtain ⟨e0, e1, e2⟩ := ix1_8 t
  have hN : t.val < 32 := t.isLt.trans_eq N_1
  funext a; apply Fin.ext
  match a with
  | ⟨0, _⟩ => show win1_8.index t (0 : Fin 3) * 4 + 1 * (y 0).val = (y 0).val; rw [e0]; omega
  | ⟨1, _⟩ => show win1_8.index t (1 : Fin 3) * 1 + 1 * (y 1).val = (y 1).val; rw [e1]; omega
  | ⟨2, _⟩ => show win1_8.index t (2 : Fin 3) * 512 + 1 * (y 2).val = (y 2).val; rw [e2]; omega
theorem blk1_8 (c : Dev nD) (t : Fin cfg1.N) (y : S4x1x512.Idx) : (iblk1 V c 8 t : S4x1x512.Idx → EReal) y = (V c main_v49 : S4x1x512.Idx → EReal) y := by
  show V c main_v49 (((cfg1.win 8).blk t).view.emb y) = _
  rw [emb1_8]

theorem ix1_9 : ∀ t : Fin cfg1.N, win1_9.index t (0 : Fin 2) = 31 - t.val ∧ win1_9.index t (1 : Fin 2) = 0 :=
  (by decide +kernel : ∀ t : Fin grid1.N, _)
theorem emb1_9 (t : Fin cfg1.N) (r : Fin 128) (j : Fin 1024) : ((cfg1.win 9).blk t).view.emb (ix2 r j) = ix2 (row (T1 t).rev r) j := by
  obtain ⟨e0, e1⟩ := ix1_9 t
  have hN : t.val < 32 := t.isLt.trans_eq N_1
  funext a; apply Fin.ext
  match a with
  | ⟨0, _⟩ => show win1_9.index t (0 : Fin 2) * 128 + 1 * r.val = 128 * (T1 t).rev.val + r.val; rw [Fin.val_rev, show (T1 t).val = t.val from rfl]; rw [e0]; omega
  | ⟨1, _⟩ => show win1_9.index t (1 : Fin 2) * 1024 + 1 * j.val = j.val; rw [e1]; omega
theorem flush1_9 : ∀ t : Fin cfg1.N, (cfg1.win 9).flush t = true := (by decide +kernel : ∀ t : Fin grid1.N, win1_9.flush t = true)
theorem inj1_9 : ∀ t t' : Fin cfg1.N, (cfg1.win 9).flush t = true → (cfg1.win 9).flush t' = true → t ≠ t' →
    Disjoint ((cfg1.win 9).blk t).view.set ((cfg1.win 9).blk t').view.set :=
  (cfg1.win 9).hdisj_of_index_inj fun t t' _ _ e => by
    have h := congrFun e (0 : Fin 2)
    have h1 : win1_9.index t (0 : Fin 2) = win1_9.index t' (0 : Fin 2) := h
    rw [(ix1_9 t).1, (ix1_9 t').1] at h1
    have := t.isLt.trans_eq N_1
    have := t'.isLt.trans_eq N_1
    exact Fin.ext (by omega)

theorem ix1_10 : ∀ t : Fin cfg1.N, win1_10.index t (0 : Fin 2) = 31 - t.val ∧ win1_10.index t (1 : Fin 2) = 0 :=
  (by decide +kernel : ∀ t : Fin grid1.N, _)
theorem emb1_10 (t : Fin cfg1.N) (r : Fin 128) (j : Fin 1024) : ((cfg1.win 10).blk t).view.emb (ix2 r j) = ix2 (row (T1 t).rev r) j := by
  obtain ⟨e0, e1⟩ := ix1_10 t
  have hN : t.val < 32 := t.isLt.trans_eq N_1
  funext a; apply Fin.ext
  match a with
  | ⟨0, _⟩ => show win1_10.index t (0 : Fin 2) * 128 + 1 * r.val = 128 * (T1 t).rev.val + r.val; rw [Fin.val_rev, show (T1 t).val = t.val from rfl]; rw [e0]; omega
  | ⟨1, _⟩ => show win1_10.index t (1 : Fin 2) * 1024 + 1 * j.val = j.val; rw [e1]; omega
theorem flush1_10 : ∀ t : Fin cfg1.N, (cfg1.win 10).flush t = true := (by decide +kernel : ∀ t : Fin grid1.N, win1_10.flush t = true)
theorem inj1_10 : ∀ t t' : Fin cfg1.N, (cfg1.win 10).flush t = true → (cfg1.win 10).flush t' = true → t ≠ t' →
    Disjoint ((cfg1.win 10).blk t).view.set ((cfg1.win 10).blk t').view.set :=
  (cfg1.win 10).hdisj_of_index_inj fun t t' _ _ e => by
    have h := congrFun e (0 : Fin 2)
    have h1 : win1_10.index t (0 : Fin 2) = win1_10.index t' (0 : Fin 2) := h
    rw [(ix1_10 t).1, (ix1_10 t').1] at h1
    have := t.isLt.trans_eq N_1
    have := t'.isLt.trans_eq N_1
    exact Fin.ext (by omega)

theorem ix1_11 : ∀ t : Fin cfg1.N, win1_11.index t (0 : Fin 2) = 31 - t.val ∧ win1_11.index t (1 : Fin 2) = 0 :=
  (by decide +kernel : ∀ t : Fin grid1.N, _)
theorem emb1_11 (t : Fin cfg1.N) (r : Fin 128) (j : Fin 2048) : ((cfg1.win 11).blk t).view.emb (ix2 r j) = ix2 (row (T1 t).rev r) j := by
  obtain ⟨e0, e1⟩ := ix1_11 t
  have hN : t.val < 32 := t.isLt.trans_eq N_1
  funext a; apply Fin.ext
  match a with
  | ⟨0, _⟩ => show win1_11.index t (0 : Fin 2) * 128 + 1 * r.val = 128 * (T1 t).rev.val + r.val; rw [Fin.val_rev, show (T1 t).val = t.val from rfl]; rw [e0]; omega
  | ⟨1, _⟩ => show win1_11.index t (1 : Fin 2) * 2048 + 1 * j.val = j.val; rw [e1]; omega
theorem flush1_11 : ∀ t : Fin cfg1.N, (cfg1.win 11).flush t = true := (by decide +kernel : ∀ t : Fin grid1.N, win1_11.flush t = true)
theorem inj1_11 : ∀ t t' : Fin cfg1.N, (cfg1.win 11).flush t = true → (cfg1.win 11).flush t' = true → t ≠ t' →
    Disjoint ((cfg1.win 11).blk t).view.set ((cfg1.win 11).blk t').view.set :=
  (cfg1.win 11).hdisj_of_index_inj fun t t' _ _ e => by
    have h := congrFun e (0 : Fin 2)
    have h1 : win1_11.index t (0 : Fin 2) = win1_11.index t' (0 : Fin 2) := h
    rw [(ix1_11 t).1, (ix1_11 t').1] at h1
    have := t.isLt.trans_eq N_1
    have := t'.isLt.trans_eq N_1
    exact Fin.ext (by omega)

end Cert.KernelIdeal.Ret

end
-- ==== Proof.Ret.Final.lean ====
/- What the two calls leave in their result arrays, at an index: the formulas of Model.lean. -/
module

public import proofs.«01_k».proof.Proof.Ret.FwdBlk
public import proofs.«01_k».proof.Proof.Ret.BwdBlk
public import proofs.«01_k».proof.Proof.Ret.Win
public import Idealize.ShloMosaic.Lib.StableHlo.ReadAt

@[expose] public section

set_option maxRecDepth 16384

noncomputable section

namespace Cert.KernelIdeal.Ret

open Idealize.ShloMosaic Idealize.ShloMosaic.TcCoe Idealize.ShloMosaic.Tactic
open Cert.KernelIdeal Cert.KernelIdeal.Gen
open Idealize.ShloMosaic.Pipeline (Dat)
open Cert.Ret (tM tQ tK tC carry past past_zero past_of_rec gU gS gO gW gT gDQ gDK gDV gT_rev)
open scoped BigOperators

variable (m : (ℓ : Loc nD τ sig) → Buf (Elt Ideal) ℓ) (ρ : Dev nD → PrngReg)

/-! ## The decay tables, computed by the operations before the calls -/

theorem tabM (c : Dev nD) (h : Fin 4) (r s : Fin 128) : (V3 m ρ c main_v24 : S4x128x128.Idx → EReal) (ix3 h r s) = tM h.val r.val s.val := by
  unfold V3 W3 W2 W1
  after_reads_at
  exact congrArg (ite _ _) Ideal.ofBits_zero_f32
theorem tabQ (c : Dev nD) (h : Fin 4) (r : Fin 128) (d : Fin 256) : (V3 m ρ c main_v34 : S4x128x256.Idx → EReal) (ix3 h r d) = tQ h.val r.val := by
  unfold V3 W3 W2 W1
  after_reads_at
  rfl
theorem tabK (c : Dev nD) (h : Fin 4) (r : Fin 128) (d : Fin 256) : (V3 m ρ c main_v44 : S4x128x256.Idx → EReal) (ix3 h r d) = tK h.val r.val := by
  unfold V3 W3 W2 W1
  after_reads_at
  rfl
theorem tabC (c : Dev nD) (h : Fin 4) (e : Fin 512) : (V3 m ρ c main_v49 : S4x1x512.Idx → EReal) (ix3 h 0 e) = tC h.val := by
  unfold V3 W3 W2 W1
  after_reads_at
  rfl

/-! ## The arguments as matrices -/

/-- q, k, v and the output's gradient, by row and column. -/
abbrev aq (c : Dev nD) (i : Fin 4096) (j : Fin 1024) : EReal := (m ((c.tc : Thread nD τ).loc main_arg0) : S4096x1024.Idx → EReal) (ix2 i j)
abbrev ak (c : Dev nD) (i : Fin 4096) (j : Fin 1024) : EReal := (m ((c.tc : Thread nD τ).loc main_arg1) : S4096x1024.Idx → EReal) (ix2 i j)
abbrev av (c : Dev nD) (i : Fin 4096) (j : Fin 2048) : EReal := (m ((c.tc : Thread nD τ).loc main_arg2) : S4096x2048.Idx → EReal) (ix2 i j)
abbrev ag (c : Dev nD) (i : Fin 4096) (j : Fin 2048) : EReal := (m ((c.tc : Thread nD τ).loc main_arg3) : S4096x2048.Idx → EReal) (ix2 i j)

theorem V3_arg {a : Ref sig .tc} (c : Dev nD) (h : a ∈ argRefs) : V3 m ρ c a = m ((c.tc : Thread nD τ).loc a) := W3_args m ρ c a h
theorem V4_arg {a : Ref sig .tc} (c : Dev nD) (h : a ∈ argRefs) : V4 m ρ c a = m ((c.tc : Thread nD τ).loc a) := W4_args m ρ c a h

/-! ## The forward call's blocks -/

theorem b0q (c : Dev nD) (t : Fin cfg0.N) (r : Fin 128) (j : Fin 1024) : (iblk0 (V3 m ρ) c 0 t : S128x1024.Idx → EReal) (ix2 r j) = aq m c (row (T0 t) r) j :=
  (blk0_0 (V3 m ρ) c t r j).trans (congrFun (V3_arg m ρ c (by decide)) _)
theorem b0k (c : Dev nD) (t : Fin cfg0.N) (r : Fin 128) (j : Fin 1024) : (iblk0 (V3 m ρ) c 1 t : S128x1024.Idx → EReal) (ix2 r j) = ak m c (row (T0 t) r) j :=
  (blk0_1 (V3 m ρ) c t r j).trans (congrFun (V3_arg m ρ c (by decide)) _)
theorem b0v (c : Dev nD) (t : Fin cfg0.N) (r : Fin 128) (j : Fin 2048) : (iblk0 (V3 m ρ) c 2 t : S128x2048.Idx → EReal) (ix2 r j) = av m c (row (T0 t) r) j :=
  (blk0_2 (V3 m ρ) c t r j).trans (congrFun (V3_arg m ρ c (by decide)) _)
theorem b0M (c : Dev nD) (t : Fin cfg0.N) (h : Fin 4) (r s : Fin 128) : (iblk0 (V3 m ρ) c 3 t : S4x128x128.Idx → EReal) (ix3 h r s) = tM h.val r.val s.val :=
  (blk0_3 (V3 m ρ) c t _).trans (tabM m ρ c h r s)
theorem b0Q (c : Dev nD) (t : Fin cfg0.N) (h : Fin 4) (r : Fin 128) (d : Fin 256) : (iblk0 (V3 m ρ) c 4 t : S4x128x256.Idx → EReal) (ix3 h r d) = tQ h.val r.val :=
  (blk0_4 (V3 m ρ) c t _).trans (tabQ m ρ c h r d)
theorem b0K (c : Dev nD) (t : Fin cfg0.N) (h : Fin 4) (r : Fin 128) (d : Fin 256) : (iblk0 (V3 m ρ) c 5 t : S4x128x256.Idx → EReal) (ix3 h r d) = tK h.val r.val :=
  (blk0_5 (V3 m ρ) c t _).trans (tabK m ρ c h r d)
theorem b0C (c : Dev nD) (t : Fin cfg0.N) (h : Fin 4) (e : Fin 512) : (iblk0 (V3 m ρ) c 6 t : S4x1x512.Idx → EReal) (ix3 h 0 e) = tC h.val :=
  (blk0_6 (V3 m ρ) c t _).trans (tabC m ρ c h e)

attribute [local irreducible] iblk0 iblk1

theorem U_eq (c : Dev nD) (t : Fin cfg0.N) (h : Fin 4) (d : Fin 256) (e : Fin 512) :
    Ublk (iblk0 (V3 m ρ) c 1 t) (iblk0 (V3 m ρ) c 2 t) (iblk0 (V3 m ρ) c 5 t) h d e = gU (ak m c) (av m c) h (T0 t) d e := by
  unfold Ublk gU
  simp only [b0k, b0v, b0K]

/-- The state leaving point `n`. -/
theorem state0 (c : Dev nD) (h : Fin 4) (d : Fin 256) (e : Fin 512) (n : ℕ) (hn : n < 32) :
    (outsAt0 (V3 m ρ) c n (hn.trans_eq N_0.symm)).2.2 (ix3 h d e) = past h.val (fun n => gU (ak m c) (av m c) h n d e) (n + 1) := by
  refine past_of_rec (by omega) _ (fun n hn => (outsAt0 (V3 m ρ) c n (hn.trans_eq N_0.symm)).2.2 (ix3 h d e)) ?_ ?_ n hn
  · refine (outA0_s (V3 m ρ) c ⟨0, (by norm_num : (0 : ℕ) < 32).trans_eq N_0.symm⟩ rfl h d e).trans ?_
    rw [b0C, U_eq]
    rfl
  · intro n hn
    refine (outB0_s (V3 m ρ) c ⟨n + 1, hn.trans_eq N_0.symm⟩ (Nat.succ_ne_zero n) _ h d e).trans ?_
    rw [b0C, U_eq]

theorem o_eq (c : Dev nD) (t : Fin cfg0.N) (S : FVec Ideal S4x256x512 .f32) (r : Fin 128) (h : Fin 4) (e : Fin 512)
    (hS : ∀ d, S (ix3 h d e) = gS (ak m c) (av m c) h (T0 t) d e) :
    Oblk (iblk0 (V3 m ρ) c 0 t) (iblk0 (V3 m ρ) c 1 t) (iblk0 (V3 m ρ) c 2 t) (iblk0 (V3 m ρ) c 3 t) (iblk0 (V3 m ρ) c 4 t) S h r e
      = gO (aq m c) (ak m c) (av m c) (T0 t) r h e := by
  unfold Oblk gO
  simp only [b0q, b0k, b0v, b0M, b0Q, hS]

/-- The output at every point. -/
theorem out_o (c : Dev nD) (t : Fin cfg0.N) (r : Fin 128) (h : Fin 4) (e : Fin 512) :
    (outsAt0 (V3 m ρ) c t.val t.isLt).1 (ix2 r (hv h e)) = gO (aq m c) (ak m c) (av m c) (T0 t) r h e := by
  by_cases h0 : t.val = 0
  · rw [outsAt0_A (V3 m ρ) c t h0, outA0_o]
    refine o_eq m ρ c t _ r h e fun d => ?_
    unfold gS
    rw [show (T0 t).val = 0 from h0, past_zero]
  · rw [outsAt0_B (V3 m ρ) c t h0, outB0_o]
    refine o_eq m ρ c t _ r h e fun d => ?_
    have hN : t.val < 32 := t.isLt.trans_eq N_0
    refine (state0 m ρ c h d e (t.val - 1) (by omega)).trans ?_
    unfold gS
    rw [show t.val - 1 + 1 = (T0 t).val by show _ = t.val; omega]

/-- The state handed to the backward call at every point. -/
theorem out_st (c : Dev nD) (t : Fin cfg0.N) (h : Fin 4) (d : Fin 256) (e : Fin 512) :
    (outsAt0 (V3 m ρ) c t.val t.isLt).2.1 (ix4 h 0 d e) = gS (ak m c) (av m c) h (T0 t) d e := by
  by_cases h0 : t.val = 0
  · rw [outsAt0_A (V3 m ρ) c t h0, outA0_st]
    unfold gS
    rw [show (T0 t).val = 0 from h0, past_zero]
  · rw [outsAt0_B (V3 m ρ) c t h0, outB0_st]
    have hN : t.val < 32 := t.isLt.trans_eq N_0
    refine (state0 m ρ c h d e (t.val - 1) (by omega)).trans ?_
    unfold gS
    rw [show t.val - 1 + 1 = (T0 t).val by show _ = t.val; omega]

/-- A chunk as a grid point of the forward call. -/
abbrev P0 (n : Fin 32) : Fin cfg0.N := ⟨n.val, n.isLt.trans_eq N_0.symm⟩

/-- The output array. -/
theorem fin_o (c : Dev nD) (n : Fin 32) (r : Fin 128) (h : Fin 4) (e : Fin 512) :
    ((dat0 (V3 m ρ) c).arrAt 7 cfg0.N : S4096x2048.Idx → EReal) (ix2 (row n r) (hv h e)) = gO (aq m c) (ak m c) (av m c) n r h e := by
  have hE := (dat0 (V3 m ρ) c).arrAt_emb_eq_flushed 7 inj0_7 (P0 n) (flush0_7 (P0 n)) (ix2 r (hv h e))
  rw [emb0_7] at hE
  refine hE.trans ?_
  refine Eq.trans ?_ (out_o m ρ c (P0 n) r h e)
  rw [← after0_7]
  rfl

/-- The array of states. -/
theorem fin_st (c : Dev nD) (n : Fin 32) (h : Fin 4) (d : Fin 256) (e : Fin 512) :
    ((dat0 (V3 m ρ) c).arrAt 8 cfg0.N : S4x32x256x512.Idx → EReal) (ix4 h n d e) = gS (ak m c) (av m c) h n d e := by
  have hE := (dat0 (V3 m ρ) c).arrAt_emb_eq_flushed 8 inj0_8 (P0 n) (flush0_8 (P0 n)) (ix4 h 0 d e)
  rw [emb0_8] at hE
  refine hE.trans ?_
  refine Eq.trans ?_ (out_st m ρ c (P0 n) h d e)
  rw [← after0_8]
  rfl

/-! ## The backward call's blocks -/

theorem V4_tab {a : Ref sig .tc} (c : Dev nD) (h : ∀ w : Fin cfg0.W, Pipeline.arrRef spec0 w = a → (cfg0.win w).isOut = false) :
    V4 m ρ c a = V3 m ρ c a := W4_of m ρ c a h

theorem b1q (c : Dev nD) (t : Fin cfg1.N) (r : Fin 128) (j : Fin 1024) : (iblk1 (V4 m ρ) c 0 t : S128x1024.Idx → EReal) (ix2 r j) = aq m c (row (T1 t).rev r) j :=
  (blk1_0 (V4 m ρ) c t r j).trans (congrFun (V4_arg m ρ c (by decide)) _)
theorem b1k (c : Dev nD) (t : Fin cfg1.N) (r : Fin 128) (j : Fin 1024) : (iblk1 (V4 m ρ) c 1 t : S128x1024.Idx → EReal) (ix2 r j) = ak m c (row (T1 t).rev r) j :=
  (blk1_1 (V4 m ρ) c t r j).trans (congrFun (V4_arg m ρ c (by decide)) _)
theorem b1v (c : Dev nD) (t : Fin cfg1.N) (r : Fin 128) (j : Fin 2048) : (iblk1 (V4 m ρ) c 2 t : S128x2048.Idx → EReal) (ix2 r j) = av m c (row (T1 t).rev r) j :=
  (blk1_2 (V4 m ρ) c t r j).trans (congrFun (V4_arg m ρ c (by decide)) _)
theorem b1g (c : Dev nD) (t : Fin cfg1.N) (r : Fin 128) (j : Fin 2048) : (iblk1 (V4 m ρ) c 3 t : S128x2048.Idx → EReal) (ix2 r j) = ag m c (row (T1 t).rev r) j :=
  (blk1_3 (V4 m ρ) c t r j).trans (congrFun (V4_arg m ρ c (by decide)) _)
theorem b1S (c : Dev nD) (t : Fin cfg1.N) (h : Fin 4) (d : Fin 256) (e : Fin 512) :
    (iblk1 (V4 m ρ) c 4 t : S4x1x256x512.Idx → EReal) (ix4 h 0 d e) = gS (ak m c) (av m c) h (T1 t).rev d e :=
  (blk1_4 (V4 m ρ) c t h 0 d e).trans ((congrFun (W4_arr m ρ c 8) _).trans (fin_st m ρ c _ h d e))
theorem b1M (c : Dev nD) (t : Fin cfg1.N) (h : Fin 4) (r s : Fin 128) : (iblk1 (V4 m ρ) c 5 t : S4x128x128.Idx → EReal) (ix3 h r s) = tM h.val r.val s.val :=
  (blk1_5 (V4 m ρ) c t _).trans ((congrFun (V4_tab m ρ c (by decide +kernel)) _).trans (tabM m ρ c h r s))
theorem b1Q (c : Dev nD) (t : Fin cfg1.N) (h : Fin 4) (r : Fin 128) (d : Fin 256) : (iblk1 (V4 m ρ) c 6 t : S4x128x256.Idx → EReal) (ix3 h r d) = tQ h.val r.val :=
  (blk1_6 (V4 m ρ) c t _).trans ((congrFun (V4_tab m ρ c (by decide +kernel)) _).trans (tabQ m ρ c h r d))
theorem b1K (c : Dev nD) (t : Fin cfg1.N) (h : Fin 4) (r : Fin 128) (d : Fin 256) : (iblk1 (V4 m ρ) c 7 t : S4x128x256.Idx → EReal) (ix3 h r d) = tK h.val r.val :=
  (blk1_7 (V4 m ρ) c t _).trans ((congrFun (V4_tab m ρ c (by decide +kernel)) _).trans (tabK m ρ c h r d))
theorem b1C (c : Dev nD) (t : Fin cfg1.N) (h : Fin 4) (e : Fin 512) : (iblk1 (V4 m ρ) c 8 t : S4x1x512.Idx → EReal) (ix3 h 0 e) = tC h.val :=
  (blk1_8 (V4 m ρ) c t _).trans ((congrFun (V4_tab m ρ c (by decide +kernel)) _).trans (tabC m ρ c h e))

theorem W_eq (c : Dev nD) (t : Fin cfg1.N) (h : Fin 4) (d : Fin 256) (e : Fin 512) :
    Wblk (iblk1 (V4 m ρ) c 0 t) (iblk1 (V4 m ρ) c 3 t) (iblk1 (V4 m ρ) c 6 t) h d e = gW (aq m c) (ag m c) h (T1 t).rev d e := by
  unfold Wblk gW
  simp only [b1q, b1g, b1Q]

/-- The state's gradient leaving point `n`. -/
theorem state1 (c : Dev nD) (h : Fin 4) (d : Fin 256) (e : Fin 512) (n : ℕ) (hn : n < 32) :
    (outsAt1 (V4 m ρ) c n (hn.trans_eq N_1.symm)).2.2.2 (ix3 h d e) = past h.val (fun n => gW (aq m c) (ag m c) h n.rev d e) (n + 1) := by
  refine past_of_rec (by omega) _ (fun n hn => (outsAt1 (V4 m ρ) c n (hn.trans_eq N_1.symm)).2.2.2 (ix3 h d e)) ?_ ?_ n hn
  · refine (outA1_ds (V4 m ρ) c ⟨0, (by norm_num : (0 : ℕ) < 32).trans_eq N_1.symm⟩ rfl h d e).trans ?_
    rw [b1C, W_eq]
    rfl
  · intro n hn
    refine (outB1_ds (V4 m ρ) c ⟨n + 1, hn.trans_eq N_1.symm⟩ (Nat.succ_ne_zero n) _ h d e).trans ?_
    rw [b1C, W_eq]

/-- The state's gradient a point after the first finds. -/
theorem found1 (c : Dev nD) (t : Fin cfg1.N) (h0 : ¬t.val = 0) (h : Fin 4) (d : Fin 256) (e : Fin 512) :
    (outsAt1 (V4 m ρ) c (t.val - 1) (Nat.lt_of_le_of_lt (Nat.sub_le _ _) t.isLt)).2.2.2 (ix3 h d e) = gT (aq m c) (ag m c) h (T1 t).rev d e := by
  have hN : t.val < 32 := t.isLt.trans_eq N_1
  refine (state1 m ρ c h d e (t.val - 1) (by omega)).trans ?_
  rw [gT_rev, show t.val - 1 + 1 = (T1 t).val by show _ = t.val; omega]

theorem found0 (c : Dev nD) (t : Fin cfg1.N) (h0 : t.val = 0) (h : Fin 4) (d : Fin 256) (e : Fin 512) :
    0 = gT (aq m c) (ag m c) h (T1 t).rev d e := by
  rw [gT_rev, show (T1 t).val = 0 from h0, past_zero]

theorem dq_eq (c : Dev nD) (t : Fin cfg1.N) (r : Fin 128) (h : Fin 4) (d : Fin 256) :
    DQblk (iblk1 (V4 m ρ) c 1 t) (iblk1 (V4 m ρ) c 2 t) (iblk1 (V4 m ρ) c 3 t) (iblk1 (V4 m ρ) c 4 t) (iblk1 (V4 m ρ) c 5 t) (iblk1 (V4 m ρ) c 6 t) h r d
      = gDQ (ak m c) (av m c) (ag m c) (T1 t).rev r h d := by
  unfold DQblk gDQ
  simp only [b1k, b1v, b1g, b1S, b1M, b1Q]

theorem dk_eq (c : Dev nD) (t : Fin cfg1.N) (S : FVec Ideal S4x256x512 .f32) (r : Fin 128) (h : Fin 4) (d : Fin 256)
    (hS : ∀ e, S (ix3 h d e) = gT (aq m c) (ag m c) h (T1 t).rev d e) :
    DKblk (iblk1 (V4 m ρ) c 0 t) (iblk1 (V4 m ρ) c 2 t) (iblk1 (V4 m ρ) c 3 t) (iblk1 (V4 m ρ) c 5 t) (iblk1 (V4 m ρ) c 7 t) S h r d
      = gDK (aq m c) (av m c) (ag m c) (T1 t).rev r h d := by
  unfold DKblk gDK
  simp only [b1q, b1v, b1g, b1M, b1K, hS]

theorem dv_eq (c : Dev nD) (t : Fin cfg1.N) (S : FVec Ideal S4x256x512 .f32) (r : Fin 128) (h : Fin 4) (e : Fin 512)
    (hS : ∀ d, S (ix3 h d e) = gT (aq m c) (ag m c) h (T1 t).rev d e) :
    DVblk (iblk1 (V4 m ρ) c 0 t) (iblk1 (V4 m ρ) c 1 t) (iblk1 (V4 m ρ) c 3 t) (iblk1 (V4 m ρ) c 5 t) (iblk1 (V4 m ρ) c 7 t) S h r e
      = gDV (aq m c) (ak m c) (ag m c) (T1 t).rev r h e := by
  unfold DVblk gDV
  simp only [b1q, b1k, b1g, b1M, b1K, hS]

theorem out_dq (c : Dev nD) (t : Fin cfg1.N) (r : Fin 128) (h : Fin 4) (d : Fin 256) :
    (outsAt1 (V4 m ρ) c t.val t.isLt).1 (ix2 r (hq h d)) = gDQ (ak m c) (av m c) (ag m c) (T1 t).rev r h d := by
  by_cases h0 : t.val = 0
  · rw [outsAt1_A (V4 m ρ) c t h0, outA1_dq]; exact dq_eq m ρ c t r h d
  · rw [outsAt1_B (V4 m ρ) c t h0, outB1_dq]; exact dq_eq m ρ c t r h d

theorem out_dk (c : Dev nD) (t : Fin cfg1.N) (r : Fin 128) (h : Fin 4) (d : Fin 256) :
    (outsAt1 (V4 m ρ) c t.val t.isLt).2.1 (ix2 r (hq h d)) = gDK (aq m c) (av m c) (ag m c) (T1 t).rev r h d := by
  by_cases h0 : t.val = 0
  · rw [outsAt1_A (V4 m ρ) c t h0, outA1_dk]; exact dk_eq m ρ c t _ r h d fun e => found0 m c t h0 h d e
  · rw [outsAt1_B (V4 m ρ) c t h0, outB1_dk]; exact dk_eq m ρ c t _ r h d fun e => found1 m ρ c t h0 h d e

theorem out_dv (c : Dev nD) (t : Fin cfg1.N) (r : Fin 128) (h : Fin 4) (e : Fin 512) :
    (outsAt1 (V4 m ρ) c t.val t.isLt).2.2.1 (ix2 r (hv h e)) = gDV (aq m c) (ak m c) (ag m c) (T1 t).rev r h e := by
  by_cases h0 : t.val = 0
  · rw [outsAt1_A (V4 m ρ) c t h0, outA1_dv]; exact dv_eq m ρ c t _ r h e fun d => found0 m c t h0 h d e
  · rw [outsAt1_B (V4 m ρ) c t h0, outB1_dv]; exact dv_eq m ρ c t _ r h e fun d => found1 m ρ c t h0 h d e

/-- A chunk as a grid point of the backward call, which takes the chunks last to first. -/
abbrev P1 (n : Fin 32) : Fin cfg1.N := ⟨n.rev.val, n.rev.isLt.trans_eq N_1.symm⟩

theorem T1_P1 (n : Fin 32) : (T1 (P1 n)).rev = n := Fin.rev_rev n

theorem fin_dq (c : Dev nD) (n : Fin 32) (r : Fin 128) (h : Fin 4) (d : Fin 256) :
    ((dat1 (V4 m ρ) c).arrAt 9 cfg1.N : S4096x1024.Idx → EReal) (ix2 (row n r) (hq h d)) = gDQ (ak m c) (av m c) (ag m c) n r h d := by
  have hE := (dat1 (V4 m ρ) c).arrAt_emb_eq_flushed 9 inj1_9 (P1 n) (flush1_9 (P1 n)) (ix2 r (hq h d))
  rw [emb1_9, T1_P1] at hE
  refine hE.trans ?_
  refine Eq.trans ?_ ((out_dq m ρ c (P1 n) r h d).trans (by rw [T1_P1]))
  rw [← after1_9]
  rfl

theorem fin_dk (c : Dev nD) (n : Fin 32) (r : Fin 128) (h : Fin 4) (d : Fin 256) :
    ((dat1 (V4 m ρ) c).arrAt 10 cfg1.N : S4096x1024.Idx → EReal) (ix2 (row n r) (hq h d)) = gDK (aq m c) (av m c) (ag m c) n r h d := by
  have hE := (dat1 (V4 m ρ) c).arrAt_emb_eq_flushed 10 inj1_10 (P1 n) (flush1_10 (P1 n)) (ix2 r (hq h d))
  rw [emb1_10, T1_P1] at hE
  refine hE.trans ?_
  refine Eq.trans ?_ ((out_dk m ρ c (P1 n) r h d).trans (by rw [T1_P1]))
  rw [← after1_10]
  rfl

theorem fin_dv (c : Dev nD) (n : Fin 32) (r : Fin 128) (h : Fin 4) (e : Fin 512) :
    ((dat1 (V4 m ρ) c).arrAt 11 cfg1.N : S4096x2048.Idx → EReal) (ix2 (row n r) (hv h e)) = gDV (aq m c) (ak m c) (ag m c) n r h e := by
  have hE := (dat1 (V4 m ρ) c).arrAt_emb_eq_flushed 11 inj1_11 (P1 n) (flush1_11 (P1 n)) (ix2 r (hv h e))
  rw [emb1_11, T1_P1] at hE
  refine hE.trans ?_
  refine Eq.trans ?_ ((out_dv m ρ c (P1 n) r h e).trans (by rw [T1_P1]))
  rw [← after1_11]
  rfl

end Cert.KernelIdeal.Ret

end
-- ==== Proof.Ret.RefRead.lean ====
/- What the reference's operations leave, read at an index: its four results are the formulas of Model.lean. -/
module

public import proofs.«01_k».proof.Proof.Gen.ReferenceIdeal.Read
public import proofs.«01_k».proof.Proof.Ret.Model
public import Idealize.ShloMosaic.Lib.Pointwise

@[expose] public section

set_option maxRecDepth 16384

noncomputable section

namespace Cert.ReferenceIdeal.Ret

open Idealize.ShloMosaic Idealize.ShloMosaic.TcCoe Idealize.ShloMosaic.Tactic
open Cert.ReferenceIdeal Cert.ReferenceIdeal.Gen Cert.ReferenceIdeal.Read Cert.Ret
open scoped BigOperators

variable (x0 x1 : (⟨S4096x1024, .bf16⟩ : BufTy).Contents (Elt Ideal)) (x2 x3 : (⟨S4096x2048, .bf16⟩ : BufTy).Contents (Elt Ideal))

/-- A matrix as a function of row and column. -/
abbrev mat {a b : ℕ} (x : (⟨2, ![a, b]⟩ : Shape).Idx → EReal) : Fin a → Fin b → EReal := fun i j => x (ix2 i j)

/-! ## The decay tables -/

theorem r37 (h : Fin 4) (r s : Fin 128) : (val_main_v37 (F := Ideal) : S4x128x128.Idx → EReal) (ix3 h r s) = tM h.val r.val s.val := by
  pointwise [val_main_v13, val_main_cst, val_main_v14, val_main_v15, val_main_cst_0, val_main_v16, val_main_v17, val_main_v18, val_main_v19, val_main_v20, val_main_v21, val_main_v22, val_main_v23, val_main_v24, val_main_v25, val_main_v26, val_main_cst_1, val_main_v27, val_main_v28, val_main_v29, val_main_cst_2, val_main_v30, val_main_v31, val_main_v32, val_main_v33, val_main_v34, val_main_v35, val_main_v36, val_main_cst_3, val_main_call0_v0, val_main_call0_v1, val_main_call0_v2, val_main_v37, val_main_v38, val_main_cst_4, val_main_v39, val_main_v40, val_main_v41, val_main_v42, val_main_v43, val_main_v44, val_main_v45, val_main_v46, val_main_v47, val_main_cst_5, val_main_v48, val_main_v49, val_main_v50, val_main_v51, val_main_v52, val_main_v53, val_main_v54, val_main_v55, val_main_v56, val_main_v57, val_main_v58, val_main_v59, val_main_v60, val_main_v61, val_main_cst_6, val_main_v62, val_main_v63, val_main_cst_7, val_main_v64, val_main_v65, val_main_v66, val_main_cst_8, val_main_v67, val_main_v68, val_main_cst_9, val_main_v69, val_main_v70, val_main_v71, val_main_v72, val_main_v73, val_main_v74, val_main_v75, val_main_cst_10, val_main_call1_v0, val_main_call1_v1, val_main_call1_v2, val_main_v76]
  exact congrArg (ite _ _) Ideal.ofBits_zero_f32
theorem r46 (h : Fin 4) (r : Fin 128) : (val_main_v46 (F := Ideal) : S1x4x128x1.Idx → EReal) (ix4 0 h r 0) = tQ h.val r.val := by
  pointwise [val_main_v13, val_main_cst, val_main_v14, val_main_v15, val_main_cst_0, val_main_v16, val_main_v17, val_main_v18, val_main_v19, val_main_v20, val_main_v21, val_main_v22, val_main_v23, val_main_v24, val_main_v25, val_main_v26, val_main_cst_1, val_main_v27, val_main_v28, val_main_v29, val_main_cst_2, val_main_v30, val_main_v31, val_main_v32, val_main_v33, val_main_v34, val_main_v35, val_main_v36, val_main_cst_3, val_main_call0_v0, val_main_call0_v1, val_main_call0_v2, val_main_v37, val_main_v38, val_main_cst_4, val_main_v39, val_main_v40, val_main_v41, val_main_v42, val_main_v43, val_main_v44, val_main_v45, val_main_v46, val_main_v47, val_main_cst_5, val_main_v48, val_main_v49, val_main_v50, val_main_v51, val_main_v52, val_main_v53, val_main_v54, val_main_v55, val_main_v56, val_main_v57, val_main_v58, val_main_v59, val_main_v60, val_main_v61, val_main_cst_6, val_main_v62, val_main_v63, val_main_cst_7, val_main_v64, val_main_v65, val_main_v66, val_main_cst_8, val_main_v67, val_main_v68, val_main_cst_9, val_main_v69, val_main_v70, val_main_v71, val_main_v72, val_main_v73, val_main_v74, val_main_v75, val_main_cst_10, val_main_call1_v0, val_main_call1_v1, val_main_call1_v2, val_main_v76]
  rfl
theorem r55 (h : Fin 4) (r : Fin 128) : (val_main_v55 (F := Ideal) : S1x4x128x1.Idx → EReal) (ix4 0 h r 0) = tK h.val r.val := by
  pointwise [val_main_v13, val_main_cst, val_main_v14, val_main_v15, val_main_cst_0, val_main_v16, val_main_v17, val_main_v18, val_main_v19, val_main_v20, val_main_v21, val_main_v22, val_main_v23, val_main_v24, val_main_v25, val_main_v26, val_main_cst_1, val_main_v27, val_main_v28, val_main_v29, val_main_cst_2, val_main_v30, val_main_v31, val_main_v32, val_main_v33, val_main_v34, val_main_v35, val_main_v36, val_main_cst_3, val_main_call0_v0, val_main_call0_v1, val_main_call0_v2, val_main_v37, val_main_v38, val_main_cst_4, val_main_v39, val_main_v40, val_main_v41, val_main_v42, val_main_v43, val_main_v44, val_main_v45, val_main_v46, val_main_v47, val_main_cst_5, val_main_v48, val_main_v49, val_main_v50, val_main_v51, val_main_v52, val_main_v53, val_main_v54, val_main_v55, val_main_v56, val_main_v57, val_main_v58, val_main_v59, val_main_v60, val_main_v61, val_main_cst_6, val_main_v62, val_main_v63, val_main_cst_7, val_main_v64, val_main_v65, val_main_v66, val_main_cst_8, val_main_v67, val_main_v68, val_main_cst_9, val_main_v69, val_main_v70, val_main_v71, val_main_v72, val_main_v73, val_main_v74, val_main_v75, val_main_cst_10, val_main_call1_v0, val_main_call1_v1, val_main_call1_v2, val_main_v76]
  rfl
theorem r76 (h : Fin 4) (n m : Fin 32) : (val_main_v76 (F := Ideal) : S4x32x32.Idx → EReal) (ix3 h n m) = carry h.val n.val m.val := by
  pointwise [val_main_v13, val_main_cst, val_main_v14, val_main_v15, val_main_cst_0, val_main_v16, val_main_v17, val_main_v18, val_main_v19, val_main_v20, val_main_v21, val_main_v22, val_main_v23, val_main_v24, val_main_v25, val_main_v26, val_main_cst_1, val_main_v27, val_main_v28, val_main_v29, val_main_cst_2, val_main_v30, val_main_v31, val_main_v32, val_main_v33, val_main_v34, val_main_v35, val_main_v36, val_main_cst_3, val_main_call0_v0, val_main_call0_v1, val_main_call0_v2, val_main_v37, val_main_v38, val_main_cst_4, val_main_v39, val_main_v40, val_main_v41, val_main_v42, val_main_v43, val_main_v44, val_main_v45, val_main_v46, val_main_v47, val_main_cst_5, val_main_v48, val_main_v49, val_main_v50, val_main_v51, val_main_v52, val_main_v53, val_main_v54, val_main_v55, val_main_v56, val_main_v57, val_main_v58, val_main_v59, val_main_v60, val_main_v61, val_main_cst_6, val_main_v62, val_main_v63, val_main_cst_7, val_main_v64, val_main_v65, val_main_v66, val_main_cst_8, val_main_v67, val_main_v68, val_main_cst_9, val_main_v69, val_main_v70, val_main_v71, val_main_v72, val_main_v73, val_main_v74, val_main_v75, val_main_cst_10, val_main_call1_v0, val_main_call1_v1, val_main_call1_v2, val_main_v76]
  exact congrArg (ite _ _) Ideal.ofBits_zero_f32

/-! ## The arguments by chunk and head -/

theorem r8 (n : Fin 32) (h : Fin 4) (c : Fin 128) (d : Fin 256) :
    (val_main_v8 (F := Ideal) x0 : S32x1x4x128x256.Idx → EReal) (ix5 n 0 h c d) = mat x0 (row n c) (hq h d) := by
  pointwise [val_main_v0, val_main_v1, val_main_v2, val_main_v3, val_main_v4, val_main_v5, val_main_v6, val_main_v7, val_main_v8, val_main_v9, val_main_v10, val_main_v11, val_main_v12, val_main_v95, val_main_v96]
  exact congrArg₂ (fun a b => x0 (ix2 a b)) (Fin.ext (by simp [row]; omega)) (Fin.ext (by simp [hq]; omega))
theorem r10 (n : Fin 32) (h : Fin 4) (c : Fin 128) (d : Fin 256) :
    (val_main_v10 (F := Ideal) x1 : S32x1x4x128x256.Idx → EReal) (ix5 n 0 h c d) = mat x1 (row n c) (hq h d) := by
  pointwise [val_main_v0, val_main_v1, val_main_v2, val_main_v3, val_main_v4, val_main_v5, val_main_v6, val_main_v7, val_main_v8, val_main_v9, val_main_v10, val_main_v11, val_main_v12, val_main_v95, val_main_v96]
  exact congrArg₂ (fun a b => x1 (ix2 a b)) (Fin.ext (by simp [row]; omega)) (Fin.ext (by simp [hq]; omega))
theorem r12 (n : Fin 32) (h : Fin 4) (c : Fin 128) (e : Fin 512) :
    (val_main_v12 (F := Ideal) x2 : S32x1x4x128x512.Idx → EReal) (ix5 n 0 h c e) = mat x2 (row n c) (hv h e) := by
  pointwise [val_main_v0, val_main_v1, val_main_v2, val_main_v3, val_main_v4, val_main_v5, val_main_v6, val_main_v7, val_main_v8, val_main_v9, val_main_v10, val_main_v11, val_main_v12, val_main_v95, val_main_v96]
  exact congrArg₂ (fun a b => x2 (ix2 a b)) (Fin.ext (by simp [row]; omega)) (Fin.ext (by simp [hv]; omega))
theorem r96 (n : Fin 32) (h : Fin 4) (c : Fin 128) (e : Fin 512) :
    (val_main_v96 (F := Ideal) x3 : S32x1x4x128x512.Idx → EReal) (ix5 n 0 h c e) = mat x3 (row n c) (hv h e) := by
  pointwise [val_main_v0, val_main_v1, val_main_v2, val_main_v3, val_main_v4, val_main_v5, val_main_v6, val_main_v7, val_main_v8, val_main_v9, val_main_v10, val_main_v11, val_main_v12, val_main_v95, val_main_v96]
  exact congrArg₂ (fun a b => x3 (ix2 a b)) (Fin.ext (by simp [row]; omega)) (Fin.ext (by simp [hv]; omega))

/-! ## The states -/

theorem r85 (n : Fin 32) (h : Fin 4) (d : Fin 256) (e : Fin 512) :
    (val_main_v85 (F := Ideal) x1 x2 : S32x1x4x256x512.Idx → EReal) (ix5 n 0 h d e) = gU (mat x1) (mat x2) h n d e := by
  pointwise [val_main_v85, val_main_v84, val_main_v83, val_main_v82]
  simp only [r10, r12, r55]
  rfl
theorem r87 (n : Fin 32) (h : Fin 4) (d : Fin 256) (e : Fin 512) :
    (val_main_v87 (F := Ideal) x1 x2 : S32x1x4x256x512.Idx → EReal) (ix5 n 0 h d e) = gS (mat x1) (mat x2) h n d e := by
  pointwise [val_main_v87, val_main_v86]
  simp only [r85, r76]
  rfl
theorem r97 (n : Fin 32) (h : Fin 4) (d : Fin 256) (e : Fin 512) :
    (val_main_v98 (F := Ideal) x0 x3 : S32x1x4x256x512.Idx → EReal) (ix5 n 0 h d e) = gW (mat x0) (mat x3) h n d e := by
  pointwise [val_main_v98, val_main_v97, val_main_v90, val_main_v89, val_main_v88]
  simp only [r8, r96, r46]
  exact Finset.sum_congr rfl fun c _ => mul_comm _ _
theorem r104 (n : Fin 32) (h : Fin 4) (d : Fin 256) (e : Fin 512) :
    (val_main_v104 (F := Ideal) x0 x3 : S32x1x4x256x512.Idx → EReal) (ix5 n 0 h d e) = gT (mat x0) (mat x3) h n d e := by
  pointwise [val_main_v104, val_main_v103, val_main_v102]
  simp only [r97, r76]
  rfl

/-! ## The results -/

theorem r80 (n : Fin 32) (h : Fin 4) (r c : Fin 128) :
    (val_main_v80 (F := Ideal) x0 x1 : S32x1x4x128x128.Idx → EReal) (ix5 n 0 h r c)
      = (∑ d : Fin 256, mat x0 (row n r) (hq h d) * mat x1 (row n c) (hq h d)) * tM h.val r.val c.val := by
  pointwise [val_main_v80, val_main_v79, val_main_v78, val_main_v77]
  simp only [r8, r10, r37]

theorem r116 (n : Fin 32) (h : Fin 4) (r c : Fin 128) :
    (val_main_v116 (F := Ideal) x2 x3 : S32x1x4x128x128.Idx → EReal) (ix5 n 0 h r c)
      = (∑ e : Fin 512, mat x3 (row n r) (hv h e) * mat x2 (row n c) (hv h e)) * tM h.val r.val c.val := by
  pointwise [val_main_v116, val_main_v115, val_main_v78, val_main_v114]
  simp only [r12, r96, r37]

theorem div128 (n : Fin 32) (r : Fin 128) (h : (128 * n.val + r.val) / 128 < 32) : (⟨(128 * n.val + r.val) / 128, h⟩ : Fin 32) = n :=
  Fin.ext (by show (128 * n.val + r.val) / 128 = n.val; omega)
theorem mod128 (n : Fin 32) (r : Fin 128) (h : (128 * n.val + r.val) % 128 < 128) : (⟨(128 * n.val + r.val) % 128, h⟩ : Fin 128) = r :=
  Fin.ext (by show (128 * n.val + r.val) % 128 = r.val; omega)
theorem div512 (n : Fin 4) (r : Fin 512) (h : (512 * n.val + r.val) / 512 < 4) : (⟨(512 * n.val + r.val) / 512, h⟩ : Fin 4) = n :=
  Fin.ext (by show (512 * n.val + r.val) / 512 = n.val; omega)
theorem mod512 (n : Fin 4) (r : Fin 512) (h : (512 * n.val + r.val) % 512 < 512) : (⟨(512 * n.val + r.val) % 512, h⟩ : Fin 512) = r :=
  Fin.ext (by show (512 * n.val + r.val) % 512 = r.val; omega)
theorem div256 (n : Fin 4) (r : Fin 256) (h : (256 * n.val + r.val) / 256 < 4) : (⟨(256 * n.val + r.val) / 256, h⟩ : Fin 4) = n :=
  Fin.ext (by show (256 * n.val + r.val) / 256 = n.val; omega)
theorem mod256 (n : Fin 4) (r : Fin 256) (h : (256 * n.val + r.val) % 256 < 256) : (⟨(256 * n.val + r.val) % 256, h⟩ : Fin 256) = r :=
  Fin.ext (by show (256 * n.val + r.val) % 256 = r.val; omega)

theorem r94 (n : Fin 32) (r : Fin 128) (h : Fin 4) (e : Fin 512) :
    (val_main_v94 (F := Ideal) x0 x1 x2 : S4096x2048.Idx → EReal) (ix2 (row n r) (hv h e)) = gO (mat x0) (mat x1) (mat x2) n r h e := by
  pointwise [val_main_v94, val_main_v93]
  simp only [div128, mod128, div512, mod512]
  pointwise [val_main_v92, val_main_v91, val_main_v90, val_main_v89, val_main_v88, val_main_v81]
  simp only [r80, r87, r8, r12, r46]
  rfl

theorem r129 (n : Fin 32) (r : Fin 128) (h : Fin 4) (d : Fin 256) :
    (val_main_v129 (F := Ideal) x1 x2 x3 : S4096x1024.Idx → EReal) (ix2 (row n r) (hq h d)) = gDQ (mat x1) (mat x2) (mat x3) n r h d := by
  pointwise [val_main_v129, val_main_v126, val_main_v125]
  simp only [div128, mod128, div256, mod256]
  pointwise [val_main_v120, val_main_v119, val_main_v101, val_main_v100, val_main_v99, val_main_v89, val_main_v88]
  simp only [r116, r87, r10, r96, r46]
  exact (add_comm _ _).trans (congrArg₂ (· + ·) rfl (mul_comm _ _))
theorem r128 (n : Fin 32) (r : Fin 128) (h : Fin 4) (d : Fin 256) :
    (val_main_v128 (F := Ideal) x0 x2 x3 : S4096x1024.Idx → EReal) (ix2 (row n r) (hq h d)) = gDK (mat x0) (mat x2) (mat x3) n r h d := by
  pointwise [val_main_v128, val_main_v124, val_main_v123]
  simp only [div128, mod128, div256, mod256]
  pointwise [val_main_v118, val_main_v117, val_main_v110, val_main_v109, val_main_v108, val_main_v107, val_main_v83, val_main_v82]
  simp only [r116, r104, r8, r12, r55]
  refine (add_comm _ _).trans (congrArg₂ (· + ·) rfl ((mul_comm _ _).trans (congrArg₂ (· * ·) rfl ?_)))
  exact Finset.sum_congr rfl fun e _ => mul_comm _ _
theorem r130 (n : Fin 32) (r : Fin 128) (h : Fin 4) (e : Fin 512) :
    (val_main_v130 (F := Ideal) x0 x1 x3 : S4096x2048.Idx → EReal) (ix2 (row n r) (hv h e)) = gDV (mat x0) (mat x1) (mat x3) n r h e := by
  pointwise [val_main_v130, val_main_v127, val_main_v122, val_main_v121]
  simp only [div128, mod128, div512, mod512]
  pointwise [val_main_v113, val_main_v112, val_main_v111, val_main_v106, val_main_v105, val_main_v84, val_main_v83, val_main_v82]
  simp only [r80, r104, r10, r96, r55]
  refine (add_comm _ _).trans (congrArg₂ (· + ·) ?_ ?_)
  · exact Finset.sum_congr rfl fun c _ => mul_comm _ _
  · exact Finset.sum_congr rfl fun d _ => mul_comm _ _

end Cert.ReferenceIdeal.Ret

end
-- ==== Proof.Ret.Claims.lean ====
/- The retention's claims: both programs run and leave their arguments and counters as they were, and over the reals the
   two calls' output and gradients are the reference's. -/
module

public import proofs.«01_k».proof.Defs
public import proofs.«01_k».proof.Proof.Gen.Kernel
public import proofs.«01_k».proof.Proof.Gen.ReferenceIdeal.Run
public import proofs.«01_k».proof.Proof.Gen.ReferenceIdeal.Read
public import proofs.«01_k».proof.Proof.Ret.Final
public import proofs.«01_k».proof.Proof.Ret.RefRead
public import Idealize.ShloMosaic.Lib.Quiescent

@[expose] public section

set_option maxRecDepth 16384

noncomputable section

namespace Cert.Ret

open Idealize.ShloMosaic Idealize.ShloMosaic.TcCoe Idealize.SL.Sem

/-- Two arrays of q's width that agree on every chunk and head are equal. -/
theorem ext_q {x y : (⟨2, ![4096, 1024]⟩ : Shape).Idx → EReal}
    (h : ∀ n r hd d, x (ix2 (row n r) (hq hd d)) = y (ix2 (row n r) (hq hd d))) : x = y := by
  funext i
  rw [eq_ix2 i]
  have h0 : (i 0).val < 4096 := (i 0).isLt
  have h1 : (i 1).val < 1024 := (i 1).isLt
  have e := h ⟨(i 0).val / 128, by omega⟩ ⟨(i 0).val % 128, by omega⟩ ⟨(i 1).val / 256, by omega⟩ ⟨(i 1).val % 256, by omega⟩
  rwa [show row ⟨(i 0).val / 128, by omega⟩ ⟨(i 0).val % 128, by omega⟩ = i 0 from Fin.ext (Nat.div_add_mod _ _),
    show hq ⟨(i 1).val / 256, by omega⟩ ⟨(i 1).val % 256, by omega⟩ = i 1 from Fin.ext (Nat.div_add_mod _ _)] at e

/-- The same at v's width. -/
theorem ext_v {x y : (⟨2, ![4096, 2048]⟩ : Shape).Idx → EReal}
    (h : ∀ n r hd d, x (ix2 (row n r) (hv hd d)) = y (ix2 (row n r) (hv hd d))) : x = y := by
  funext i
  rw [eq_ix2 i]
  have h0 : (i 0).val < 4096 := (i 0).isLt
  have h1 : (i 1).val < 2048 := (i 1).isLt
  have e := h ⟨(i 0).val / 128, by omega⟩ ⟨(i 0).val % 128, by omega⟩ ⟨(i 1).val / 512, by omega⟩ ⟨(i 1).val % 512, by omega⟩
  rwa [show row ⟨(i 0).val / 128, by omega⟩ ⟨(i 0).val % 128, by omega⟩ = i 0 from Fin.ext (Nat.div_add_mod _ _),
    show hv ⟨(i 1).val / 512, by omega⟩ ⟨(i 1).val % 512, by omega⟩ = i 1 from Fin.ext (Nat.div_add_mod _ _)] at e

set_option maxHeartbeats 2000000 in
/-- The two programs' body tables are the same: label by label, the same text. -/
theorem bodies_eq : Cert.Kernel.defs₀ (F := Bits) = Cert.KernelIdeal.defs₀ (F := Bits) :=
  congrArg Defs.onTc (funext fun ℓ => funext fun a => match ℓ, a with
    | 0, (_, _) => rfl
    | 1, (_, _) => rfl)

set_option maxHeartbeats 2000000 in
theorem defs_eq : Cert.Kernel.defs (F := Bits) = Cert.KernelIdeal.defs (F := Bits) :=
  congrArg (Pipeline.defs (Cert.KernelIdeal.pcfgs (F := Bits))) bodies_eq

set_option maxHeartbeats 2000000 in
theorem main_eq : Cert.Kernel.main (F := Bits) = Cert.KernelIdeal.main (F := Bits) := rfl

set_option maxHeartbeats 2000000 in
/-- The kernel at the bit patterns: the run is the idealized program's, whose text is the same. -/
theorem frame_kernel : Cert.quiescent_Kernel := by
  intro m ρ _
  rw [defs_eq, main_eq]
  exact Cert.KernelIdeal.Ret.frame (F := Bits) m ρ

theorem frame_kernelIdeal : Cert.quiescent_KernelIdeal := fun m ρ _ => Cert.KernelIdeal.Ret.frame (F := Ideal) m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

open Cert.ReferenceIdeal.Ret Cert.ReferenceIdeal.Read Cert.KernelIdeal.Ret in
/-- Over the reals, the output and the three gradients are the reference's. -/
theorem algebraic : Cert.algebraic_KernelIdeal_ReferenceIdeal := by
  intro m ρ m' ρ' _ hagree
  refine ⟨fun c => (dat0 (V3 m ρ) c).arrAt 7 Cert.KernelIdeal.cfg0.N, fun c => (dat1 (V4 m ρ) c).arrAt 9 Cert.KernelIdeal.cfg1.N,
    fun c => (dat1 (V4 m ρ) c).arrAt 10 Cert.KernelIdeal.cfg1.N, fun c => (dat1 (V4 m ρ) c).arrAt 11 Cert.KernelIdeal.cfg1.N,
    run_vals m ρ, (θ_run Cert.ReferenceIdeal.defs _ _).mono (fun r h c => ?_) (Cert.ReferenceIdeal.Value.run (F := Ideal) m' ρ')⟩
  obtain ⟨e0, e1, e2, e3⟩ := hagree c
  obtain ⟨r0, r1, r2, r3, ra⟩ := h c
  refine ⟨r0.trans ?_, r1.trans ?_, r2.trans ?_, r3.trans ?_, ra⟩
  · rw [val_main_v94_eq, e0, e1, e2]
    exact ext_v fun n r hd e => (r94 _ _ _ n r hd e).trans (fin_o m ρ c n r hd e).symm
  · rw [val_main_v129_eq, e1, e2, e3]
    exact ext_q fun n r hd e => (r129 _ _ _ n r hd e).trans (fin_dq m ρ c n r hd e).symm
  · rw [val_main_v128_eq, e0, e2, e3]
    exact ext_q fun n r hd e => (r128 _ _ _ n r hd e).trans (fin_dk m ρ c n r hd e).symm
  · rw [val_main_v130_eq, e0, e1, e3]
    exact ext_v fun n r hd e => (r130 _ _ _ n r hd e).trans (fin_dv m ρ c n r hd e).symm

end Cert.Ret

end
-- ==== Proof.Mlp.Launch.lean ====
/- The run of the feed-forward program for any float values: its three results end at what the calls' write-backs leave,
   and the arguments and the counters as launched. -/
module

public import proofs.«01_k».proof.Proof.Gen.MlpIdeal.Frame

@[expose] public section

set_option maxRecDepth 16384

noncomputable section

namespace Cert.MlpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.MlpIdeal Cert.MlpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each call finds -/

theorem V1_r (c : Dev nD) : V1 m ρ c main_v0 = (dat0 (V0 m ρ) c).arrAt 2 cfg0.N := W1_arr m ρ c 2
theorem V2_r (c : Dev nD) : V2 m ρ c main_v0 = (dat0 (V0 m ρ) c).arrAt 2 cfg0.N :=
  (W2_of m ρ c main_v0 (by decide +kernel)).trans (V1_r m ρ c)
theorem V3_r (c : Dev nD) : V3 m ρ c main_v0 = (dat0 (V0 m ρ) c).arrAt 2 cfg0.N :=
  (W3_of m ρ c main_v0 (by decide +kernel)).trans (V2_r m ρ c)
theorem V4_da (c : Dev nD) : V4 m ρ c main_v2 = (dat2 (V2 m ρ) c).arrAt 3 cfg2.N :=
  (W4_of m ρ c main_v2 (by decide +kernel)).trans (W3_arr m ρ c 3)

/-! ## The results at the end -/

theorem W5_y (c : Dev nD) : W5 m ρ c (Proc.devRef .tc main_v1) = (dat1 (V1 m ρ) c).arrAt 2 cfg1.N :=
  (W5_of m ρ c main_v1 (by decide +kernel)).trans ((W4_of m ρ c main_v1 (by decide +kernel)).trans
    ((W3_of m ρ c main_v1 (by decide +kernel)).trans (W2_arr m ρ c 2)))
theorem W5_dwd (c : Dev nD) : W5 m ρ c (Proc.devRef .tc main_v3) = (dat3 (V3 m ρ) c).arrAt 2 cfg3.N :=
  (W5_of m ρ c main_v3 (by decide +kernel)).trans (W4_arr m ρ c 2)
theorem W5_dwu (c : Dev nD) : W5 m ρ c (Proc.devRef .tc main_v4) = (dat4 (V4 m ρ) c).arrAt 2 cfg4.N := W5_arr m ρ c 2

set_option backward.isDefEq.respectTransparency.types false in
/-- The run: every weakly fair execution terminates with the results and arguments so. -/
theorem run_vals : θ_run defs (onTc (τ := τ) (main (F := F))) ⟨m, fun _ => 0, ρ⟩ (fun r => (∀ c : Dev nD,
      r.2.mem ((c.tc : Thread nD τ).loc main_v1) = (dat1 (V1 m ρ) c).arrAt 2 cfg1.N
      ∧ r.2.mem ((c.tc : Thread nD τ).loc main_v4) = (dat4 (V4 m ρ) c).arrAt 2 cfg4.N
      ∧ r.2.mem ((c.tc : Thread nD τ).loc main_v3) = (dat3 (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_v1 (by decide))).trans (W5_y m ρ c),
       (h c _ (mem_uc main_v4 (by decide))).trans (W5_dwu m ρ c),
       (h c _ (mem_uc main_v3 (by decide))).trans (W5_dwd m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩), funext fun g => hz g (.inr (no_unscoped g.2))⟩)

end Cert.MlpIdeal.Hand

end
-- ==== Proof.Mlp.Model.lean ====
/- The step of the feed-forward layer as sums: the rectified hidden layer, its square through the second product, and
   the gradients of the two weight matrices. The weights come in eight pieces of 512 hidden columns, as the devices hold
   them; hidden column `j` is column `j % 512` of piece `j / 512`. -/
module

public import Idealize.ShloMosaic.PureOps.Ideal
public import Mathlib.Data.EReal.Operations
public import Mathlib.Algebra.BigOperators.Fin

@[expose] public section

noncomputable section

namespace Cert.MlpMath

open scoped BigOperators

/-- The piece of a hidden column. -/
def pc (j : Fin 4096) : Fin 8 := ⟨j.val / 512, by omega⟩
/-- Its place in the piece. -/
def pl (j : Fin 4096) : Fin 512 := ⟨j.val % 512, by omega⟩
/-- The hidden column at place `l` of piece `p`. -/
def col (p : Fin 8) (l : Fin 512) : Fin 4096 := ⟨512 * p.val + l.val, by omega⟩

theorem pc_col (p : Fin 8) (l : Fin 512) : pc (col p l) = p := Fin.ext (by show (512 * p.val + l.val) / 512 = p.val; omega)
theorem pl_col (p : Fin 8) (l : Fin 512) : pl (col p l) = l := Fin.ext (by show (512 * p.val + l.val) % 512 = l.val; omega)
theorem col_pc_pl (j : Fin 4096) : col (pc j) (pl j) = j := Fin.ext (by show 512 * (j.val / 512) + j.val % 512 = j.val; omega)

variable (u : Fin 4096 → Fin 1024 → EReal) (wu : Fin 8 → Fin 1024 → Fin 512 → EReal) (wd : Fin 8 → Fin 512 → Fin 1024 → EReal)
  (g : Fin 4096 → Fin 1024 → EReal)

/-- The hidden layer before the rectifier. -/
def hid (i : Fin 4096) (j : Fin 4096) : EReal := ∑ k : Fin 1024, u i k * wu (pc j) k (pl j)
/-- The rectified hidden layer. -/
def rel (i : Fin 4096) (j : Fin 4096) : EReal := max (hid u wu i j) 0
/-- The output. -/
def out (i : Fin 4096) (n : Fin 1024) : EReal := ∑ j : Fin 4096, rel u wu i j * rel u wu i j * wd (pc j) (pl j) n
/-- The gradient of the square. -/
def dsq (i : Fin 4096) (j : Fin 4096) : EReal := ∑ n : Fin 1024, g i n * wd (pc j) (pl j) n
/-- The number two, as the programs' text names it. -/
def two : EReal := Idealize.ShloMosaic.Ideal.ofBits .f32 0x40000000#32
/-- The gradient of the hidden layer. -/
def dhid (i : Fin 4096) (j : Fin 4096) : EReal := dsq wd g i j * (two * rel u wu i j)
/-- The gradient of the second weights. -/
def dwd (p : Fin 8) (l : Fin 512) (n : Fin 1024) : EReal := ∑ i : Fin 4096, rel u wu i (col p l) * rel u wu i (col p l) * g i n
/-- The gradient of the first weights. -/
def dwu (p : Fin 8) (k : Fin 1024) (l : Fin 512) : EReal := ∑ i : Fin 4096, u i k * dhid u wu wd g i (col p l)

/-- Where the hidden layer is not positive the rectified one is zero, so the rectifier's mask changes nothing. -/
theorem dhid_mask (i : Fin 4096) (j : Fin 4096) : (if 0 < hid u wu i j then dhid u wu wd g i j else 0) = dhid u wu wd g i j := by
  by_cases h : 0 < hid u wu i j
  · exact if_pos h
  · rw [if_neg h, dhid, rel, max_eq_right (not_lt.mp h), mul_zero, mul_zero]

end Cert.MlpMath

end
-- ==== Proof.Mlp.Body.lean ====
/- What each of the five calls leaves in its output block, read at an index: one product each. -/
module

public import proofs.«01_k».proof.Proof.Gen.MlpIdeal.Frame
public import proofs.«01_k».proof.Proof.Mlp.Model
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.MlpIdeal.Hand

open Idealize.ShloMosaic Idealize.ShloMosaic.TcCoe Idealize.ShloMosaic.Tactic
open Cert.MlpIdeal Cert.MlpIdeal.Gen
open Cert.MlpMath (pc pl col two)
open scoped BigOperators

theorem out0_at (x0 : Vec Ideal S4096x1024 .bf16) (x1 : Vec Ideal S1x1024x512 .bf16) (i : Fin 4096) (l : Fin 512) :
    out0_2 x0 x1 (ix2 i l) = max (∑ k : Fin 1024, (x0 (ix2 i k) : EReal) * x1 (ix3 0 k l)) 0 := by
  unfold out0_2
  canon_tiles x hx using cover0_2 _ _
  all_goals open_payloads
  all_goals pointwise [k0_pay1]
  obtain rfl : i = x 0 := Fin.ext hx0
  obtain rfl : l = x 1 := Fin.ext hx1
  rfl

theorem out1_at (x0 : Vec Ideal S512x4096 .bf16) (x1 : Vec Ideal S8x512x1024 .bf16) (i : Fin 512) (n : Fin 1024) :
    out1_2 x0 x1 (ix2 i n) = ∑ j : Fin 4096, (x0 (ix2 i j) : EReal) * x0 (ix2 i j) * x1 (ix3 (pc j) (pl j) n) := by
  unfold out1_2
  canon_tiles x hx using cover1_2 _ _
  all_goals open_payloads
  all_goals pointwise [k1_pay1]
  obtain rfl : i = x 0 := Fin.ext hx0
  obtain rfl : n = x 1 := Fin.ext hx1
  rfl

theorem out2_at (x0 : Vec Ideal S2048x1024 .bf16) (x1 : Vec Ideal S1x512x1024 .bf16) (x2 : Vec Ideal S2048x512 .bf16) (i : Fin 2048) (l : Fin 512) :
    out2_3 x0 x1 x2 (ix2 i l) = (∑ n : Fin 1024, (x0 (ix2 i n) : EReal) * x1 (ix3 0 l n)) * (two * x2 (ix2 i l)) := by
  unfold out2_3
  canon_tiles x hx using cover2_3 _ _
  all_goals open_payloads
  all_goals pointwise [k2_pay1]
  obtain rfl : i = x 0 := Fin.ext hx0
  obtain rfl : l = x 1 := Fin.ext hx1
  exact congrArg (fun y => _ * (two * x2 y)) (eq_ix2 x)

theorem out3_at (x0 : Vec Ideal S4096x512 .bf16) (x1 : Vec Ideal S4096x1024 .bf16) (l : Fin 512) (n : Fin 1024) :
    out3_2 x0 x1 (ix3 0 l n) = ∑ i : Fin 4096, (x0 (ix2 i l) : EReal) * x0 (ix2 i l) * x1 (ix2 i n) := by
  unfold out3_2
  canon_tiles x hx using cover3_2 _ _
  all_goals open_payloads
  all_goals pointwise [k3_pay1]
  obtain rfl : l = x 1 := Fin.ext hx1
  obtain rfl : n = x 2 := Fin.ext hx2
  rfl

theorem out4_at (x0 : Vec Ideal S4096x1024 .bf16) (x1 : Vec Ideal S4096x512 .bf16) (k : Fin 1024) (l : Fin 512) :
    out4_2 x0 x1 (ix3 0 k l) = ∑ i : Fin 4096, (x0 (ix2 i k) : EReal) * x1 (ix2 i l) := by
  unfold out4_2
  canon_tiles x hx using cover4_2 _ _
  all_goals open_payloads
  all_goals pointwise [k4_pay1]
  obtain rfl : k = x 1 := Fin.ext hx1
  obtain rfl : l = x 2 := Fin.ext hx2
  rfl

end Cert.MlpIdeal.Hand

end
-- ==== Proof.Mlp.Win.lean ====
/- Where the blocks of the five calls' windows sit in their arrays: a piece of the weights, the columns of a piece, a
   band of rows, or the whole array. -/
module

public import proofs.«01_k».proof.Proof.Gen.MlpIdeal.Frame
public import proofs.«01_k».proof.Proof.Mlp.Model
public import Idealize.ShloMosaic.Lib.Pointwise
public import Idealize.ShloMosaic.Lib.Pipeline.ValueKit.Geometry

@[expose] public section

set_option maxRecDepth 16384

noncomputable section

namespace Cert.MlpIdeal.Hand

open Idealize.ShloMosaic Idealize.ShloMosaic.TcCoe Idealize.ShloMosaic.Tactic
open Cert.MlpIdeal Cert.MlpIdeal.Gen
open Cert.MlpMath (pc pl col)

variable (V : (c : Dev nD) → (b : Ref sig .tc) → Buf (Elt Ideal) ((c : Thread nD τ).loc b))

/-- A grid point of the first call as a piece of the weights. -/
abbrev T0 (t : Fin cfg0.N) : Fin 8 := ⟨t.val, t.isLt.trans_eq N_0⟩
/-- A grid point of the fourth call as a piece of the weights. -/
abbrev T3 (t : Fin cfg3.N) : Fin 8 := ⟨t.val, t.isLt.trans_eq N_3⟩
/-- A grid point of the fifth call as a piece of the weights. -/
abbrev T4 (t : Fin cfg4.N) : Fin 8 := ⟨t.val, t.isLt.trans_eq N_4⟩
/-- A row of the second call's block `t`. -/
def row1 (t : Fin cfg1.N) (r : Fin 512) : Fin 4096 := ⟨512 * t.val + r.val, by have : t.val < 8 := t.isLt.trans_eq N_1; omega⟩
/-- A row of the third call's block at point `t`. -/
def row2 (t : Fin cfg2.N) (r : Fin 2048) : Fin 4096 := ⟨2048 * (t.val / 8) + r.val, by have : t.val < 16 := t.isLt.trans_eq N_2; omega⟩
/-- The third call's piece of the weights at point `t`. -/
def T2 (t : Fin cfg2.N) : Fin 8 := ⟨t.val % 8, by omega⟩

/-! ## The first call -/

theorem ix0_0 : ∀ t : Fin cfg0.N, win0_0.index t (0 : Fin 2) = 0 ∧ win0_0.index t (1 : Fin 2) = 0 :=
  (by decide +kernel : ∀ t : Fin grid0.N, _)
theorem emb0_0 (t : Fin cfg0.N) (i : Fin 4096) (k : Fin 1024) : ((cfg0.win 0).blk t).view.emb (ix2 i k) = ix2 i k := by
  obtain ⟨e0, e1⟩ := ix0_0 t
  funext a; apply Fin.ext
  match a with
  | ⟨0, _⟩ => show win0_0.index t (0 : Fin 2) * 4096 + 1 * i.val = i.val; rw [e0]; omega
  | ⟨1, _⟩ => show win0_0.index t (1 : Fin 2) * 1024 + 1 * k.val = k.val; rw [e1]; omega
theorem blk0_0 (c : Dev nD) (t : Fin cfg0.N) (i : Fin 4096) (k : Fin 1024) :
    (iblk0 V c 0 t : S4096x1024.Idx → EReal) (ix2 i k) = (V c main_arg0 : S4096x1024.Idx → EReal) (ix2 i k) :=
  congrArg (V c main_arg0) (emb0_0 t i k)

theorem ix0_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem emb0_1 (t : Fin cfg0.N) (p : Fin 1) (k : Fin 1024) (l : Fin 512) : ((cfg0.win 1).blk t).view.emb (ix3 p k l) = ix3 (T0 t) k l := by
  obtain ⟨e0, e1, e2⟩ := ix0_1 t
  funext a; apply Fin.ext
  match a with
  | ⟨0, _⟩ => show win0_1.index t (0 : Fin 3) * 1 + 1 * p.val = t.val; rw [e0]; omega
  | ⟨1, _⟩ => show win0_1.index t (1 : Fin 3) * 1024 + 1 * k.val = k.val; rw [e1]; omega
  | ⟨2, _⟩ => show win0_1.index t (2 : Fin 3) * 512 + 1 * l.val = l.val; rw [e2]; omega
theorem blk0_1 (c : Dev nD) (t : Fin cfg0.N) (p : Fin 1) (k : Fin 1024) (l : Fin 512) :
    (iblk0 V c 1 t : S1x1024x512.Idx → EReal) (ix3 p k l) = (V c main_arg1 : S8x1024x512.Idx → EReal) (ix3 (T0 t) k l) :=
  congrArg (V c main_arg1) (emb0_1 t p k l)

theorem ix0_2 : ∀ t : Fin cfg0.N, win0_2.index t (0 : Fin 2) = 0 ∧ win0_2.index t (1 : Fin 2) = t.val :=
  (by decide +kernel : ∀ t : Fin grid0.N, _)
theorem emb0_2 (t : Fin cfg0.N) (i : Fin 4096) (l : Fin 512) : ((cfg0.win 2).blk t).view.emb (ix2 i l) = ix2 i (col (T0 t) l) := by
  obtain ⟨e0, e1⟩ := ix0_2 t
  funext a; apply Fin.ext
  match a with
  | ⟨0, _⟩ => show win0_2.index t (0 : Fin 2) * 4096 + 1 * i.val = i.val; rw [e0]; omega
  | ⟨1, _⟩ => show win0_2.index t (1 : Fin 2) * 512 + 1 * l.val = 512 * (t.val) + l.val; rw [e1]; omega
theorem flush0 : ∀ t : Fin cfg0.N, (cfg0.win 2).flush t = true := (by decide +kernel : ∀ t : Fin grid0.N, win0_2.flush t = true)
theorem disj0 : ∀ t t' : Fin cfg0.N, (cfg0.win 2).flush t = true → (cfg0.win 2).flush t' = true → t ≠ t' →
    Disjoint ((cfg0.win 2).blk t).view.set ((cfg0.win 2).blk t').view.set :=
  (cfg0.win 2).hdisj_of_index_inj
    (by decide +kernel : ∀ t t' : Fin grid0.N, win0_2.flush t = true → win0_2.flush t' = true → win0_2.index t = win0_2.index t' → t = t')

/-! ## The second call -/

theorem ix1_0 : ∀ t : Fin cfg1.N, win1_0.index t (0 : Fin 2) = t.val ∧ win1_0.index t (1 : Fin 2) = 0 :=
  (by decide +kernel : ∀ t : Fin grid1.N, _)
theorem emb1_0 (t : Fin cfg1.N) (r : Fin 512) (j : Fin 4096) : ((cfg1.win 0).blk t).view.emb (ix2 r j) = ix2 (row1 t r) j := by
  obtain ⟨e0, e1⟩ := ix1_0 t
  funext a; apply Fin.ext
  match a with
  | ⟨0, _⟩ => show win1_0.index t (0 : Fin 2) * 512 + 1 * r.val = 512 * t.val + r.val; rw [e0]; omega
  | ⟨1, _⟩ => show win1_0.index t (1 : Fin 2) * 4096 + 1 * j.val = j.val; rw [e1]; omega
theorem blk1_0 (c : Dev nD) (t : Fin cfg1.N) (r : Fin 512) (j : Fin 4096) :
    (iblk1 V c 0 t : S512x4096.Idx → EReal) (ix2 r j) = (V c main_v0 : S4096x4096.Idx → EReal) (ix2 (row1 t r) j) :=
  congrArg (V c main_v0) (emb1_0 t r j)

theorem ix1_1 : ∀ t : Fin cfg1.N, win1_1.index t (0 : Fin 3) = 0 ∧ win1_1.index t (1 : Fin 3) = 0 ∧ win1_1.index t (2 : Fin 3) = 0 :=
  (by decide +kernel : ∀ t : Fin grid1.N, _)
theorem emb1_1 (t : Fin cfg1.N) (p : Fin 8) (l : Fin 512) (n : Fin 1024) : ((cfg1.win 1).blk t).view.emb (ix3 p l n) = ix3 p l n := by
  obtain ⟨e0, e1, e2⟩ := ix1_1 t
  funext a; apply Fin.ext
  match a with
  | ⟨0, _⟩ => show win1_1.index t (0 : Fin 3) * 8 + 1 * p.val = p.val; rw [e0]; omega
  | ⟨1, _⟩ => show win1_1.index t (1 : Fin 3) * 512 + 1 * l.val = l.val; rw [e1]; omega
  | ⟨2, _⟩ => show win1_1.index t (2 : Fin 3) * 1024 + 1 * n.val = n.val; rw [e2]; omega
theorem blk1_1 (c : Dev nD) (t : Fin cfg1.N) (p : Fin 8) (l : Fin 512) (n : Fin 1024) :
    (iblk1 V c 1 t : S8x512x1024.Idx → EReal) (ix3 p l n) = (V c main_arg2 : S8x512x1024.Idx → EReal) (ix3 p l n) :=
  congrArg (V c main_arg2) (emb1_1 t p l n)

theorem ix1_2 : ∀ t : Fin cfg1.N, win1_2.index t (0 : Fin 2) = t.val ∧ win1_2.index t (1 : Fin 2) = 0 :=
  (by decide +kernel : ∀ t : Fin grid1.N, _)
theorem emb1_2 (t : Fin cfg1.N) (r : Fin 512) (n : Fin 1024) : ((cfg1.win 2).blk t).view.emb (ix2 r n) = ix2 (row1 t r) n := by
  obtain ⟨e0, e1⟩ := ix1_2 t
  funext a; apply Fin.ext
  match a with
  | ⟨0, _⟩ => show win1_2.index t (0 : Fin 2) * 512 + 1 * r.val = 512 * t.val + r.val; rw [e0]; omega
  | ⟨1, _⟩ => show win1_2.index t (1 : Fin 2) * 1024 + 1 * n.val = n.val; rw [e1]; omega
theorem flush1 : ∀ t : Fin cfg1.N, (cfg1.win 2).flush t = true := (by decide +kernel : ∀ t : Fin grid1.N, win1_2.flush t = true)
theorem disj1 : ∀ t t' : Fin cfg1.N, (cfg1.win 2).flush t = true → (cfg1.win 2).flush t' = true → t ≠ t' →
    Disjoint ((cfg1.win 2).blk t).view.set ((cfg1.win 2).blk t').view.set :=
  (cfg1.win 2).hdisj_of_index_inj
    (by decide +kernel : ∀ t t' : Fin grid1.N, win1_2.flush t = true → win1_2.flush t' = true → win1_2.index t = win1_2.index t' → t = t')

/-! ## The third call -/

theorem ix2_0 : ∀ t : Fin cfg2.N, win2_0.index t (0 : Fin 2) = t.val / 8 ∧ win2_0.index t (1 : Fin 2) = 0 :=
  (by decide +kernel : ∀ t : Fin grid2.N, _)
theorem emb2_0 (t : Fin cfg2.N) (r : Fin 2048) (n : Fin 1024) : ((cfg2.win 0).blk t).view.emb (ix2 r n) = ix2 (row2 t r) n := by
  obtain ⟨e0, e1⟩ := ix2_0 t
  funext a; apply Fin.ext
  match a with
  | ⟨0, _⟩ => show win2_0.index t (0 : Fin 2) * 2048 + 1 * r.val = 2048 * (t.val / 8) + r.val; rw [e0]; omega
  | ⟨1, _⟩ => show win2_0.index t (1 : Fin 2) * 1024 + 1 * n.val = n.val; rw [e1]; omega
theorem blk2_0 (c : Dev nD) (t : Fin cfg2.N) (r : Fin 2048) (n : Fin 1024) :
    (iblk2 V c 0 t : S2048x1024.Idx → EReal) (ix2 r n) = (V c main_arg3 : S4096x1024.Idx → EReal) (ix2 (row2 t r) n) :=
  congrArg (V c main_arg3) (emb2_0 t r n)

theorem ix2_1 : ∀ t : Fin cfg2.N, win2_1.index t (0 : Fin 3) = t.val % 8 ∧ win2_1.index t (1 : Fin 3) = 0 ∧ win2_1.index t (2 : Fin 3) = 0 :=
  (by decide +kernel : ∀ t : Fin grid2.N, _)
theorem emb2_1 (t : Fin cfg2.N) (p : Fin 1) (l : Fin 512) (n : Fin 1024) : ((cfg2.win 1).blk t).view.emb (ix3 p l n) = ix3 (T2 t) l n := by
  obtain ⟨e0, e1, e2⟩ := ix2_1 t
  funext a; apply Fin.ext
  match a with
  | ⟨0, _⟩ => show win2_1.index t (0 : Fin 3) * 1 + 1 * p.val = t.val % 8; rw [e0]; omega
  | ⟨1, _⟩ => show win2_1.index t (1 : Fin 3) * 512 + 1 * l.val = l.val; rw [e1]; omega
  | ⟨2, _⟩ => show win2_1.index t (2 : Fin 3) * 1024 + 1 * n.val = n.val; rw [e2]; omega
theorem blk2_1 (c : Dev nD) (t : Fin cfg2.N) (p : Fin 1) (l : Fin 512) (n : Fin 1024) :
    (iblk2 V c 1 t : S1x512x1024.Idx → EReal) (ix3 p l n) = (V c main_arg2 : S8x512x1024.Idx → EReal) (ix3 (T2 t) l n) :=
  congrArg (V c main_arg2) (emb2_1 t p l n)

theorem ix2_2 : ∀ t : Fin cfg2.N, win2_2.index t (0 : Fin 2) = t.val / 8 ∧ win2_2.index t (1 : Fin 2) = t.val % 8 :=
  (by decide +kernel : ∀ t : Fin grid2.N, _)
theorem emb2_2 (t : Fin cfg2.N) (r : Fin 2048) (l : Fin 512) : ((cfg2.win 2).blk t).view.emb (ix2 r l) = ix2 (row2 t r) (col (T2 t) l) := by
  obtain ⟨e0, e1⟩ := ix2_2 t
  funext a; apply Fin.ext
  match a with
  | ⟨0, _⟩ => show win2_2.index t (0 : Fin 2) * 2048 + 1 * r.val = 2048 * (t.val / 8) + r.val; rw [e0]; omega
  | ⟨1, _⟩ => show win2_2.index t (1 : Fin 2) * 512 + 1 * l.val = 512 * (t.val % 8) + l.val; rw [e1]; omega
theorem blk2_2 (c : Dev nD) (t : Fin cfg2.N) (r : Fin 2048) (l : Fin 512) :
    (iblk2 V c 2 t : S2048x512.Idx → EReal) (ix2 r l) = (V c main_v0 : S4096x4096.Idx → EReal) (ix2 (row2 t r) (col (T2 t) l)) :=
  congrArg (V c main_v0) (emb2_2 t r l)

theorem ix2_3 : ∀ t : Fin cfg2.N, win2_3.index t (0 : Fin 2) = t.val / 8 ∧ win2_3.index t (1 : Fin 2) = t.val % 8 :=
  (by decide +kernel : ∀ t : Fin grid2.N, _)
theorem emb2_3 (t : Fin cfg2.N) (r : Fin 2048) (l : Fin 512) : ((cfg2.win 3).blk t).view.emb (ix2 r l) = ix2 (row2 t r) (col (T2 t) l) := by
  obtain ⟨e0, e1⟩ := ix2_3 t
  funext a; apply Fin.ext
  match a with
  | ⟨0, _⟩ => show win2_3.index t (0 : Fin 2) * 2048 + 1 * r.val = 2048 * (t.val / 8) + r.val; rw [e0]; omega
  | ⟨1, _⟩ => show win2_3.index t (1 : Fin 2) * 512 + 1 * l.val = 512 * (t.val % 8) + l.val; rw [e1]; omega
theorem flush2 : ∀ t : Fin cfg2.N, (cfg2.win 3).flush t = true := (by decide +kernel : ∀ t : Fin grid2.N, win2_3.flush t = true)
theorem disj2 : ∀ t t' : Fin cfg2.N, (cfg2.win 3).flush t = true → (cfg2.win 3).flush t' = true → t ≠ t' →
    Disjoint ((cfg2.win 3).blk t).view.set ((cfg2.win 3).blk t').view.set :=
  (cfg2.win 3).hdisj_of_index_inj
    (by decide +kernel : ∀ t t' : Fin grid2.N, win2_3.flush t = true → win2_3.flush t' = true → win2_3.index t = win2_3.index t' → t = t')

/-! ## The fourth call -/

theorem ix3_0 : ∀ t : Fin cfg3.N, win3_0.index t (0 : Fin 2) = 0 ∧ win3_0.index t (1 : Fin 2) = t.val :=
  (by decide +kernel : ∀ t : Fin grid3.N, _)
theorem emb3_0 (t : Fin cfg3.N) (i : Fin 4096) (l : Fin 512) : ((cfg3.win 0).blk t).view.emb (ix2 i l) = ix2 i (col (T3 t) l) := by
  obtain ⟨e0, e1⟩ := ix3_0 t
  funext a; apply Fin.ext
  match a with
  | ⟨0, _⟩ => show win3_0.index t (0 : Fin 2) * 4096 + 1 * i.val = i.val; rw [e0]; omega
  | ⟨1, _⟩ => show win3_0.index t (1 : Fin 2) * 512 + 1 * l.val = 512 * (t.val) + l.val; rw [e1]; omega
theorem blk3_0 (c : Dev nD) (t : Fin cfg3.N) (i : Fin 4096) (l : Fin 512) :
    (iblk3 V c 0 t : S4096x512.Idx → EReal) (ix2 i l) = (V c main_v0 : S4096x4096.Idx → EReal) (ix2 i (col (T3 t) l)) :=
  congrArg (V c main_v0) (emb3_0 t i l)

theorem ix3_1 : ∀ t : Fin cfg3.N, win3_1.index t (0 : Fin 2) = 0 ∧ win3_1.index t (1 : Fin 2) = 0 :=
  (by decide +kernel : ∀ t : Fin grid3.N, _)
theorem emb3_1 (t : Fin cfg3.N) (i : Fin 4096) (n : Fin 1024) : ((cfg3.win 1).blk t).view.emb (ix2 i n) = ix2 i n := by
  obtain ⟨e0, e1⟩ := ix3_1 t
  funext a; apply Fin.ext
  match a with
  | ⟨0, _⟩ => show win3_1.index t (0 : Fin 2) * 4096 + 1 * i.val = i.val; rw [e0]; omega
  | ⟨1, _⟩ => show win3_1.index t (1 : Fin 2) * 1024 + 1 * n.val = n.val; rw [e1]; omega
theorem blk3_1 (c : Dev nD) (t : Fin cfg3.N) (i : Fin 4096) (n : Fin 1024) :
    (iblk3 V c 1 t : S4096x1024.Idx → EReal) (ix2 i n) = (V c main_arg3 : S4096x1024.Idx → EReal) (ix2 i n) :=
  congrArg (V c main_arg3) (emb3_1 t i n)

theorem ix3_2 : ∀ t : Fin cfg3.N, win3_2.index t (0 : Fin 3) = t.val ∧ win3_2.index t (1 : Fin 3) = 0 ∧ win3_2.index t (2 : Fin 3) = 0 :=
  (by decide +kernel : ∀ t : Fin grid3.N, _)
theorem emb3_2 (t : Fin cfg3.N) (p : Fin 1) (l : Fin 512) (n : Fin 1024) : ((cfg3.win 2).blk t).view.emb (ix3 p l n) = ix3 (T3 t) l n := by
  obtain ⟨e0, e1, e2⟩ := ix3_2 t
  funext a; apply Fin.ext
  match a with
  | ⟨0, _⟩ => show win3_2.index t (0 : Fin 3) * 1 + 1 * p.val = t.val; rw [e0]; omega
  | ⟨1, _⟩ => show win3_2.index t (1 : Fin 3) * 512 + 1 * l.val = l.val; rw [e1]; omega
  | ⟨2, _⟩ => show win3_2.index t (2 : Fin 3) * 1024 + 1 * n.val = n.val; rw [e2]; omega
theorem flush3 : ∀ t : Fin cfg3.N, (cfg3.win 2).flush t = true := (by decide +kernel : ∀ t : Fin grid3.N, win3_2.flush t = true)
theorem disj3 : ∀ t t' : Fin cfg3.N, (cfg3.win 2).flush t = true → (cfg3.win 2).flush t' = true → t ≠ t' →
    Disjoint ((cfg3.win 2).blk t).view.set ((cfg3.win 2).blk t').view.set :=
  (cfg3.win 2).hdisj_of_index_inj
    (by decide +kernel : ∀ t t' : Fin grid3.N, win3_2.flush t = true → win3_2.flush t' = true → win3_2.index t = win3_2.index t' → t = t')

/-! ## The fifth call -/

theorem ix4_0 : ∀ t : Fin cfg4.N, win4_0.index t (0 : Fin 2) = 0 ∧ win4_0.index t (1 : Fin 2) = 0 :=
  (by decide +kernel : ∀ t : Fin grid4.N, _)
theorem emb4_0 (t : Fin cfg4.N) (i : Fin 4096) (k : Fin 1024) : ((cfg4.win 0).blk t).view.emb (ix2 i k) = ix2 i k := by
  obtain ⟨e0, e1⟩ := ix4_0 t
  funext a; apply Fin.ext
  match a with
  | ⟨0, _⟩ => show win4_0.index t (0 : Fin 2) * 4096 + 1 * i.val = i.val; rw [e0]; omega
  | ⟨1, _⟩ => show win4_0.index t (1 : Fin 2) * 1024 + 1 * k.val = k.val; rw [e1]; omega
theorem blk4_0 (c : Dev nD) (t : Fin cfg4.N) (i : Fin 4096) (k : Fin 1024) :
    (iblk4 V c 0 t : S4096x1024.Idx → EReal) (ix2 i k) = (V c main_arg0 : S4096x1024.Idx → EReal) (ix2 i k) :=
  congrArg (V c main_arg0) (emb4_0 t i k)

theorem ix4_1 : ∀ t : Fin cfg4.N, win4_1.index t (0 : Fin 2) = 0 ∧ win4_1.index t (1 : Fin 2) = t.val :=
  (by decide +kernel : ∀ t : Fin grid4.N, _)
theorem emb4_1 (t : Fin cfg4.N) (i : Fin 4096) (l : Fin 512) : ((cfg4.win 1).blk t).view.emb (ix2 i l) = ix2 i (col (T4 t) l) := by
  obtain ⟨e0, e1⟩ := ix4_1 t
  funext a; apply Fin.ext
  match a with
  | ⟨0, _⟩ => show win4_1.index t (0 : Fin 2) * 4096 + 1 * i.val = i.val; rw [e0]; omega
  | ⟨1, _⟩ => show win4_1.index t (1 : Fin 2) * 512 + 1 * l.val = 512 * (t.val) + l.val; rw [e1]; omega
theorem blk4_1 (c : Dev nD) (t : Fin cfg4.N) (i : Fin 4096) (l : Fin 512) :
    (iblk4 V c 1 t : S4096x512.Idx → EReal) (ix2 i l) = (V c main_v2 : S4096x4096.Idx → EReal) (ix2 i (col (T4 t) l)) :=
  congrArg (V c main_v2) (emb4_1 t i l)

theorem ix4_2 : ∀ t : Fin cfg4.N, win4_2.index t (0 : Fin 3) = t.val ∧ win4_2.index t (1 : Fin 3) = 0 ∧ win4_2.index t (2 : Fin 3) = 0 :=
  (by decide +kernel : ∀ t : Fin grid4.N, _)
theorem emb4_2 (t : Fin cfg4.N) (p : Fin 1) (k : Fin 1024) (l : Fin 512) : ((cfg4.win 2).blk t).view.emb (ix3 p k l) = ix3 (T4 t) k l := by
  obtain ⟨e0, e1, e2⟩ := ix4_2 t
  funext a; apply Fin.ext
  match a with
  | ⟨0, _⟩ => show win4_2.index t (0 : Fin 3) * 1 + 1 * p.val = t.val; rw [e0]; omega
  | ⟨1, _⟩ => show win4_2.index t (1 : Fin 3) * 1024 + 1 * k.val = k.val; rw [e1]; omega
  | ⟨2, _⟩ => show win4_2.index t (2 : Fin 3) * 512 + 1 * l.val = l.val; rw [e2]; omega
theorem flush4 : ∀ t : Fin cfg4.N, (cfg4.win 2).flush t = true := (by decide +kernel : ∀ t : Fin grid4.N, win4_2.flush t = true)
theorem disj4 : ∀ t t' : Fin cfg4.N, (cfg4.win 2).flush t = true → (cfg4.win 2).flush t' = true → t ≠ t' →
    Disjoint ((cfg4.win 2).blk t).view.set ((cfg4.win 2).blk t').view.set :=
  (cfg4.win 2).hdisj_of_index_inj
    (by decide +kernel : ∀ t t' : Fin grid4.N, win4_2.flush t = true → win4_2.flush t' = true → win4_2.index t = win4_2.index t' → t = t')

end Cert.MlpIdeal.Hand

end
-- ==== Proof.Mlp.Final.lean ====
/- What the five calls leave in their arrays, at an index: the formulas of Model.lean. -/
module

public import proofs.«01_k».proof.Proof.Mlp.Launch
public import proofs.«01_k».proof.Proof.Mlp.Body
public import proofs.«01_k».proof.Proof.Mlp.Win

@[expose] public section

set_option maxRecDepth 16384

noncomputable section

namespace Cert.MlpIdeal.Hand

open Idealize.ShloMosaic Idealize.ShloMosaic.TcCoe
open Cert.MlpIdeal Cert.MlpIdeal.Gen
open Cert.MlpMath
open scoped BigOperators

variable (m : (ℓ : Loc nD τ sig) → Buf (Elt Ideal) ℓ) (ρ : Dev nD → PrngReg)

/-! ## The arguments as matrices -/

abbrev au (c : Dev nD) (i : Fin 4096) (k : Fin 1024) : EReal := (m ((c.tc : Thread nD τ).loc main_arg0) : S4096x1024.Idx → EReal) (ix2 i k)
abbrev awu (c : Dev nD) (p : Fin 8) (k : Fin 1024) (l : Fin 512) : EReal := (m ((c.tc : Thread nD τ).loc main_arg1) : S8x1024x512.Idx → EReal) (ix3 p k l)
abbrev awd (c : Dev nD) (p : Fin 8) (l : Fin 512) (n : Fin 1024) : EReal := (m ((c.tc : Thread nD τ).loc main_arg2) : S8x512x1024.Idx → EReal) (ix3 p l n)
abbrev ag (c : Dev nD) (i : Fin 4096) (n : Fin 1024) : EReal := (m ((c.tc : Thread nD τ).loc main_arg3) : S4096x1024.Idx → EReal) (ix2 i n)

theorem V1_arg {a : Ref sig .tc} (c : Dev nD) (h : a ∈ argRefs) : V1 m ρ c a = m ((c.tc : Thread nD τ).loc a) := W1_args m ρ c a h
theorem V2_arg {a : Ref sig .tc} (c : Dev nD) (h : a ∈ argRefs) : V2 m ρ c a = m ((c.tc : Thread nD τ).loc a) := W2_args m ρ c a h
theorem V3_arg {a : Ref sig .tc} (c : Dev nD) (h : a ∈ argRefs) : V3 m ρ c a = m ((c.tc : Thread nD τ).loc a) := W3_args m ρ c a h
theorem V4_arg {a : Ref sig .tc} (c : Dev nD) (h : a ∈ argRefs) : V4 m ρ c a = m ((c.tc : Thread nD τ).loc a) := W4_args m ρ c a h

attribute [local irreducible] iblk0 iblk1 iblk2 iblk3 iblk4

/-! ## The rectified hidden layer -/

theorem fin0 (c : Dev nD) (p : Fin 8) (i : Fin 4096) (l : Fin 512) :
    ((dat0 (V0 m ρ) c).arrAt 2 cfg0.N : S4096x4096.Idx → EReal) (ix2 i (col p l)) = rel (au m c) (awu m c) i (col p l) := by
  have hE := (dat0 (V0 m ρ) c).arrAt_emb_eq_flushed 2 disj0 ⟨p.val, p.isLt.trans_eq N_0.symm⟩ (flush0 _) (ix2 i l)
  rw [emb0_2] at hE
  refine hE.trans (Eq.trans ?_ ((out0_at (iblk0 (V0 m ρ) c 0 ⟨p.val, p.isLt.trans_eq N_0.symm⟩) (iblk0 (V0 m ρ) c 1 ⟨p.val, p.isLt.trans_eq N_0.symm⟩) i l).trans ?_))
  · rw [← after0_2]; rfl
  · unfold rel hid
    rw [pc_col, pl_col]
    simp only [blk0_0, blk0_1]

theorem rel_at (c : Dev nD) (i j : Fin 4096) :
    ((dat0 (V0 m ρ) c).arrAt 2 cfg0.N : S4096x4096.Idx → EReal) (ix2 i j) = rel (au m c) (awu m c) i j := by
  have h := fin0 m ρ c (pc j) i (pl j)
  rwa [col_pc_pl] at h

theorem rel1 (c : Dev nD) (i j : Fin 4096) : (V1 m ρ c main_v0 : S4096x4096.Idx → EReal) (ix2 i j) = rel (au m c) (awu m c) i j :=
  (congrFun (V1_r m ρ c) _).trans (rel_at m ρ c i j)
theorem rel2 (c : Dev nD) (i j : Fin 4096) : (V2 m ρ c main_v0 : S4096x4096.Idx → EReal) (ix2 i j) = rel (au m c) (awu m c) i j :=
  (congrFun (V2_r m ρ c) _).trans (rel_at m ρ c i j)
theorem rel3 (c : Dev nD) (i j : Fin 4096) : (V3 m ρ c main_v0 : S4096x4096.Idx → EReal) (ix2 i j) = rel (au m c) (awu m c) i j :=
  (congrFun (V3_r m ρ c) _).trans (rel_at m ρ c i j)

/-! ## The output -/

theorem fin1 (c : Dev nD) (t : Fin cfg1.N) (r : Fin 512) (n : Fin 1024) :
    ((dat1 (V1 m ρ) c).arrAt 2 cfg1.N : S4096x1024.Idx → EReal) (ix2 (row1 t r) n) = out (au m c) (awu m c) (awd m c) (row1 t r) n := by
  have hE := (dat1 (V1 m ρ) c).arrAt_emb_eq_flushed 2 disj1 t (flush1 t) (ix2 r n)
  rw [emb1_2] at hE
  refine hE.trans (Eq.trans ?_ ((out1_at (iblk1 (V1 m ρ) c 0 t) (iblk1 (V1 m ρ) c 1 t) r n).trans ?_))
  · rw [← after1_2]; rfl
  · unfold out
    simp only [blk1_0, blk1_1, rel1 m ρ, V1_arg m ρ c (a := main_arg2) (by decide)]

theorem y_at (c : Dev nD) (i : Fin 4096) (n : Fin 1024) :
    ((dat1 (V1 m ρ) c).arrAt 2 cfg1.N : S4096x1024.Idx → EReal) (ix2 i n) = out (au m c) (awu m c) (awd m c) i n := by
  have h := fin1 m ρ c ⟨i.val / 512, (by omega : i.val / 512 < 8).trans_eq N_1.symm⟩ ⟨i.val % 512, by omega⟩ n
  rwa [show row1 ⟨i.val / 512, (by omega : i.val / 512 < 8).trans_eq N_1.symm⟩ ⟨i.val % 512, by omega⟩ = i from
    Fin.ext (by show 512 * (i.val / 512) + i.val % 512 = i.val; omega)] at h

/-! ## The gradient of the hidden layer -/

theorem fin2 (c : Dev nD) (t : Fin cfg2.N) (r : Fin 2048) (l : Fin 512) :
    ((dat2 (V2 m ρ) c).arrAt 3 cfg2.N : S4096x4096.Idx → EReal) (ix2 (row2 t r) (col (T2 t) l)) = dhid (au m c) (awu m c) (awd m c) (ag m c) (row2 t r) (col (T2 t) l) := by
  have hE := (dat2 (V2 m ρ) c).arrAt_emb_eq_flushed 3 disj2 t (flush2 t) (ix2 r l)
  rw [emb2_3] at hE
  refine hE.trans (Eq.trans ?_ ((out2_at (iblk2 (V2 m ρ) c 0 t) (iblk2 (V2 m ρ) c 1 t) (iblk2 (V2 m ρ) c 2 t) r l).trans ?_))
  · rw [← after2_3]; rfl
  · unfold dhid dsq
    rw [pc_col, pl_col]
    simp only [blk2_0, blk2_1, blk2_2, rel2 m ρ, V2_arg m ρ c (a := main_arg2) (by decide), V2_arg m ρ c (a := main_arg3) (by decide)]

theorem da_at (c : Dev nD) (i j : Fin 4096) :
    ((dat2 (V2 m ρ) c).arrAt 3 cfg2.N : S4096x4096.Idx → EReal) (ix2 i j) = dhid (au m c) (awu m c) (awd m c) (ag m c) i j := by
  have hb : i.val / 2048 * 8 + j.val / 512 < 16 := by omega
  have h := fin2 m ρ c ⟨i.val / 2048 * 8 + j.val / 512, hb.trans_eq N_2.symm⟩ ⟨i.val % 2048, by omega⟩ (pl j)
  rwa [show row2 ⟨i.val / 2048 * 8 + j.val / 512, hb.trans_eq N_2.symm⟩ ⟨i.val % 2048, by omega⟩ = i from
      Fin.ext (by show 2048 * ((i.val / 2048 * 8 + j.val / 512) / 8) + i.val % 2048 = i.val; omega),
    show T2 ⟨i.val / 2048 * 8 + j.val / 512, hb.trans_eq N_2.symm⟩ = pc j from
      Fin.ext (by show (i.val / 2048 * 8 + j.val / 512) % 8 = j.val / 512; omega), col_pc_pl] at h

theorem da4 (c : Dev nD) (i j : Fin 4096) :
    (V4 m ρ c main_v2 : S4096x4096.Idx → EReal) (ix2 i j) = dhid (au m c) (awu m c) (awd m c) (ag m c) i j :=
  (congrFun (V4_da m ρ c) _).trans (da_at m ρ c i j)

/-! ## The gradients of the weights -/

theorem dwd_at (c : Dev nD) (p : Fin 8) (l : Fin 512) (n : Fin 1024) :
    ((dat3 (V3 m ρ) c).arrAt 2 cfg3.N : S8x512x1024.Idx → EReal) (ix3 p l n) = dwd (au m c) (awu m c) (ag m c) p l n := by
  have hE := (dat3 (V3 m ρ) c).arrAt_emb_eq_flushed 2 disj3 ⟨p.val, p.isLt.trans_eq N_3.symm⟩ (flush3 _) (ix3 0 l n)
  rw [emb3_2] at hE
  refine hE.trans (Eq.trans ?_ ((out3_at (iblk3 (V3 m ρ) c 0 ⟨p.val, p.isLt.trans_eq N_3.symm⟩) (iblk3 (V3 m ρ) c 1 ⟨p.val, p.isLt.trans_eq N_3.symm⟩) l n).trans ?_))
  · rw [← after3_2]; rfl
  · unfold dwd
    simp only [blk3_0, blk3_1, rel3 m ρ, V3_arg m ρ c (a := main_arg3) (by decide)]

theorem dwu_at (c : Dev nD) (p : Fin 8) (k : Fin 1024) (l : Fin 512) :
    ((dat4 (V4 m ρ) c).arrAt 2 cfg4.N : S8x1024x512.Idx → EReal) (ix3 p k l) = dwu (au m c) (awu m c) (awd m c) (ag m c) p k l := by
  have hE := (dat4 (V4 m ρ) c).arrAt_emb_eq_flushed 2 disj4 ⟨p.val, p.isLt.trans_eq N_4.symm⟩ (flush4 _) (ix3 0 k l)
  rw [emb4_2] at hE
  refine hE.trans (Eq.trans ?_ ((out4_at (iblk4 (V4 m ρ) c 0 ⟨p.val, p.isLt.trans_eq N_4.symm⟩) (iblk4 (V4 m ρ) c 1 ⟨p.val, p.isLt.trans_eq N_4.symm⟩) k l).trans ?_))
  · rw [← after4_2]; rfl
  · unfold dwu
    simp only [blk4_0, blk4_1, da4 m ρ, V4_arg m ρ c (a := main_arg0) (by decide)]

end Cert.MlpIdeal.Hand

end
-- ==== Proof.Mlp.Ref.lean ====
/- What the feed-forward reference's operations leave, read at an index: its results are the formulas of Model.lean. -/
module

public import proofs.«01_k».proof.Proof.Gen.MlpReferenceIdeal.Read
public import proofs.«01_k».proof.Proof.Mlp.Model
public import Idealize.ShloMosaic.Lib.Pointwise

@[expose] public section

set_option maxRecDepth 16384

noncomputable section

namespace Cert.MlpReferenceIdeal.Hand

open Idealize.ShloMosaic Idealize.ShloMosaic.TcCoe Idealize.ShloMosaic.Tactic
open Cert.MlpReferenceIdeal Cert.MlpReferenceIdeal.Gen Cert.MlpReferenceIdeal.Read Cert.MlpMath
open scoped BigOperators

variable (x0 x3 : (⟨S4096x1024, .bf16⟩ : BufTy).Contents (Elt Ideal)) (x1 : (⟨S8x1024x512, .bf16⟩ : BufTy).Contents (Elt Ideal))
  (x2 : (⟨S8x512x1024, .bf16⟩ : BufTy).Contents (Elt Ideal))

/-- A matrix as a function of row and column. -/
abbrev mat {a b : ℕ} (x : (⟨2, ![a, b]⟩ : Shape).Idx → EReal) : Fin a → Fin b → EReal := fun i j => x (ix2 i j)
/-- A stack of matrices as a function of piece, row and column. -/
abbrev mat3 {p a b : ℕ} (x : (⟨3, ![p, a, b]⟩ : Shape).Idx → EReal) : Fin p → Fin a → Fin b → EReal := fun q i j => x (ix3 q i j)

theorem r7 (i : Fin 4096) (j : Fin 4096) : (val_main_v7 (F := Ideal) x0 x1 : S4096x4096.Idx → EReal) (ix2 i j) = hid (mat x0) (mat3 x1) i j := by
  pointwise [val_main_v7, val_main_v0, val_main_v5, val_main_v4, val_main_v1]
  rfl
theorem r8 (i : Fin 4096) (j : Fin 4096) : (val_main_v8 (F := Ideal) x0 x1 : S4096x4096.Idx → EReal) (ix2 i j) = rel (mat x0) (mat3 x1) i j := by
  pointwise [val_main_v8, val_main_call0_v0, val_main_call0_cst]
  rw [r7]
  rfl
theorem r15 (i : Fin 4096) (n : Fin 1024) : (val_main_v27 (F := Ideal) x0 x1 x2 : S4096x1024.Idx → EReal) (ix2 i n) = out (mat x0) (mat3 x1) (mat3 x2) i n := by
  pointwise [val_main_v27, val_main_v15, val_main_v12, val_main_v6, val_main_v2]
  simp only [r8]
  rfl
theorem r18 (i : Fin 4096) (j : Fin 4096) : (val_main_v18 (F := Ideal) x2 x3 : S4096x4096.Idx → EReal) (ix2 i j) = dsq (mat3 x2) (mat x3) i j := by
  pointwise [val_main_v18, val_main_v6, val_main_v3, val_main_v2]
  rfl
theorem r21 (i : Fin 4096) (j : Fin 4096) : (val_main_v21 (F := Ideal) x0 x1 x2 x3 : S4096x4096.Idx → EReal) (ix2 i j) = dhid (mat x0) (mat3 x1) (mat3 x2) (mat x3) i j := by
  pointwise [val_main_v21, val_main_v20, val_main_v19, val_main_v10, val_main_v14, val_main_v13, val_main_cst_1, val_main_cst_2, val_main_v9, val_main_cst]
  simp only [r7, r8, r18]
  exact dhid_mask _ _ _ _ i j
theorem r28 (p : Fin 8) (k : Fin 1024) (l : Fin 512) : (val_main_v28 (F := Ideal) x0 x1 x2 x3 : S8x1024x512.Idx → EReal) (ix3 p k l) = dwu (mat x0) (mat3 x1) (mat3 x2) (mat x3) p k l := by
  pointwise [val_main_v28, val_main_v26, val_main_v25, val_main_v23, val_main_v22, val_main_v0]
  refine Finset.sum_congr rfl fun i _ => ?_
  rw [show (⟨p.val * 512 + l.val, by omega⟩ : Fin 4096) = col p l from Fin.ext (by show p.val * 512 + l.val = 512 * p.val + l.val; omega), r21]
  exact mul_comm _ _
theorem r29 (p : Fin 8) (l : Fin 512) (n : Fin 1024) : (val_main_v29 (F := Ideal) x0 x1 x3 : S8x512x1024.Idx → EReal) (ix3 p l n) = dwd (mat x0) (mat3 x1) (mat x3) p l n := by
  pointwise [val_main_v29, val_main_v24, val_main_v17, val_main_v16, val_main_v12, val_main_v3]
  refine Finset.sum_congr rfl fun i _ => ?_
  rw [show (⟨p.val * 512 + l.val, by omega⟩ : Fin 4096) = col p l from Fin.ext (by show p.val * 512 + l.val = 512 * p.val + l.val; omega), r8]
  exact mul_comm _ _

end Cert.MlpReferenceIdeal.Hand

end
-- ==== Proof.Mlp.Ext.lean ====
/- Matrices, and stacks of them, are equal where they agree at every index. -/
module

public import Idealize.ShloMosaic.Lib.Pointwise

@[expose] public section

namespace Cert.MlpMath

open Idealize.ShloMosaic

/-- Two matrices that agree at every row and column are equal. -/
theorem ext2 {a b : ℕ} {x y : (⟨2, ![a, b]⟩ : Shape).Idx → EReal} (h : ∀ i j, x (ix2 i j) = y (ix2 i j)) : x = y :=
  funext fun z => by rw [eq_ix2 z]; exact h _ _
/-- The same of two stacks of matrices. -/
theorem ext3 {p a b : ℕ} {x y : (⟨3, ![p, a, b]⟩ : Shape).Idx → EReal} (h : ∀ q i j, x (ix3 q i j) = y (ix3 q i j)) : x = y :=
  funext fun z => by rw [eq_ix3 z]; exact h _ _ _

end Cert.MlpMath

end
-- ==== Proof.Mlp.Claims.lean ====
/- The claims about the feed-forward layer: the three frames, and the values over the reals. -/
module

public import proofs.«01_k».proof.Defs
public import proofs.«01_k».proof.Proof.Gen.Mlp
public import proofs.«01_k».proof.Proof.Gen.MlpReferenceIdeal.Run
public import proofs.«01_k».proof.Proof.Gen.MlpReferenceIdeal.Read
public import proofs.«01_k».proof.Proof.Mlp.Final
public import proofs.«01_k».proof.Proof.Mlp.Ref
public import proofs.«01_k».proof.Proof.Mlp.Ext
public import Idealize.ShloMosaic.Lib.Quiescent

@[expose] public section

set_option maxRecDepth 16384

noncomputable section

namespace Cert.MlpMath

open Idealize.ShloMosaic Idealize.ShloMosaic.TcCoe Idealize.SL.Sem

set_option maxHeartbeats 2000000 in
/-- The five bodies at the bit patterns are the idealized program's. -/
theorem bodies_eq : Cert.Mlp.defs₀ (F := Bits) = Cert.MlpIdeal.defs₀ (F := Bits) :=
  congrArg Defs.onTc (funext fun ℓ => funext fun a => match ℓ, a with
    | 0, (_, _) => rfl
    | 1, (_, _) => rfl
    | 2, (_, _) => rfl
    | 3, (_, _) => rfl
    | 4, (_, _) => rfl)
theorem defs_eq : Cert.Mlp.defs (F := Bits) = Cert.MlpIdeal.defs (F := Bits) :=
  congrArg (Pipeline.defs (Cert.MlpIdeal.pcfgs (F := Bits))) bodies_eq
theorem main_eq : Cert.Mlp.main (F := Bits) = Cert.MlpIdeal.main (F := Bits) := rfl

set_option maxHeartbeats 2000000 in
/-- The program at the bit patterns: the run is the idealized program's, whose text is the same. -/
theorem frame_kernel : Cert.quiescent_Mlp := by
  intro m ρ _
  rw [defs_eq, main_eq]
  exact Cert.MlpIdeal.Gen.frame (F := Bits) m ρ

theorem frame_kernelIdeal : Cert.quiescent_MlpIdeal := fun m ρ _ => Cert.MlpIdeal.Gen.frame (F := Ideal) m ρ

theorem frame_reference : Cert.quiescent_MlpReferenceIdeal := fun m ρ _ =>
  (θ_run Cert.MlpReferenceIdeal.defs _ _).mono (fun r h => ⟨fun c => (h c).2.2.2, sem_eq_zero_of_no_sems (by decide) r.2⟩)
    (Cert.MlpReferenceIdeal.Value.run (F := Ideal) m ρ)

open Cert.MlpReferenceIdeal.Hand Cert.MlpReferenceIdeal.Read Cert.MlpIdeal.Hand Cert.MlpIdeal.Gen in
/-- Over the reals, the output and the gradients of the two weights are the reference's. -/
theorem algebraic : Cert.algebraic_MlpIdeal_MlpReferenceIdeal := by
  intro m ρ m' ρ' _ hagree
  refine ⟨fun c => (dat1 (V1 m ρ) c).arrAt 2 Cert.MlpIdeal.cfg1.N, fun c => (dat4 (V4 m ρ) c).arrAt 2 Cert.MlpIdeal.cfg4.N,
    fun c => (dat3 (V3 m ρ) c).arrAt 2 Cert.MlpIdeal.cfg3.N,
    (θ_run Cert.MlpIdeal.defs _ _).mono (fun _ h => h.1) (run_vals m ρ),
    (θ_run Cert.MlpReferenceIdeal.defs _ _).mono (fun r h c => ?_) (Cert.MlpReferenceIdeal.Value.run (F := Ideal) m' ρ')⟩
  obtain ⟨e0, e1, e2, e3⟩ := hagree c
  obtain ⟨r0, r1, r2, ra⟩ := h c
  refine ⟨r0.trans ?_, r1.trans ?_, r2.trans ?_, ra⟩
  · rw [val_main_v27_eq, e0, e1, e2]
    exact ext2 fun i n => (r15 _ _ _ i n).trans (y_at m ρ c i n).symm
  · rw [val_main_v28_eq, e0, e1, e2, e3]
    exact ext3 fun p k l => (r28 _ _ _ _ p k l).trans (dwu_at m ρ c p k l).symm
  · rw [val_main_v29_eq, e0, e1, e3]
    exact ext3 fun p l n => (r29 _ _ _ p l n).trans (dwd_at m ρ c p l n).symm

end Cert.MlpMath

end
-- ==== Proof.Proj.Launch.lean ====
/- The run of the program of the retention mixer's products for any float values: its four results end at what the calls' write-backs leave,
   and the arguments and the counters as launched. -/
module

public import proofs.«01_k».proof.Proof.Gen.ProjIdeal.Frame

@[expose] public section

set_option maxRecDepth 16384

noncomputable section

namespace Cert.ProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The results at the end -/

theorem W4_z (c : Dev nD) : W4 m ρ c (Proc.devRef .tc main_v0) = (dat0 (V0 m ρ) c).arrAt 2 cfg0.N :=
  (W4_of m ρ c main_v0 (by decide +kernel)).trans ((W3_of m ρ c main_v0 (by decide +kernel)).trans
    ((W2_of m ρ c main_v0 (by decide +kernel)).trans (W1_arr m ρ c 2)))
theorem W4_y (c : Dev nD) : W4 m ρ c (Proc.devRef .tc main_v1) = (dat1 (V1 m ρ) c).arrAt 2 cfg1.N :=
  (W4_of m ρ c main_v1 (by decide +kernel)).trans ((W3_of m ρ c main_v1 (by decide +kernel)).trans (W2_arr m ρ c 2))
theorem W4_dout (c : Dev nD) : W4 m ρ c (Proc.devRef .tc main_v2) = (dat2 (V2 m ρ) c).arrAt 2 cfg2.N :=
  (W4_of m ρ c main_v2 (by decide +kernel)).trans (W3_arr m ρ c 2)
theorem W4_dwin (c : Dev nD) : W4 m ρ c (Proc.devRef .tc main_v3) = (dat3 (V3 m ρ) c).arrAt 2 cfg3.N := W4_arr m ρ c 2

set_option backward.isDefEq.respectTransparency.types false in
/-- The run: every weakly fair execution terminates with the results and arguments so. -/
theorem run_vals : θ_run defs (onTc (τ := τ) (main (F := F))) ⟨m, fun _ => 0, ρ⟩ (fun r => (∀ c : Dev nD,
      r.2.mem ((c.tc : Thread nD τ).loc main_v0) = (dat0 (V0 m ρ) c).arrAt 2 cfg0.N
      ∧ r.2.mem ((c.tc : Thread nD τ).loc main_v1) = (dat1 (V1 m ρ) c).arrAt 2 cfg1.N
      ∧ r.2.mem ((c.tc : Thread nD τ).loc main_v3) = (dat3 (V3 m ρ) c).arrAt 2 cfg3.N
      ∧ r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v0 (by decide))).trans (W4_z m ρ c),
       (h c _ (mem_uc main_v1 (by decide))).trans (W4_y m ρ c),
       (h c _ (mem_uc main_v3 (by decide))).trans (W4_dwin m ρ c),
       (h c _ (mem_uc main_v2 (by decide))).trans (W4_dout m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩), funext fun g => hz g (.inr (no_unscoped g.2))⟩)

end Cert.ProjIdeal.Hand

end
-- ==== Proof.Proj.Body.lean ====
/- What each of the four calls leaves in its output block, read at an index: one product each. -/
module

public import proofs.«01_k».proof.Proof.Gen.ProjIdeal.Frame
public import Idealize.ShloMosaic.Lib.Pointwise
public import Idealize.ShloMosaic.Lib.Pipeline.ValueKit.Tiles
public import Idealize.ShloMosaic.Lib.Pipeline.ReadBack

@[expose] public section

set_option maxRecDepth 16384

noncomputable section

namespace Cert.ProjIdeal.Hand

open Idealize.ShloMosaic Idealize.ShloMosaic.TcCoe Idealize.ShloMosaic.Tactic
open Cert.ProjIdeal Cert.ProjIdeal.Gen
open scoped BigOperators

theorem out0_at (x0 : Vec Ideal S2048x1024 .bf16) (x1 : Vec Ideal S1x1024x768 .bf16) (i : Fin 2048) (l : Fin 768) :
    out0_2 x0 x1 (ix2 i l) = ∑ k : Fin 1024, (x0 (ix2 i k) : EReal) * x1 (ix3 0 k l) := by
  unfold out0_2
  canon_tiles x hx using cover0_2 _ _
  all_goals open_payloads
  all_goals pointwise [k0_pay1]
  obtain rfl : i = x 0 := Fin.ext hx0
  obtain rfl : l = x 1 := Fin.ext hx1
  rfl

theorem out1_at (x0 : Vec Ideal S2048x2048 .bf16) (x1 : Vec Ideal S2048x512 .bf16) (i : Fin 2048) (n : Fin 512) :
    out1_2 x0 x1 (ix2 i n) = ∑ e : Fin 2048, (x0 (ix2 i e) : EReal) * x1 (ix2 e n) := by
  unfold out1_2
  canon_tiles x hx using cover1_2 _ _
  all_goals open_payloads
  all_goals pointwise [k1_pay1]
  obtain rfl : i = x 0 := Fin.ext hx0
  obtain rfl : n = x 1 := Fin.ext hx1
  rfl

theorem out2_at (x0 : Vec Ideal S2048x1024 .bf16) (x1 : Vec Ideal S512x1024 .bf16) (i : Fin 2048) (e : Fin 512) :
    out2_2 x0 x1 (ix2 i e) = ∑ n : Fin 1024, (x0 (ix2 i n) : EReal) * x1 (ix2 e n) := by
  unfold out2_2
  canon_tiles x hx using cover2_2 _ _
  all_goals open_payloads
  all_goals pointwise [k2_pay1]
  obtain rfl : i = x 0 := Fin.ext hx0
  obtain rfl : e = x 1 := Fin.ext hx1
  rfl

theorem out3_at (x0 : Vec Ideal S4096x1024 .bf16) (x1 : Vec Ideal S4096x768 .bf16) (k : Fin 1024) (l : Fin 768) :
    out3_2 x0 x1 (ix3 0 k l) = ∑ i : Fin 4096, (x0 (ix2 i k) : EReal) * x1 (ix2 i l) := by
  unfold out3_2
  canon_tiles x hx using cover3_2 _ _
  all_goals open_payloads
  all_goals pointwise [k3_pay1]
  obtain rfl : k = x 1 := Fin.ext hx1
  obtain rfl : l = x 2 := Fin.ext hx2
  rfl

end Cert.ProjIdeal.Hand

end
-- ==== Proof.Proj.Model.lean ====
/- The columns of the retention mixer's first weight, which comes in eight pieces of 768 columns, as the devices hold
   them: column `j` is column `j % 768` of piece `j / 768`. -/
module

public import Idealize.ShloMosaic.PureOps.Ideal
public import Mathlib.Data.EReal.Operations
public import Mathlib.Algebra.BigOperators.Fin

@[expose] public section

noncomputable section

namespace Cert.ProjMath

/-- The piece of a column. -/
def pc (j : Fin 6144) : Fin 8 := ⟨j.val / 768, by omega⟩
/-- Its place in the piece. -/
def pl (j : Fin 6144) : Fin 768 := ⟨j.val % 768, by omega⟩
/-- The column at place `l` of piece `p`. -/
def col (p : Fin 8) (l : Fin 768) : Fin 6144 := ⟨768 * p.val + l.val, by omega⟩

theorem pc_col (p : Fin 8) (l : Fin 768) : pc (col p l) = p := Fin.ext (by show (768 * p.val + l.val) / 768 = p.val; omega)
theorem pl_col (p : Fin 8) (l : Fin 768) : pl (col p l) = l := Fin.ext (by show (768 * p.val + l.val) % 768 = l.val; omega)
theorem col_pc_pl (j : Fin 6144) : col (pc j) (pl j) = j := Fin.ext (by show 768 * (j.val / 768) + j.val % 768 = j.val; omega)

/-- Row `r` of half `a` of the rows. -/
def half (a : Fin 2) (r : Fin 2048) : Fin 4096 := ⟨2048 * a.val + r.val, by omega⟩
/-- Place `l` of band `b` of 512. -/
def band {n : ℕ} (b : Fin n) (l : Fin 512) : Fin (512 * n) := ⟨512 * b.val + l.val, by omega⟩

theorem half_of (i : Fin 4096) : half ⟨i.val / 2048, by omega⟩ ⟨i.val % 2048, by omega⟩ = i :=
  Fin.ext (by show 2048 * (i.val / 2048) + i.val % 2048 = i.val; omega)
theorem band_of {n : ℕ} (e : Fin (512 * n)) : band ⟨e.val / 512, by omega⟩ ⟨e.val % 512, by omega⟩ = e :=
  Fin.ext (by show 512 * (e.val / 512) + e.val % 512 = e.val; omega)

end Cert.ProjMath

end
-- ==== Proof.Proj.Win.lean ====
/- Where the blocks of the four calls' windows sit in their arrays: a half of the rows, a band of columns or rows, a piece
   of the first weight, or the whole array. -/
module

public import proofs.«01_k».proof.Proof.Gen.ProjIdeal.Frame
public import proofs.«01_k».proof.Proof.Proj.Model
public import Idealize.ShloMosaic.Lib.Pointwise
public import Idealize.ShloMosaic.Lib.Pipeline.ValueKit.Geometry

@[expose] public section

set_option maxRecDepth 16384

noncomputable section

namespace Cert.ProjIdeal.Hand

open Idealize.ShloMosaic Idealize.ShloMosaic.TcCoe Idealize.ShloMosaic.Tactic
open Cert.ProjIdeal Cert.ProjIdeal.Gen
open Cert.ProjMath (pc pl col half band)

variable (V : (c : Dev nD) → (b : Ref sig .tc) → Buf (Elt Ideal) ((c : Thread nD τ).loc b))

/-- The half of the rows and the piece of the first call's point. -/
def A0 (t : Fin cfg0.N) : Fin 2 := ⟨t.val / 8, by have : t.val < 16 := t.isLt.trans_eq N_0; omega⟩
def B0 (t : Fin cfg0.N) : Fin 8 := ⟨t.val % 8, by omega⟩
/-- The half of the rows and the band of columns of the second call's point. -/
def A1 (t : Fin cfg1.N) : Fin 2 := ⟨t.val / 2, by have : t.val < 4 := t.isLt.trans_eq N_1; omega⟩
def B1 (t : Fin cfg1.N) : Fin 2 := ⟨t.val % 2, by omega⟩
/-- The half of the rows and the band of columns of the third call's point. -/
def A2 (t : Fin cfg2.N) : Fin 2 := ⟨t.val / 4, by have : t.val < 8 := t.isLt.trans_eq N_2; omega⟩
def B2 (t : Fin cfg2.N) : Fin 4 := ⟨t.val % 4, by omega⟩
/-- The piece of the fourth call's point. -/
abbrev T3 (t : Fin cfg3.N) : Fin 8 := ⟨t.val, t.isLt.trans_eq N_3⟩

/-! ## The first call -/

theorem ix0_0 : ∀ t : Fin cfg0.N, win0_0.index t (0 : Fin 2) = t.val / 8 ∧ win0_0.index t (1 : Fin 2) = 0 :=
  (by decide +kernel : ∀ t : Fin grid0.N, _)
theorem emb0_0 (t : Fin cfg0.N) (r : Fin 2048) (k : Fin 1024) : ((cfg0.win 0).blk t).view.emb (ix2 r k) = ix2 (half (A0 t) r) k := by
  obtain ⟨e0, e1⟩ := ix0_0 t
  funext a; apply Fin.ext
  match a with
  | ⟨0, _⟩ => show win0_0.index t (0 : Fin 2) * 2048 + 1 * r.val = 2048 * (t.val / 8) + r.val; rw [e0]; omega
  | ⟨1, _⟩ => show win0_0.index t (1 : Fin 2) * 1024 + 1 * k.val = k.val; rw [e1]; omega
theorem blk0_0 (c : Dev nD) (t : Fin cfg0.N) (r : Fin 2048) (k : Fin 1024) :
    (iblk0 V c 0 t : S2048x1024.Idx → EReal) (ix2 r k) = (V c main_arg0 : S4096x1024.Idx → EReal) (ix2 (half (A0 t) r) k) :=
  congrArg (V c main_arg0) (emb0_0 t r k)

theorem ix0_1 : ∀ t : Fin cfg0.N, win0_1.index t (0 : Fin 3) = t.val % 8 ∧ win0_1.index t (1 : Fin 3) = 0 ∧ win0_1.index t (2 : Fin 3) = 0 :=
  (by decide +kernel : ∀ t : Fin grid0.N, _)
theorem emb0_1 (t : Fin cfg0.N) (p : Fin 1) (k : Fin 1024) (l : Fin 768) : ((cfg0.win 1).blk t).view.emb (ix3 p k l) = ix3 (B0 t) k l := by
  obtain ⟨e0, e1, e2⟩ := ix0_1 t
  funext a; apply Fin.ext
  match a with
  | ⟨0, _⟩ => show win0_1.index t (0 : Fin 3) * 1 + 1 * p.val = t.val % 8; rw [e0]; omega
  | ⟨1, _⟩ => show win0_1.index t (1 : Fin 3) * 1024 + 1 * k.val = k.val; rw [e1]; omega
  | ⟨2, _⟩ => show win0_1.index t (2 : Fin 3) * 768 + 1 * l.val = l.val; rw [e2]; omega
theorem blk0_1 (c : Dev nD) (t : Fin cfg0.N) (p : Fin 1) (k : Fin 1024) (l : Fin 768) :
    (iblk0 V c 1 t : S1x1024x768.Idx → EReal) (ix3 p k l) = (V c main_arg1 : S8x1024x768.Idx → EReal) (ix3 (B0 t) k l) :=
  congrArg (V c main_arg1) (emb0_1 t p k l)

theorem ix0_2 : ∀ t : Fin cfg0.N, win0_2.index t (0 : Fin 2) = t.val / 8 ∧ win0_2.index t (1 : Fin 2) = t.val % 8 :=
  (by decide +kernel : ∀ t : Fin grid0.N, _)
theorem emb0_2 (t : Fin cfg0.N) (r : Fin 2048) (l : Fin 768) : ((cfg0.win 2).blk t).view.emb (ix2 r l) = ix2 (half (A0 t) r) (col (B0 t) l) := by
  obtain ⟨e0, e1⟩ := ix0_2 t
  funext a; apply Fin.ext
  match a with
  | ⟨0, _⟩ => show win0_2.index t (0 : Fin 2) * 2048 + 1 * r.val = 2048 * (t.val / 8) + r.val; rw [e0]; omega
  | ⟨1, _⟩ => show win0_2.index t (1 : Fin 2) * 768 + 1 * l.val = 768 * (t.val % 8) + l.val; rw [e1]; omega
theorem flush0 : ∀ t : Fin cfg0.N, (cfg0.win 2).flush t = true := (by decide +kernel : ∀ t : Fin grid0.N, win0_2.flush t = true)
theorem disj0 : ∀ t t' : Fin cfg0.N, (cfg0.win 2).flush t = true → (cfg0.win 2).flush t' = true → t ≠ t' →
    Disjoint ((cfg0.win 2).blk t).view.set ((cfg0.win 2).blk t').view.set :=
  (cfg0.win 2).hdisj_of_index_inj
    (by decide +kernel : ∀ t t' : Fin grid0.N, win0_2.flush t = true → win0_2.flush t' = true → win0_2.index t = win0_2.index t' → t = t')

/-! ## The second call -/

theorem ix1_0 : ∀ t : Fin cfg1.N, win1_0.index t (0 : Fin 2) = t.val / 2 ∧ win1_0.index t (1 : Fin 2) = 0 :=
  (by decide +kernel : ∀ t : Fin grid1.N, _)
theorem emb1_0 (t : Fin cfg1.N) (r : Fin 2048) (e : Fin 2048) : ((cfg1.win 0).blk t).view.emb (ix2 r e) = ix2 (half (A1 t) r) e := by
  obtain ⟨e0, e1⟩ := ix1_0 t
  funext a; apply Fin.ext
  match a with
  | ⟨0, _⟩ => show win1_0.index t (0 : Fin 2) * 2048 + 1 * r.val = 2048 * (t.val / 2) + r.val; rw [e0]; omega
  | ⟨1, _⟩ => show win1_0.index t (1 : Fin 2) * 2048 + 1 * e.val = e.val; rw [e1]; omega
theorem blk1_0 (c : Dev nD) (t : Fin cfg1.N) (r : Fin 2048) (e : Fin 2048) :
    (iblk1 V c 0 t : S2048x2048.Idx → EReal) (ix2 r e) = (V c main_arg2 : S4096x2048.Idx → EReal) (ix2 (half (A1 t) r) e) :=
  congrArg (V c main_arg2) (emb1_0 t r e)

theorem ix1_1 : ∀ t : Fin cfg1.N, win1_1.index t (0 : Fin 2) = 0 ∧ win1_1.index t (1 : Fin 2) = t.val % 2 :=
  (by decide +kernel : ∀ t : Fin grid1.N, _)
theorem emb1_1 (t : Fin cfg1.N) (e : Fin 2048) (n : Fin 512) : ((cfg1.win 1).blk t).view.emb (ix2 e n) = ix2 e (band (B1 t) n) := by
  obtain ⟨e0, e1⟩ := ix1_1 t
  funext a; apply Fin.ext
  match a with
  | ⟨0, _⟩ => show win1_1.index t (0 : Fin 2) * 2048 + 1 * e.val = e.val; rw [e0]; omega
  | ⟨1, _⟩ => show win1_1.index t (1 : Fin 2) * 512 + 1 * n.val = 512 * (t.val % 2) + n.val; rw [e1]; omega
theorem blk1_1 (c : Dev nD) (t : Fin cfg1.N) (e : Fin 2048) (n : Fin 512) :
    (iblk1 V c 1 t : S2048x512.Idx → EReal) (ix2 e n) = (V c main_arg3 : S2048x1024.Idx → EReal) (ix2 e (band (B1 t) n)) :=
  congrArg (V c main_arg3) (emb1_1 t e n)

theorem ix1_2 : ∀ t : Fin cfg1.N, win1_2.index t (0 : Fin 2) = t.val / 2 ∧ win1_2.index t (1 : Fin 2) = t.val % 2 :=
  (by decide +kernel : ∀ t : Fin grid1.N, _)
theorem emb1_2 (t : Fin cfg1.N) (r : Fin 2048) (n : Fin 512) : ((cfg1.win 2).blk t).view.emb (ix2 r n) = ix2 (half (A1 t) r) (band (B1 t) n) := by
  obtain ⟨e0, e1⟩ := ix1_2 t
  funext a; apply Fin.ext
  match a with
  | ⟨0, _⟩ => show win1_2.index t (0 : Fin 2) * 2048 + 1 * r.val = 2048 * (t.val / 2) + r.val; rw [e0]; omega
  | ⟨1, _⟩ => show win1_2.index t (1 : Fin 2) * 512 + 1 * n.val = 512 * (t.val % 2) + n.val; rw [e1]; omega
theorem flush1 : ∀ t : Fin cfg1.N, (cfg1.win 2).flush t = true := (by decide +kernel : ∀ t : Fin grid1.N, win1_2.flush t = true)
theorem disj1 : ∀ t t' : Fin cfg1.N, (cfg1.win 2).flush t = true → (cfg1.win 2).flush t' = true → t ≠ t' →
    Disjoint ((cfg1.win 2).blk t).view.set ((cfg1.win 2).blk t').view.set :=
  (cfg1.win 2).hdisj_of_index_inj
    (by decide +kernel : ∀ t t' : Fin grid1.N, win1_2.flush t = true → win1_2.flush t' = true → win1_2.index t = win1_2.index t' → t = t')

/-! ## The third call -/

theorem ix2_0 : ∀ t : Fin cfg2.N, win2_0.index t (0 : Fin 2) = t.val / 4 ∧ win2_0.index t (1 : Fin 2) = 0 :=
  (by decide +kernel : ∀ t : Fin grid2.N, _)
theorem emb2_0 (t : Fin cfg2.N) (r : Fin 2048) (n : Fin 1024) : ((cfg2.win 0).blk t).view.emb (ix2 r n) = ix2 (half (A2 t) r) n := by
  obtain ⟨e0, e1⟩ := ix2_0 t
  funext a; apply Fin.ext
  match a with
  | ⟨0, _⟩ => show win2_0.index t (0 : Fin 2) * 2048 + 1 * r.val = 2048 * (t.val / 4) + r.val; rw [e0]; omega
  | ⟨1, _⟩ => show win2_0.index t (1 : Fin 2) * 1024 + 1 * n.val = n.val; rw [e1]; omega
theorem blk2_0 (c : Dev nD) (t : Fin cfg2.N) (r : Fin 2048) (n : Fin 1024) :
    (iblk2 V c 0 t : S2048x1024.Idx → EReal) (ix2 r n) = (V c main_arg5 : S4096x1024.Idx → EReal) (ix2 (half (A2 t) r) n) :=
  congrArg (V c main_arg5) (emb2_0 t r n)

theorem ix2_1 : ∀ t : Fin cfg2.N, win2_1.index t (0 : Fin 2) = t.val % 4 ∧ win2_1.index t (1 : Fin 2) = 0 :=
  (by decide +kernel : ∀ t : Fin grid2.N, _)
theorem emb2_1 (t : Fin cfg2.N) (e : Fin 512) (n : Fin 1024) : ((cfg2.win 1).blk t).view.emb (ix2 e n) = ix2 (band (B2 t) e) n := by
  obtain ⟨e0, e1⟩ := ix2_1 t
  funext a; apply Fin.ext
  match a with
  | ⟨0, _⟩ => show win2_1.index t (0 : Fin 2) * 512 + 1 * e.val = 512 * (t.val % 4) + e.val; rw [e0]; omega
  | ⟨1, _⟩ => show win2_1.index t (1 : Fin 2) * 1024 + 1 * n.val = n.val; rw [e1]; omega
theorem blk2_1 (c : Dev nD) (t : Fin cfg2.N) (e : Fin 512) (n : Fin 1024) :
    (iblk2 V c 1 t : S512x1024.Idx → EReal) (ix2 e n) = (V c main_arg3 : S2048x1024.Idx → EReal) (ix2 (band (B2 t) e) n) :=
  congrArg (V c main_arg3) (emb2_1 t e n)

theorem ix2_2 : ∀ t : Fin cfg2.N, win2_2.index t (0 : Fin 2) = t.val / 4 ∧ win2_2.index t (1 : Fin 2) = t.val % 4 :=
  (by decide +kernel : ∀ t : Fin grid2.N, _)
theorem emb2_2 (t : Fin cfg2.N) (r : Fin 2048) (e : Fin 512) : ((cfg2.win 2).blk t).view.emb (ix2 r e) = ix2 (half (A2 t) r) (band (B2 t) e) := by
  obtain ⟨e0, e1⟩ := ix2_2 t
  funext a; apply Fin.ext
  match a with
  | ⟨0, _⟩ => show win2_2.index t (0 : Fin 2) * 2048 + 1 * r.val = 2048 * (t.val / 4) + r.val; rw [e0]; omega
  | ⟨1, _⟩ => show win2_2.index t (1 : Fin 2) * 512 + 1 * e.val = 512 * (t.val % 4) + e.val; rw [e1]; omega
theorem flush2 : ∀ t : Fin cfg2.N, (cfg2.win 2).flush t = true := (by decide +kernel : ∀ t : Fin grid2.N, win2_2.flush t = true)
theorem disj2 : ∀ t t' : Fin cfg2.N, (cfg2.win 2).flush t = true → (cfg2.win 2).flush t' = true → t ≠ t' →
    Disjoint ((cfg2.win 2).blk t).view.set ((cfg2.win 2).blk t').view.set :=
  (cfg2.win 2).hdisj_of_index_inj
    (by decide +kernel : ∀ t t' : Fin grid2.N, win2_2.flush t = true → win2_2.flush t' = true → win2_2.index t = win2_2.index t' → t = t')

/-! ## The fourth call -/

theorem ix3_0 : ∀ t : Fin cfg3.N, win3_0.index t (0 : Fin 2) = 0 ∧ win3_0.index t (1 : Fin 2) = 0 :=
  (by decide +kernel : ∀ t : Fin grid3.N, _)
theorem emb3_0 (t : Fin cfg3.N) (i : Fin 4096) (k : Fin 1024) : ((cfg3.win 0).blk t).view.emb (ix2 i k) = ix2 i k := by
  obtain ⟨e0, e1⟩ := ix3_0 t
  funext a; apply Fin.ext
  match a with
  | ⟨0, _⟩ => show win3_0.index t (0 : Fin 2) * 4096 + 1 * i.val = i.val; rw [e0]; omega
  | ⟨1, _⟩ => show win3_0.index t (1 : Fin 2) * 1024 + 1 * k.val = k.val; rw [e1]; omega
theorem blk3_0 (c : Dev nD) (t : Fin cfg3.N) (i : Fin 4096) (k : Fin 1024) :
    (iblk3 V c 0 t : S4096x1024.Idx → EReal) (ix2 i k) = (V c main_arg0 : S4096x1024.Idx → EReal) (ix2 i k) :=
  congrArg (V c main_arg0) (emb3_0 t i k)

theorem ix3_1 : ∀ t : Fin cfg3.N, win3_1.index t (0 : Fin 2) = 0 ∧ win3_1.index t (1 : Fin 2) = t.val :=
  (by decide +kernel : ∀ t : Fin grid3.N, _)
theorem emb3_1 (t : Fin cfg3.N) (i : Fin 4096) (l : Fin 768) : ((cfg3.win 1).blk t).view.emb (ix2 i l) = ix2 i (col (T3 t) l) := by
  obtain ⟨e0, e1⟩ := ix3_1 t
  funext a; apply Fin.ext
  match a with
  | ⟨0, _⟩ => show win3_1.index t (0 : Fin 2) * 4096 + 1 * i.val = i.val; rw [e0]; omega
  | ⟨1, _⟩ => show win3_1.index t (1 : Fin 2) * 768 + 1 * l.val = 768 * (t.val) + l.val; rw [e1]; omega
theorem blk3_1 (c : Dev nD) (t : Fin cfg3.N) (i : Fin 4096) (l : Fin 768) :
    (iblk3 V c 1 t : S4096x768.Idx → EReal) (ix2 i l) = (V c main_arg4 : S4096x6144.Idx → EReal) (ix2 i (col (T3 t) l)) :=
  congrArg (V c main_arg4) (emb3_1 t i l)

theorem ix3_2 : ∀ t : Fin cfg3.N, win3_2.index t (0 : Fin 3) = t.val ∧ win3_2.index t (1 : Fin 3) = 0 ∧ win3_2.index t (2 : Fin 3) = 0 :=
  (by decide +kernel : ∀ t : Fin grid3.N, _)
theorem emb3_2 (t : Fin cfg3.N) (p : Fin 1) (k : Fin 1024) (l : Fin 768) : ((cfg3.win 2).blk t).view.emb (ix3 p k l) = ix3 (T3 t) k l := by
  obtain ⟨e0, e1, e2⟩ := ix3_2 t
  funext a; apply Fin.ext
  match a with
  | ⟨0, _⟩ => show win3_2.index t (0 : Fin 3) * 1 + 1 * p.val = t.val; rw [e0]; omega
  | ⟨1, _⟩ => show win3_2.index t (1 : Fin 3) * 1024 + 1 * k.val = k.val; rw [e1]; omega
  | ⟨2, _⟩ => show win3_2.index t (2 : Fin 3) * 768 + 1 * l.val = l.val; rw [e2]; omega
theorem flush3 : ∀ t : Fin cfg3.N, (cfg3.win 2).flush t = true := (by decide +kernel : ∀ t : Fin grid3.N, win3_2.flush t = true)
theorem disj3 : ∀ t t' : Fin cfg3.N, (cfg3.win 2).flush t = true → (cfg3.win 2).flush t' = true → t ≠ t' →
    Disjoint ((cfg3.win 2).blk t).view.set ((cfg3.win 2).blk t').view.set :=
  (cfg3.win 2).hdisj_of_index_inj
    (by decide +kernel : ∀ t t' : Fin grid3.N, win3_2.flush t = true → win3_2.flush t' = true → win3_2.index t = win3_2.index t' → t = t')

end Cert.ProjIdeal.Hand

end
-- ==== Proof.Proj.Final.lean ====
/- What the four calls leave in their arrays, at an index: one sum each over the arguments. -/
module

public import proofs.«01_k».proof.Proof.Proj.Launch
public import proofs.«01_k».proof.Proof.Proj.Body
public import proofs.«01_k».proof.Proof.Proj.Win

@[expose] public section

set_option maxRecDepth 16384

noncomputable section

namespace Cert.ProjIdeal.Hand

open Idealize.ShloMosaic Idealize.ShloMosaic.TcCoe
open Cert.ProjIdeal Cert.ProjIdeal.Gen
open Cert.ProjMath
open scoped BigOperators

variable (m : (ℓ : Loc nD τ sig) → Buf (Elt Ideal) ℓ) (ρ : Dev nD → PrngReg)

/-! ## The arguments as matrices -/

abbrev au (c : Dev nD) (i : Fin 4096) (k : Fin 1024) : EReal := (m ((c.tc : Thread nD τ).loc main_arg0) : S4096x1024.Idx → EReal) (ix2 i k)
abbrev awi (c : Dev nD) (p : Fin 8) (k : Fin 1024) (l : Fin 768) : EReal := (m ((c.tc : Thread nD τ).loc main_arg1) : S8x1024x768.Idx → EReal) (ix3 p k l)
abbrev ao (c : Dev nD) (i : Fin 4096) (e : Fin 2048) : EReal := (m ((c.tc : Thread nD τ).loc main_arg2) : S4096x2048.Idx → EReal) (ix2 i e)
abbrev awo (c : Dev nD) (e : Fin 2048) (n : Fin 1024) : EReal := (m ((c.tc : Thread nD τ).loc main_arg3) : S2048x1024.Idx → EReal) (ix2 e n)
abbrev adz (c : Dev nD) (i : Fin 4096) (j : Fin 6144) : EReal := (m ((c.tc : Thread nD τ).loc main_arg4) : S4096x6144.Idx → EReal) (ix2 i j)
abbrev ady (c : Dev nD) (i : Fin 4096) (n : Fin 1024) : EReal := (m ((c.tc : Thread nD τ).loc main_arg5) : S4096x1024.Idx → EReal) (ix2 i n)

theorem V1_arg {a : Ref sig .tc} (c : Dev nD) (h : a ∈ argRefs) : V1 m ρ c a = m ((c.tc : Thread nD τ).loc a) := W1_args m ρ c a h
theorem V2_arg {a : Ref sig .tc} (c : Dev nD) (h : a ∈ argRefs) : V2 m ρ c a = m ((c.tc : Thread nD τ).loc a) := W2_args m ρ c a h
theorem V3_arg {a : Ref sig .tc} (c : Dev nD) (h : a ∈ argRefs) : V3 m ρ c a = m ((c.tc : Thread nD τ).loc a) := W3_args m ρ c a h

attribute [local irreducible] iblk0 iblk1 iblk2 iblk3

/-! ## The product into queries, keys, values and gate -/

theorem fin0 (c : Dev nD) (t : Fin cfg0.N) (r : Fin 2048) (l : Fin 768) :
    ((dat0 (V0 m ρ) c).arrAt 2 cfg0.N : S4096x6144.Idx → EReal) (ix2 (half (A0 t) r) (col (B0 t) l))
      = ∑ k : Fin 1024, au m c (half (A0 t) r) k * awi m c (B0 t) k l := by
  have hE := (dat0 (V0 m ρ) c).arrAt_emb_eq_flushed 2 disj0 t (flush0 t) (ix2 r l)
  rw [emb0_2] at hE
  refine hE.trans (Eq.trans ?_ ((out0_at (iblk0 (V0 m ρ) c 0 t) (iblk0 (V0 m ρ) c 1 t) r l).trans ?_))
  · rw [← after0_2]; rfl
  · simp only [blk0_0, blk0_1]

theorem z_at (c : Dev nD) (i : Fin 4096) (j : Fin 6144) :
    ((dat0 (V0 m ρ) c).arrAt 2 cfg0.N : S4096x6144.Idx → EReal) (ix2 i j) = ∑ k : Fin 1024, au m c i k * awi m c (pc j) k (pl j) := by
  have hb : i.val / 2048 * 8 + j.val / 768 < 16 := by omega
  have h := fin0 m ρ c ⟨i.val / 2048 * 8 + j.val / 768, hb.trans_eq N_0.symm⟩ ⟨i.val % 2048, by omega⟩ (pl j)
  rwa [show A0 ⟨i.val / 2048 * 8 + j.val / 768, hb.trans_eq N_0.symm⟩ = ⟨i.val / 2048, by omega⟩ from
      Fin.ext (by show (i.val / 2048 * 8 + j.val / 768) / 8 = i.val / 2048; omega),
    show B0 ⟨i.val / 2048 * 8 + j.val / 768, hb.trans_eq N_0.symm⟩ = pc j from
      Fin.ext (by show (i.val / 2048 * 8 + j.val / 768) % 8 = j.val / 768; omega), col_pc_pl, half_of] at h

/-! ## The product out -/

theorem fin1 (c : Dev nD) (t : Fin cfg1.N) (r : Fin 2048) (n : Fin 512) :
    ((dat1 (V1 m ρ) c).arrAt 2 cfg1.N : S4096x1024.Idx → EReal) (ix2 (half (A1 t) r) (band (B1 t) n))
      = ∑ e : Fin 2048, ao m c (half (A1 t) r) e * awo m c e (band (B1 t) n) := by
  have hE := (dat1 (V1 m ρ) c).arrAt_emb_eq_flushed 2 disj1 t (flush1 t) (ix2 r n)
  rw [emb1_2] at hE
  refine hE.trans (Eq.trans ?_ ((out1_at (iblk1 (V1 m ρ) c 0 t) (iblk1 (V1 m ρ) c 1 t) r n).trans ?_))
  · rw [← after1_2]; rfl
  · simp only [blk1_0, blk1_1, V1_arg m ρ c (a := main_arg2) (by decide), V1_arg m ρ c (a := main_arg3) (by decide)]

theorem y_at (c : Dev nD) (i : Fin 4096) (n : Fin 1024) :
    ((dat1 (V1 m ρ) c).arrAt 2 cfg1.N : S4096x1024.Idx → EReal) (ix2 i n) = ∑ e : Fin 2048, ao m c i e * awo m c e n := by
  have hb : i.val / 2048 * 2 + n.val / 512 < 4 := by omega
  have h := fin1 m ρ c ⟨i.val / 2048 * 2 + n.val / 512, hb.trans_eq N_1.symm⟩ ⟨i.val % 2048, by omega⟩ ⟨n.val % 512, by omega⟩
  rwa [show A1 ⟨i.val / 2048 * 2 + n.val / 512, hb.trans_eq N_1.symm⟩ = ⟨i.val / 2048, by omega⟩ from
      Fin.ext (by show (i.val / 2048 * 2 + n.val / 512) / 2 = i.val / 2048; omega),
    show B1 ⟨i.val / 2048 * 2 + n.val / 512, hb.trans_eq N_1.symm⟩ = ⟨n.val / 512, by omega⟩ from
      Fin.ext (by show (i.val / 2048 * 2 + n.val / 512) % 2 = n.val / 512; omega), half_of,
    show band (⟨n.val / 512, by omega⟩ : Fin 2) ⟨n.val % 512, by omega⟩ = n from band_of (n := 2) n] at h

/-! ## The gradient of the gated heads -/

theorem fin2 (c : Dev nD) (t : Fin cfg2.N) (r : Fin 2048) (e : Fin 512) :
    ((dat2 (V2 m ρ) c).arrAt 2 cfg2.N : S4096x2048.Idx → EReal) (ix2 (half (A2 t) r) (band (B2 t) e))
      = ∑ n : Fin 1024, ady m c (half (A2 t) r) n * awo m c (band (B2 t) e) n := by
  have hE := (dat2 (V2 m ρ) c).arrAt_emb_eq_flushed 2 disj2 t (flush2 t) (ix2 r e)
  rw [emb2_2] at hE
  refine hE.trans (Eq.trans ?_ ((out2_at (iblk2 (V2 m ρ) c 0 t) (iblk2 (V2 m ρ) c 1 t) r e).trans ?_))
  · rw [← after2_2]; rfl
  · simp only [blk2_0, blk2_1, V2_arg m ρ c (a := main_arg5) (by decide), V2_arg m ρ c (a := main_arg3) (by decide)]

theorem dout_at (c : Dev nD) (i : Fin 4096) (e : Fin 2048) :
    ((dat2 (V2 m ρ) c).arrAt 2 cfg2.N : S4096x2048.Idx → EReal) (ix2 i e) = ∑ n : Fin 1024, ady m c i n * awo m c e n := by
  have hb : i.val / 2048 * 4 + e.val / 512 < 8 := by omega
  have h := fin2 m ρ c ⟨i.val / 2048 * 4 + e.val / 512, hb.trans_eq N_2.symm⟩ ⟨i.val % 2048, by omega⟩ ⟨e.val % 512, by omega⟩
  rwa [show A2 ⟨i.val / 2048 * 4 + e.val / 512, hb.trans_eq N_2.symm⟩ = ⟨i.val / 2048, by omega⟩ from
      Fin.ext (by show (i.val / 2048 * 4 + e.val / 512) / 4 = i.val / 2048; omega),
    show B2 ⟨i.val / 2048 * 4 + e.val / 512, hb.trans_eq N_2.symm⟩ = ⟨e.val / 512, by omega⟩ from
      Fin.ext (by show (i.val / 2048 * 4 + e.val / 512) % 4 = e.val / 512; omega), half_of,
    show band (⟨e.val / 512, by omega⟩ : Fin 4) ⟨e.val % 512, by omega⟩ = e from band_of (n := 4) e] at h

/-! ## The gradient of the first weight -/

theorem dwin_at (c : Dev nD) (p : Fin 8) (k : Fin 1024) (l : Fin 768) :
    ((dat3 (V3 m ρ) c).arrAt 2 cfg3.N : S8x1024x768.Idx → EReal) (ix3 p k l) = ∑ i : Fin 4096, au m c i k * adz m c i (col p l) := by
  have hE := (dat3 (V3 m ρ) c).arrAt_emb_eq_flushed 2 disj3 ⟨p.val, p.isLt.trans_eq N_3.symm⟩ (flush3 _) (ix3 0 k l)
  rw [emb3_2] at hE
  refine hE.trans (Eq.trans ?_ ((out3_at (iblk3 (V3 m ρ) c 0 ⟨p.val, p.isLt.trans_eq N_3.symm⟩) (iblk3 (V3 m ρ) c 1 ⟨p.val, p.isLt.trans_eq N_3.symm⟩) k l).trans ?_))
  · rw [← after3_2]; rfl
  · simp only [blk3_0, blk3_1, V3_arg m ρ c (a := main_arg0) (by decide), V3_arg m ρ c (a := main_arg4) (by decide)]

end Cert.ProjIdeal.Hand

end
-- ==== Proof.Proj.Claims.lean ====
/- The claims about the retention mixer's products: the three frames, and the values over the reals. -/
module

public import proofs.«01_k».proof.Defs
public import proofs.«01_k».proof.Proof.Gen.Proj
public import proofs.«01_k».proof.Proof.Gen.ProjReferenceIdeal.Run
public import proofs.«01_k».proof.Proof.Gen.ProjReferenceIdeal.Read
public import proofs.«01_k».proof.Proof.Proj.Final
public import proofs.«01_k».proof.Proof.Mlp.Ext
public import Idealize.ShloMosaic.Lib.Quiescent

@[expose] public section

set_option maxRecDepth 16384

noncomputable section

namespace Cert.ProjReferenceIdeal.Hand

open Idealize.ShloMosaic Idealize.ShloMosaic.TcCoe Idealize.ShloMosaic.Tactic
open Cert.ProjReferenceIdeal Cert.ProjReferenceIdeal.Gen Cert.ProjReferenceIdeal.Read
open Cert.ProjMath (pc pl col)
open scoped BigOperators

/-! ## The reference's results, read at an index -/

theorem r15 (x0 : (⟨S4096x1024, .bf16⟩ : BufTy).Contents (Elt Ideal)) (x1 : (⟨S8x1024x768, .bf16⟩ : BufTy).Contents (Elt Ideal))
    (i : Fin 4096) (j : Fin 6144) : (val_main_v15 (F := Ideal) x0 x1 : S4096x6144.Idx → EReal) (ix2 i j)
      = ∑ k : Fin 1024, (x0 (ix2 i k) : EReal) * x1 (ix3 (pc j) k (pl j)) := by
  pointwise [val_main_v15, val_main_v8, val_main_v7, val_main_v6, val_main_v1, val_main_v0]
  rfl
theorem r16 (x2 : (⟨S4096x2048, .bf16⟩ : BufTy).Contents (Elt Ideal)) (x3 : (⟨S2048x1024, .bf16⟩ : BufTy).Contents (Elt Ideal))
    (i : Fin 4096) (n : Fin 1024) : (val_main_v16 (F := Ideal) x2 x3 : S4096x1024.Idx → EReal) (ix2 i n)
      = ∑ e : Fin 2048, (x2 (ix2 i e) : EReal) * x3 (ix2 e n) := by
  pointwise [val_main_v16, val_main_v9, val_main_v2, val_main_v3]
theorem r17 (x0 : (⟨S4096x1024, .bf16⟩ : BufTy).Contents (Elt Ideal)) (x4 : (⟨S4096x6144, .bf16⟩ : BufTy).Contents (Elt Ideal))
    (p : Fin 8) (k : Fin 1024) (l : Fin 768) : (val_main_v17 (F := Ideal) x0 x4 : S8x1024x768.Idx → EReal) (ix3 p k l)
      = ∑ i : Fin 4096, (x0 (ix2 i k) : EReal) * x4 (ix2 i (col p l)) := by
  pointwise [val_main_v17, val_main_v14, val_main_v13, val_main_v12, val_main_v11, val_main_v4, val_main_v0]
  refine Finset.sum_congr rfl fun i _ => ?_
  rw [show (⟨p.val * 768 + l.val, by omega⟩ : Fin 6144) = col p l from Fin.ext (by show p.val * 768 + l.val = 768 * p.val + l.val; omega)]
  exact mul_comm _ _
theorem r18 (x3 : (⟨S2048x1024, .bf16⟩ : BufTy).Contents (Elt Ideal)) (x5 : (⟨S4096x1024, .bf16⟩ : BufTy).Contents (Elt Ideal))
    (i : Fin 4096) (e : Fin 2048) : (val_main_v18 (F := Ideal) x3 x5 : S4096x2048.Idx → EReal) (ix2 i e)
      = ∑ n : Fin 1024, (x5 (ix2 i n) : EReal) * x3 (ix2 e n) := by
  pointwise [val_main_v18, val_main_v10, val_main_v5, val_main_v3]

end Cert.ProjReferenceIdeal.Hand

namespace Cert.ProjMath

open Idealize.ShloMosaic Idealize.ShloMosaic.TcCoe Idealize.SL.Sem
open Cert.MlpMath (ext2 ext3)

set_option maxHeartbeats 2000000 in
/-- The four bodies at the bit patterns are the idealized program's. -/
theorem bodies_eq : Cert.Proj.defs₀ (F := Bits) = Cert.ProjIdeal.defs₀ (F := Bits) :=
  congrArg Defs.onTc (funext fun ℓ => funext fun a => match ℓ, a with
    | 0, (_, _) => rfl
    | 1, (_, _) => rfl
    | 2, (_, _) => rfl
    | 3, (_, _) => rfl)
theorem defs_eq : Cert.Proj.defs (F := Bits) = Cert.ProjIdeal.defs (F := Bits) :=
  congrArg (Pipeline.defs (Cert.ProjIdeal.pcfgs (F := Bits))) bodies_eq
theorem main_eq : Cert.Proj.main (F := Bits) = Cert.ProjIdeal.main (F := Bits) := rfl

set_option maxHeartbeats 2000000 in
/-- The program at the bit patterns: the run is the idealized program's, whose text is the same. -/
theorem frame_kernel : Cert.quiescent_Proj := by
  intro m ρ _
  rw [defs_eq, main_eq]
  exact Cert.ProjIdeal.Gen.frame (F := Bits) m ρ

theorem frame_kernelIdeal : Cert.quiescent_ProjIdeal := fun m ρ _ => Cert.ProjIdeal.Gen.frame (F := Ideal) m ρ

theorem frame_reference : Cert.quiescent_ProjReferenceIdeal := fun m ρ _ =>
  (θ_run Cert.ProjReferenceIdeal.defs _ _).mono (fun r h => ⟨fun c => (h c).2.2.2.2, sem_eq_zero_of_no_sems (by decide) r.2⟩)
    (Cert.ProjReferenceIdeal.Value.run (F := Ideal) m ρ)

open Cert.ProjReferenceIdeal.Hand Cert.ProjReferenceIdeal.Read Cert.ProjIdeal.Hand Cert.ProjIdeal.Gen in
/-- Over the reals, the two products and the two gradients are the reference's. -/
theorem algebraic : Cert.algebraic_ProjIdeal_ProjReferenceIdeal := by
  intro m ρ m' ρ' _ hagree
  refine ⟨fun c => (dat0 (V0 m ρ) c).arrAt 2 Cert.ProjIdeal.cfg0.N, fun c => (dat1 (V1 m ρ) c).arrAt 2 Cert.ProjIdeal.cfg1.N,
    fun c => (dat3 (V3 m ρ) c).arrAt 2 Cert.ProjIdeal.cfg3.N, fun c => (dat2 (V2 m ρ) c).arrAt 2 Cert.ProjIdeal.cfg2.N,
    (θ_run Cert.ProjIdeal.defs _ _).mono (fun _ h => h.1) (run_vals m ρ),
    (θ_run Cert.ProjReferenceIdeal.defs _ _).mono (fun r h c => ?_) (Cert.ProjReferenceIdeal.Value.run (F := Ideal) m' ρ')⟩
  obtain ⟨e0, e1, e2, e3, e4, e5⟩ := hagree c
  obtain ⟨r0, r1, r2, r3, ra⟩ := h c
  refine ⟨r0.trans ?_, r1.trans ?_, r2.trans ?_, r3.trans ?_, ra⟩
  · rw [val_main_v15_eq, e0, e1]
    exact ext2 fun i j => (r15 _ _ i j).trans (z_at m ρ c i j).symm
  · rw [val_main_v16_eq, e2, e3]
    exact ext2 fun i n => (r16 _ _ i n).trans (y_at m ρ c i n).symm
  · rw [val_main_v17_eq, e0, e4]
    exact ext3 fun p k l => (r17 _ _ p k l).trans (dwin_at m ρ c p k l).symm
  · rw [val_main_v18_eq, e3, e5]
    exact ext2 fun i e => (r18 _ _ i e).trans (dout_at m ρ c i e).symm

end Cert.ProjMath

end
-- ==== Proof.MlpDu.Body.lean ====
/- The body of the call that multiplies a gradient by the transposed joined weight, run on whole buffers. At the first
   grid point it copies the weight's eight pieces side by side into scratch, eight copies in flight at once, and keeps
   them there for the points that follow; at every point it multiplies its block of rows by the joined weight. -/
module

public import proofs.«01_k».proof.Proof.Gen.MlpDuIdeal.Frame.Runs

@[expose] public section

set_option maxRecDepth 16384

noncomputable section

namespace Cert.MlpDuIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlpDuIdeal Cert.MlpDuIdeal.Gen

variable {F : FTy → Type} [FloatOps F]

local notation "𝕄" => MT nD τ sig Unit (Elt F) ℕ (Pipeline.UD sig nD τ) ℕ

/-! ## What the scratch and the output block hold -/

/-- Piece `j` of the weight, as the copy of it reads it. -/
abbrev piece (c : Dev nD) (fh : HbBuf0 (F := F) c hbM0_0) (j : ℕ)
    (h : ∀ a, (![j, 0, 0] : Fin 3 → ℕ) a + S1x1024x512.size a ≤ S8x1024x512.size a) : S1024x512.Idx → Elt F .bf16 :=
  ReadAs.same.apply (View.read (Elt F) (((Memref.whole main_arg1 : Memref sig .tc .hbm S8x1024x512 .bf16).slice
    (Rect.unit ![j, 0, 0] S1x1024x512.size h) (fun _ => rfl)).squeeze S1024x512 squeezes_S1x1024x512_S1024x512).view fh)

/-- The eight copies' writes into the scratch, last first. -/
abbrev copies (c : Dev nD) (fh : HbBuf0 (F := F) c hbM0_0) : List (View.Piece (Elt F) S1024x4096 .bf16) :=
  [⟨Rect.unit ![0, 3584] S1024x512.size inb_S1024x4096_S1024x512_0_3584, piece c fh 7 inb_S8x1024x512_S1x1024x512_7_0_0⟩,
   ⟨Rect.unit ![0, 3072] S1024x512.size inb_S1024x4096_S1024x512_0_3072, piece c fh 6 inb_S8x1024x512_S1x1024x512_6_0_0⟩,
   ⟨Rect.unit ![0, 2560] S1024x512.size inb_S1024x4096_S1024x512_0_2560, piece c fh 5 inb_S8x1024x512_S1x1024x512_5_0_0⟩,
   ⟨Rect.unit ![0, 2048] S1024x512.size inb_S1024x4096_S1024x512_0_2048, piece c fh 4 inb_S8x1024x512_S1x1024x512_4_0_0⟩,
   ⟨Rect.unit ![0, 1536] S1024x512.size inb_S1024x4096_S1024x512_0_1536, piece c fh 3 inb_S8x1024x512_S1x1024x512_3_0_0⟩,
   ⟨Rect.unit ![0, 1024] S1024x512.size inb_S1024x4096_S1024x512_0_1024, piece c fh 2 inb_S8x1024x512_S1x1024x512_2_0_0⟩,
   ⟨Rect.unit ![0, 512] S1024x512.size inb_S1024x4096_S1024x512_0_512, piece c fh 1 inb_S8x1024x512_S1x1024x512_1_0_0⟩,
   ⟨Rect.unit ![0, 0] S1024x512.size inb_S1024x4096_S1024x512_0_0, piece c fh 0 inb_S8x1024x512_S1x1024x512_0_0_0⟩]

/-- They cover it. -/
theorem copies_cover (c : Dev nD) (fh : HbBuf0 (F := F) c hbM0_0) (y : S1024x4096.Idx) : ∃ p ∈ copies c fh, y ∈ p.1.set :=
  View.cover_of_tiledL (copies c fh) S1024x512.size (by sl_kernel_rfl) y

/-- The weight's pieces side by side: what the scratch holds from the first point on. -/
def joined (c : Dev nD) (fh : HbBuf0 (F := F) c hbM0_0) : Vec F S1024x4096 .bf16 := View.canon (copies c fh)

abbrev rA : Rect S512x4096 := Rect.unit (s := S512x4096) ![0, 0] S512x4096.size inb_S512x4096_S512x4096_0_0
abbrev rW : Rect S1024x4096 := Rect.unit (s := S1024x4096) ![0, 0] S1024x4096.size inb_S1024x4096_S1024x4096_0_0
abbrev rO : Rect S512x1024 := Rect.unit (s := S512x1024) ![0, 0] S512x1024.size inb_S512x1024_S512x1024_0_0

/-- The output block, of the block of rows and the joined weight. -/
def outD (x : Vec F S512x4096 .bf16) (w : Vec F S1024x4096 .bf16) : Vec F S512x1024 .bf16 :=
  View.canon [⟨rO, k0_pay1 (View.ld x rA) (View.ld w rW)⟩]
theorem outD_cover (p : Vec F S512x1024 .bf16) (y : S512x1024.Idx) :
    ∃ pc ∈ ([⟨rO, p⟩] : List (View.Piece (Elt F) S512x1024 .bf16)), y ∈ pc.1.set :=
  View.cover_of_tiled [⟨rO, p⟩] S512x1024.size (by rfl) y

/-- The body's eight copy counters at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)

/-! ## The weight's array as read tokens, one per copy counter -/

/-- The weight's array at its twelve first read tokens and the remainder. -/
abbrev tokens (c : Dev nD) (fh : HbBuf0 (F := F) c hbM0_0) : sProp 𝕄 :=
  iprop((hbM0_0.view.loc (c : Thread nD τ) ↦{Transfers.shareDrop fullShare 12} fh)
          ∗ (hbM0_0.view.loc (c : Thread nD τ) ↦{Transfers.shareTokN fullShare 0} fh)
          ∗ (hbM0_0.view.loc (c : Thread nD τ) ↦{Transfers.shareTokN fullShare 1} fh)
          ∗ (hbM0_0.view.loc (c : Thread nD τ) ↦{Transfers.shareTokN fullShare 2} fh)
          ∗ (hbM0_0.view.loc (c : Thread nD τ) ↦{Transfers.shareTokN fullShare 3} fh)
          ∗ (hbM0_0.view.loc (c : Thread nD τ) ↦{Transfers.shareTokN fullShare 4} fh)
          ∗ (hbM0_0.view.loc (c : Thread nD τ) ↦{Transfers.shareTokN fullShare 5} fh)
          ∗ (hbM0_0.view.loc (c : Thread nD τ) ↦{Transfers.shareTokN fullShare 6} fh)
          ∗ (hbM0_0.view.loc (c : Thread nD τ) ↦{Transfers.shareTokN fullShare 7} fh)
          ∗ (hbM0_0.view.loc (c : Thread nD τ) ↦{Transfers.shareTokN fullShare 8} fh)
          ∗ (hbM0_0.view.loc (c : Thread nD τ) ↦{Transfers.shareTokN fullShare 9} fh)
          ∗ (hbM0_0.view.loc (c : Thread nD τ) ↦{Transfers.shareTokN fullShare 10} fh)
          ∗ (hbM0_0.view.loc (c : Thread nD τ) ↦{Transfers.shareTokN fullShare 11} fh))
/-- An array held whole is its read tokens and the remainder. -/
theorem toks (c : Dev nD) (fh : HbBuf0 (F := F) c hbM0_0) : (hbPt0 c hbM0_0 fh : sProp 𝕄) ⊣⊢ tokens c fh := by
  have e : (iprop((hbM0_0.view.loc (c : Thread nD τ) ↦{Transfers.shareDrop fullShare 12} fh)
      ∗ BI.bigSep (Finset.range 12) (fun i => hbM0_0.view.loc (c : Thread nD τ) ↦{Transfers.shareTokN fullShare i} fh)) : sProp 𝕄)
      = tokens c fh := by
    rw [BI.bigSep_eq_bigSepL_of_eq [0, 1, 2, 3, 4, 5, 6, 7, 8, 9, 10, 11] (by decide) (by decide)]
    rfl
  rw [← e]
  exact Transfers.pointsTo_toks_range fullShare 12

/-! ## The body at the first point and at the others -/

set_option maxHeartbeats 4000000 in
set_option sl_exec.dmaWindow true in
set_option sl_exec.dmaWindowSet true in
theorem body_first (c : Dev nD) (i : grid0.Coords) (arg1 : Memref sig .tc .vmem S512x4096 .bf16) (harg1 : arg1.IsWhole)
    (arg3 : Memref sig .tc .vmem S512x1024 .bf16) (harg3 : arg3.IsWhole) (arg4 : Memref sig .tc .vmem S1024x4096 .bf16) (harg4 : arg4.IsWhole)
    (hc : cond0_0 i) (x : Vec F S512x4096 .bf16) (fh : HbBuf0 (F := F) c hbM0_0) (W : Waits sig Unit) (K : PUnit → sProp 𝕄) :
    iprop(owns (c : Thread nD τ) arg1 fullShare x ∗ (∃ d, owns (c : Thread nD τ) arg3 fullShare d) ∗ (∃ d, owns (c : Thread nD τ) arg4 fullShare d)
        ∗ cells c ∗ hbPt0 c hbM0_0 fh ∗ owes (c : Thread nD τ) 0 W
        ∗ (iprop(owns (c : Thread nD τ) arg1 fullShare x ∗ owns (c : Thread nD τ) arg3 fullShare (outD x (joined c fh))
            ∗ owns (c : Thread nD τ) arg4 fullShare (joined c fh) ∗ cells c ∗ hbPt0 c hbM0_0 fh ∗ (∃ W', owes (c : Thread nD τ) 0 W')) -∗ K ⟨⟩))
      ⊢ wp frame (wpE (defs₀ (F := F)) Variants.none c none) Set.univ
          (cc0_mlp_du i arg1 harg1 (Memref.whole main_arg1) (Memref.isWhole_whole _) arg3 harg3 arg4 harg4 cc0_scratch1) K := by
  simp only [cc0_mlp_du_eq_skeleton]; unfold cc0_mlp_du_skel
  simp only [k0_part1_eq_skeleton, k0_part2_eq_skeleton, k0_part3_eq_skeleton]
  unfold owns cells
  iintro ⟨⟨%f0, %hf0, H0⟩, ⟨%d1, %f1, -, H1⟩, ⟨%ds0, %fs0, -, HS0⟩, ⟨Hq0, Hq1, Hq2, Hq3, Hq4, Hq5, Hq6, Hq7⟩, Hh, HW, Hk⟩
  obtain rfl := harg1.eq_unread hf0
  ihave Ht := (toks c fh).1 $$ Hh
  icases Ht with ⟨Hr, Ht0, Ht1, Ht2, Ht3, Ht4, Ht5, Ht6, Ht7, Ht8, Ht9, Ht10, Ht11⟩
  sl_exec (disch := first | sl_exact hc)
  sl_step
  iapply Hk
  isplitl [H0]
  · iexists _; isplitr; · ipureintro; exact harg1.read_unread _
    iexact H0
  isplitl [H1]
  · iexists _; isplitr
    swap; · iexact H1
    ipureintro
    refine (View.read_writes_eq_canon _ _ _ (outD_cover _)).trans ?_
    have hw : body_first.sl.v4 c arg4 fh = View.ld (joined c fh) rW := by
      unfold body_first.sl.v4
      exact View.readCov_eq_canon' _ _ _
    rw [hw, View.readAt_eq_ld, hf0]
    rfl
  isplitl [HS0]
  · iexists _; isplitr
    swap; · iexact HS0
    ipureintro
    exact View.read_writes_eq_canon _ _ _ (copies_cover c fh)
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hr Ht0 Ht1 Ht2 Ht3 Ht4 Ht5 Ht6 Ht7 Ht8 Ht9 Ht10 Ht11]
  · iapply (toks c fh).2
    isplitl [Hr]; · iexact Hr
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    iexact Ht11
  iexists _; iexact HW

set_option maxHeartbeats 1000000 in
theorem body_next (c : Dev nD) (i : grid0.Coords) (arg1 : Memref sig .tc .vmem S512x4096 .bf16) (harg1 : arg1.IsWhole)
    (arg3 : Memref sig .tc .vmem S512x1024 .bf16) (harg3 : arg3.IsWhole) (arg4 : Memref sig .tc .vmem S1024x4096 .bf16) (harg4 : arg4.IsWhole)
    (hc : ¬cond0_0 i) (x : Vec F S512x4096 .bf16) (w : Vec F S1024x4096 .bf16) (W : Waits sig Unit) (K : PUnit → sProp 𝕄) :
    iprop(owns (c : Thread nD τ) arg1 fullShare x ∗ (∃ d, owns (c : Thread nD τ) arg3 fullShare d) ∗ owns (c : Thread nD τ) arg4 fullShare w
        ∗ owes (c : Thread nD τ) 0 W
        ∗ (iprop(owns (c : Thread nD τ) arg1 fullShare x ∗ owns (c : Thread nD τ) arg3 fullShare (outD x w)
            ∗ owns (c : Thread nD τ) arg4 fullShare w ∗ (∃ W', owes (c : Thread nD τ) 0 W')) -∗ K ⟨⟩))
      ⊢ wp frame (wpE (defs₀ (F := F)) Variants.none c none) Set.univ
          (cc0_mlp_du i arg1 harg1 (Memref.whole main_arg1) (Memref.isWhole_whole _) arg3 harg3 arg4 harg4 cc0_scratch1) K := by
  simp only [cc0_mlp_du_eq_skeleton]; unfold cc0_mlp_du_skel
  simp only [k0_part1_eq_skeleton, k0_part2_eq_skeleton, k0_part3_eq_skeleton]
  unfold owns
  iintro ⟨⟨%f0, %hf0, H0⟩, ⟨%d1, %f1, -, H1⟩, ⟨%fs0, %hfs0, HS0⟩, HW, Hk⟩
  subst hf0 hfs0
  sl_exec (disch := first | sl_exact hc)
  sl_step
  iapply Hk
  isplitl [H0]
  · iexists f0; isplitr; · ipureintro; rfl
    iexact H0
  isplitl [H1]
  · iexists _; isplitr
    swap; · iexact H1
    ipureintro
    exact View.read_writes_eq_canon _ _ _ (outD_cover _)
  isplitl [HS0]
  · iexists fs0; isplitr; · ipureintro; rfl
    iexact HS0
  iexists _; iexact HW

end Cert.MlpDuIdeal.Hand

end
-- ==== Proof.MlpDu.Launch.lean ====
/- The run of the call that multiplies a gradient by the transposed joined weight: after the first grid point the scratch
   holds the joined weight, and after every point the output's block is the product of that point's block of rows. -/
module

public import proofs.«01_k».proof.Proof.MlpDu.Body
public import Idealize.ShloMosaic.Lib.Claim

@[expose] public section

set_option maxRecDepth 16384

noncomputable section

namespace Cert.MlpDuIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MlpDuIdeal Cert.MlpDuIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The joined weight of the launch memory. -/
abbrev weight (c : Dev nD) : Vec F S1024x4096 .bf16 := joined c (V m c main_arg1)

/-- Between points: the scratch at the joined weight, the generator register, the copy counters at zero, the weight's array
    as launched. -/
def kept (c : Dev nD) : sProp 𝕄 :=
  iprop(owns (c : Thread nD τ) scM0_0 fullShare (weight m c) ∗ (∃ r, prngReg c r) ∗ cells c ∗ hbPt0 c hbM0_0 (V m c main_arg1))

/-- The same before the first point: the scratch at anything. -/
theorem start_eq (c : Dev nD) : (Pipeline.ΦD osem0 spec0 H0 (V m) c : sProp 𝕄)
    = iprop((∃ d, owns (c : Thread nD τ) scM0_0 fullShare d) ∗ (∃ r, prngReg c r) ∗ cells c ∗ hbPt0 c hbM0_0 (V m c main_arg1)) := PhiD0_eq m c

/-- The invariant before point `n`. -/
def inv0 (c : Dev nD) (n : ℕ) : sProp 𝕄 := if n = 0 then Pipeline.ΦD osem0 spec0 H0 (V m) c else kept m c

/-- What the pipeline's proof names: after point `t` the rows' buffer at its block and the output's at the product. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outD (iblk m c 0 t) (weight m c)
  Φ t := inv0 m c t.val
  q _ := fullShare
  owed _ := 0

theorem inv_zero (c : Dev nD) (t : Fin (cfg0.N + 1)) (h : t.val = 0) :
    (dats m 0 c).Φ t = Pipeline.ΦD osem0 spec0 H0 (V m) c := by
  show inv0 m c t.val = _
  unfold inv0; exact if_pos h
theorem inv_pos (c : Dev nD) (t : Fin (cfg0.N + 1)) (h : t.val ≠ 0) : (dats m 0 c).Φ t = kept m c := by
  show inv0 m c t.val = _
  unfold inv0; exact if_neg h
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outD (iblk m c 0 t) (weight m c) := by dsimp only [dats]
theorem before0_0 (c : Dev nD) (t : Fin cfg0.N) (d) : (dats m 0 c).before 0 t d = iblk m c 0 t :=
  before0_0_of m (dats m 0 c) (A_eq m c 0) (after0_0 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- The body at any point, the first or another. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  have hN : t.val < 8 := lt_of_lt_of_eq t.isLt (show cfg0.N = 8 from N_0)
  rw [inv_pos m c t.succ (Nat.succ_ne_zero _), after0_0, after0_1]
  unfold Dat.owesAt Pipeline.owesWithin kept
  rw [show (dats m 0 c).owed t.castSucc = 0 from rfl, show (dats m 0 c).owed t.succ = 0 from rfl]
  by_cases hz : t.val = 0
  · rw [inv_zero m c t.castSucc hz, start_eq]
    iintro ⟨⟨HS, Hg, Hq, Hh⟩, ⟨%W, -, HW⟩, ⟨%d0, H0⟩, ⟨%d1, H1⟩⟩
    iapply (body_first c (grid0.coords t) _ _ _ _ _ _ ((hcond0_0 t).mpr (by omega)) (iblk m c 0 t) (V m c main_arg1) W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, H1, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    iexact H1
  · rw [inv_pos m c t.castSucc hz]
    unfold kept
    iintro ⟨⟨HS, Hg, Hq, Hh⟩, ⟨%W, -, HW⟩, ⟨%d0, H0⟩, ⟨%d1, H1⟩⟩
    iapply (body_next c (grid0.coords t) _ _ _ _ _ _ (fun h => hz (by have := (hcond0_0 t).mp h; omega)) (iblk m c 0 t) (weight m c) W _)
    isplitl [H0]; · iexact H0
    isplitl [H1]; · iexists _; iexact H1
    isplitl [HS]; · iexact HS
    isplitl [HW]; · iexact HW
    iintro ⟨H0, H1, HS, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [inv_zero m c 0 rfl]

/-- After the last point the named contents of the scratch are forgotten. -/
theorem hout (c : Dev nD) : (dats m 0 c).Φ (Fin.last cfg0.N) ⊢ Pipeline.ΦD osem0 spec0 H0 (V m) c := by
  rw [inv_pos m c (Fin.last cfg0.N) (by rw [Fin.val_last]; have : cfg0.N = 8 := N_0; omega), start_eq]
  unfold kept
  iintro ⟨HS, Hg, Hq, Hh⟩
  isplitl [HS]
  · iexists _; iexact HS
  isplitl [Hg]; · iexact Hg
  isplitl [Hq]; · iexact Hq
  iexact Hh

/-! ## The run and the frame -/

set_option backward.isDefEq.respectTransparency.types false in
/-- Every weakly fair execution ends with the arrays at what the write-backs leave and the counters at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run with its result and arguments named. -/
theorem run_vals : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 1,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run m ρ)

/-- The frame: the arguments and the counters end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_vals m ρ)

end Cert.MlpDuIdeal.Hand

end
-- ==== Proof.MlpDu.Value.lean ====
/- What the call leaves in its output, at an index: the product with the transposed joined weight. -/
module

public import proofs.«01_k».proof.Proof.MlpDu.Launch
public import proofs.«01_k».proof.Proof.Mlp.Model
public import Idealize.ShloMosaic.Lib.Pointwise
public import Idealize.ShloMosaic.Lib.Pipeline.ValueKit.Tiles
public import Idealize.ShloMosaic.Lib.Pipeline.ValueKit.Geometry
public import Idealize.ShloMosaic.Lib.Pipeline.ReadBack
public import Idealize.ShloMosaic.Lib.ValueLayout

@[expose] public section

set_option maxRecDepth 16384

noncomputable section

namespace Cert.MlpDuIdeal.Hand

open Idealize.ShloMosaic Idealize.ShloMosaic.TcCoe Idealize.ShloMosaic.Tactic
open Cert.MlpDuIdeal Cert.MlpDuIdeal.Gen
open Cert.MlpMath (pc pl col pc_col pl_col)
open scoped BigOperators

variable (m : (ℓ : Loc nD τ sig) → Buf (Elt Ideal) ℓ) (ρ : Dev nD → PrngReg)

/-- A copied piece at row `k` and column `l`. -/
theorem piece_at (c : Dev nD) (fh : HbBuf0 (F := Ideal) c hbM0_0) (p : Fin 8)
    (h : ∀ a, (![p.val, 0, 0] : Fin 3 → ℕ) a + S1x1024x512.size a ≤ S8x1024x512.size a) (k : Fin 1024) (l : Fin 512) :
    (piece c fh p.val h : S1024x512.Idx → EReal) (ix2 k l) = (fh : S8x1024x512.Idx → EReal) (ix3 p k l) := by
  show (fh : S8x1024x512.Idx → EReal) ((Rect.unit (s := S8x1024x512) ![p.val, 0, 0] S1x1024x512.size h).emb
    (Shape.reshapeEquiv squeezes_S1x1024x512_S1024x512.numel_eq (ix2 k l))) = _
  refine congrArg fh ?_
  refine (congrArg _ (ValueIdx.reshapeEquiv_ix2_1ab _ k l)).trans ?_
  funext a; apply Fin.ext
  match a with
  | ⟨0, _⟩ => show p.val + 1 * 0 = p.val; omega
  | ⟨1, _⟩ => show 0 + 1 * k.val = k.val; omega
  | ⟨2, _⟩ => show 0 + 1 * l.val = l.val; omega

/-- Column `j` of the joined weight is its column of its piece. -/
theorem joined_at (c : Dev nD) (fh : HbBuf0 (F := Ideal) c hbM0_0) (k : Fin 1024) (j : Fin 4096) :
    (joined c fh : S1024x4096.Idx → EReal) (ix2 k j) = (fh : S8x1024x512.Idx → EReal) (ix3 (pc j) k (pl j)) := by
  have key : ∀ (p : Fin 8) (h : ∀ a, (![p.val, 0, 0] : Fin 3 → ℕ) a + S1x1024x512.size a ≤ S8x1024x512.size a) (x : S1024x512.Idx),
      k.val = (x 0).val → j.val = 512 * p.val + (x 1).val →
      (piece c fh p.val h : S1024x512.Idx → EReal) x = (fh : S8x1024x512.Idx → EReal) (ix3 (pc j) k (pl j)) := by
    intro p h x h0 h1
    obtain ⟨k', l, rfl⟩ : ∃ (k' : Fin 1024) (l : Fin 512), x = ix2 k' l := ⟨x 0, x 1, eq_ix2 x⟩
    obtain rfl : k = k' := Fin.ext h0
    obtain rfl : j = col p l := Fin.ext h1
    rw [piece_at, pc_col, pl_col]
  unfold joined
  canon_tiles x hx using copies_cover c fh _
  · exact key 7 _ x hx0 hx1
  · exact key 6 _ x hx0 hx1
  · exact key 5 _ x hx0 hx1
  · exact key 4 _ x hx0 hx1
  · exact key 3 _ x hx0 hx1
  · exact key 2 _ x hx0 hx1
  · exact key 1 _ x hx0 hx1
  · exact key 0 _ x hx0 (hx1.trans (by simp))

theorem outD_at (x : Vec Ideal S512x4096 .bf16) (w : Vec Ideal S1024x4096 .bf16) (i : Fin 512) (k : Fin 1024) :
    outD x w (ix2 i k) = ∑ j : Fin 4096, (x (ix2 i j) : EReal) * w (ix2 k j) := by
  unfold outD
  canon_tiles y hy using outD_cover (F := Ideal) _ _
  all_goals open_payloads
  all_goals pointwise [k0_pay1]
  obtain rfl : i = y 0 := Fin.ext hy0
  obtain rfl : k = y 1 := Fin.ext hy1
  rfl

/-! ## The windows -/

/-- Row `r` of block `t`. -/
def row (t : Fin cfg0.N) (r : Fin 512) : Fin 4096 := ⟨512 * t.val + r.val, by have : t.val < 8 := t.isLt.trans_eq N_0; omega⟩

theorem ix0 : ∀ t : Fin cfg0.N, win0_0.index t (0 : Fin 2) = t.val ∧ win0_0.index t (1 : Fin 2) = 0 :=
  (by decide +kernel : ∀ t : Fin grid0.N, _)
theorem emb0 (t : Fin cfg0.N) (r : Fin 512) (j : Fin 4096) : ((cfg0.win 0).blk t).view.emb (ix2 r j) = ix2 (row t r) j := by
  obtain ⟨e0, e1⟩ := ix0 t
  funext a; apply Fin.ext
  match a with
  | ⟨0, _⟩ => show win0_0.index t (0 : Fin 2) * 512 + 1 * r.val = 512 * t.val + r.val; rw [e0]; omega
  | ⟨1, _⟩ => show win0_0.index t (1 : Fin 2) * 4096 + 1 * j.val = j.val; rw [e1]; omega
theorem blk0 (c : Dev nD) (t : Fin cfg0.N) (r : Fin 512) (j : Fin 4096) :
    (iblk m c 0 t : S512x4096.Idx → EReal) (ix2 r j) = (V m c main_arg0 : S4096x4096.Idx → EReal) (ix2 (row t r) j) :=
  congrArg (V m c main_arg0) (emb0 t r j)
theorem ix1 : ∀ t : Fin cfg0.N, win0_1.index t (0 : Fin 2) = t.val ∧ win0_1.index t (1 : Fin 2) = 0 :=
  (by decide +kernel : ∀ t : Fin grid0.N, _)
theorem emb1 (t : Fin cfg0.N) (r : Fin 512) (k : Fin 1024) : ((cfg0.win 1).blk t).view.emb (ix2 r k) = ix2 (row t r) k := by
  obtain ⟨e0, e1⟩ := ix1 t
  funext a; apply Fin.ext
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega
theorem flush : ∀ t : Fin cfg0.N, (cfg0.win 1).flush t = true := (by decide +kernel : ∀ t : Fin grid0.N, win0_1.flush t = true)
theorem disj : ∀ t t' : Fin cfg0.N, (cfg0.win 1).flush t = true → (cfg0.win 1).flush t' = true → t ≠ t' →
    Disjoint ((cfg0.win 1).blk t).view.set ((cfg0.win 1).blk t').view.set :=
  (cfg0.win 1).hdisj_of_index_inj
    (by decide +kernel : ∀ t t' : Fin grid0.N, win0_1.flush t = true → win0_1.flush t' = true → win0_1.index t = win0_1.index t' → t = t')

/-! ## The output -/

abbrev ad (c : Dev nD) (i j : Fin 4096) : EReal := (m ((c.tc : Thread nD τ).loc main_arg0) : S4096x4096.Idx → EReal) (ix2 i j)
abbrev aw (c : Dev nD) (p : Fin 8) (k : Fin 1024) (l : Fin 512) : EReal := (m ((c.tc : Thread nD τ).loc main_arg1) : S8x1024x512.Idx → EReal) (ix3 p k l)

attribute [local irreducible] iblk

theorem fin (c : Dev nD) (t : Fin cfg0.N) (r : Fin 512) (k : Fin 1024) :
    ((dats m 0 c).arrAt 1 cfg0.N : S4096x1024.Idx → EReal) (ix2 (row t r) k) = ∑ j : Fin 4096, ad m c (row t r) j * aw m c (pc j) k (pl j) := by
  have hE := (dats m 0 c).arrAt_emb_eq_flushed 1 disj t (flush t) (ix2 r k)
  rw [emb1] at hE
  refine hE.trans (Eq.trans ?_ ((outD_at (iblk m c 0 t) (weight m c) r k).trans ?_))
  · rw [← after0_1]; rfl
  · simp only [blk0, joined_at, V_main_arg0, V_main_arg1]

/-- The gradient at row `i` and column `k`: the sum over the weight's columns. -/
theorem du_at (c : Dev nD) (i : Fin 4096) (k : Fin 1024) :
    ((dats m 0 c).arrAt 1 cfg0.N : S4096x1024.Idx → EReal) (ix2 i k) = ∑ j : Fin 4096, ad m c i j * aw m c (pc j) k (pl j) := by
  have h := fin m c ⟨i.val / 512, (by omega : i.val / 512 < 8).trans_eq N_0.symm⟩ ⟨i.val % 512, by omega⟩ k
  rwa [show row ⟨i.val / 512, (by omega : i.val / 512 < 8).trans_eq N_0.symm⟩ ⟨i.val % 512, by omega⟩ = i from
    Fin.ext (by show 512 * (i.val / 512) + i.val % 512 = i.val; omega)] at h

end Cert.MlpDuIdeal.Hand

end
-- ==== Proof.MlpDu.Claims.lean ====
/- The claims about the gradient of the feed-forward layer's input: the three frames, and the value over the reals. -/
module

public import proofs.«01_k».proof.Defs
public import proofs.«01_k».proof.Proof.Gen.MlpDu
public import proofs.«01_k».proof.Proof.Gen.MlpDuReferenceIdeal.Run
public import proofs.«01_k».proof.Proof.Gen.MlpDuReferenceIdeal.Read
public import proofs.«01_k».proof.Proof.MlpDu.Value
public import proofs.«01_k».proof.Proof.Mlp.Ext
public import Idealize.ShloMosaic.Lib.Quiescent

@[expose] public section

set_option maxRecDepth 16384

noncomputable section

namespace Cert.MlpDuReferenceIdeal.Hand

open Idealize.ShloMosaic Idealize.ShloMosaic.TcCoe Idealize.ShloMosaic.Tactic
open Cert.MlpDuReferenceIdeal Cert.MlpDuReferenceIdeal.Gen Cert.MlpDuReferenceIdeal.Read
open Cert.MlpMath (pc pl)
open scoped BigOperators

/-- The reference's gradient at an index. -/
theorem r7 (x0 : (⟨S4096x4096, .bf16⟩ : BufTy).Contents (Elt Ideal)) (x1 : (⟨S8x1024x512, .bf16⟩ : BufTy).Contents (Elt Ideal))
    (i : Fin 4096) (k : Fin 1024) : (val_main_v7 (F := Ideal) x0 x1 : S4096x1024.Idx → EReal) (ix2 i k)
      = ∑ j : Fin 4096, (x0 (ix2 i j) : EReal) * x1 (ix3 (pc j) k (pl j)) := by
  pointwise [val_main_v7, val_main_v6, val_main_v5, val_main_v3, val_main_v2, val_main_v1]
  rfl

end Cert.MlpDuReferenceIdeal.Hand

namespace Cert.MlpDuMath

open Idealize.ShloMosaic Idealize.ShloMosaic.TcCoe Idealize.SL.Sem
open Cert.MlpMath (ext2)

/-- The body at the bit patterns is the idealized program's. -/
theorem bodies_eq : Cert.MlpDu.defs₀ (F := Bits) = Cert.MlpDuIdeal.defs₀ (F := Bits) :=
  congrArg Defs.onTc (funext fun ℓ => funext fun a => match ℓ, a with
    | 0, (_, _) => rfl)
theorem defs_eq : Cert.MlpDu.defs (F := Bits) = Cert.MlpDuIdeal.defs (F := Bits) :=
  congrArg (Pipeline.defs (Cert.MlpDuIdeal.pcfgs (F := Bits))) bodies_eq
theorem main_eq : Cert.MlpDu.main (F := Bits) = Cert.MlpDuIdeal.main (F := Bits) := rfl

set_option maxHeartbeats 2000000 in
/-- The program at the bit patterns: the run is the idealized program's, whose text is the same. -/
theorem frame_kernel : Cert.quiescent_MlpDu := by
  intro m ρ _
  rw [defs_eq, main_eq]
  exact Cert.MlpDuIdeal.Hand.frame (F := Bits) m ρ

theorem frame_kernelIdeal : Cert.quiescent_MlpDuIdeal := fun m ρ _ => Cert.MlpDuIdeal.Hand.frame (F := Ideal) m ρ

theorem frame_reference : Cert.quiescent_MlpDuReferenceIdeal := fun m ρ _ =>
  (θ_run Cert.MlpDuReferenceIdeal.defs _ _).mono (fun r h => ⟨fun c => (h c).2, sem_eq_zero_of_no_sems (by decide) r.2⟩)
    (Cert.MlpDuReferenceIdeal.Value.run (F := Ideal) m ρ)

open Cert.MlpDuReferenceIdeal.Hand Cert.MlpDuReferenceIdeal.Read Cert.MlpDuIdeal.Hand Cert.MlpDuIdeal.Gen in
/-- Over the reals, the gradient is the reference's. -/
theorem algebraic : Cert.algebraic_MlpDuIdeal_MlpDuReferenceIdeal := by
  intro m ρ m' ρ' _ hagree
  refine ⟨fun c => (dats m 0 c).arrAt 1 Cert.MlpDuIdeal.cfg0.N,
    (θ_run Cert.MlpDuIdeal.defs _ _).mono (fun _ h => h.1) (run_vals m ρ),
    (θ_run Cert.MlpDuReferenceIdeal.defs _ _).mono (fun r h c => ?_) (Cert.MlpDuReferenceIdeal.Value.run (F := Ideal) m' ρ')⟩
  obtain ⟨e0, e1⟩ := hagree c
  obtain ⟨r0, ra⟩ := h c
  refine ⟨r0.trans ?_, ra⟩
  rw [val_main_v7_eq, e0, e1]
  exact ext2 fun i k => (r7 _ _ i k).trans (du_at m c i k).symm

end Cert.MlpDuMath

end
-- ==== Proof.RetDu.Body.lean ====
/- The body of the call that multiplies a gradient by the transposed joined weight, run on whole buffers. At the first
   grid point it copies the weight's eight pieces side by side into scratch, eight copies in flight at once, and keeps
   them there for the points that follow; at every point it multiplies its block of rows by the joined weight. -/
module

public import proofs.«01_k».proof.Proof.Gen.RetDuIdeal.Frame.Runs

@[expose] public section

set_option maxRecDepth 16384

noncomputable section

namespace Cert.RetDuIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.RetDuIdeal Cert.RetDuIdeal.Gen

variable {F : FTy → Type} [FloatOps F]

local notation "𝕄" => MT nD τ sig Unit (Elt F) ℕ (Pipeline.UD sig nD τ) ℕ

/-! ## What the scratch and the output block hold -/

/-- Piece `j` of the weight, as the copy of it reads it. -/
abbrev piece (c : Dev nD) (fh : HbBuf0 (F := F) c hbM0_0) (j : ℕ)
    (h : ∀ a, (![j, 0, 0] : Fin 3 → ℕ) a + S1x1024x768.size a ≤ S8x1024x768.size a) : S1024x768.Idx → Elt F .bf16 :=
  ReadAs.same.apply (View.read (Elt F) (((Memref.whole main_arg1 : Memref sig .tc .hbm S8x1024x768 .bf16).slice
    (Rect.unit ![j, 0, 0] S1x1024x768.size h) (fun _ => rfl)).squeeze S1024x768 squeezes_S1x1024x768_S1024x768).view fh)

/-- The eight copies' writes into the scratch, last first. -/
abbrev copies (c : Dev nD) (fh : HbBuf0 (F := F) c hbM0_0) : List (View.Piece (Elt F) S1024x6144 .bf16) :=
  [⟨Rect.unit ![0, 5376] S1024x768.size inb_S1024x6144_S1024x768_0_5376, piece c fh 7 inb_S8x1024x768_S1x1024x768_7_0_0⟩,
   ⟨Rect.unit ![0, 4608] S1024x768.size inb_S1024x6144_S1024x768_0_4608, piece c fh 6 inb_S8x1024x768_S1x1024x768_6_0_0⟩,
   ⟨Rect.unit ![0, 3840] S1024x768.size inb_S1024x6144_S1024x768_0_3840, piece c fh 5 inb_S8x1024x768_S1x1024x768_5_0_0⟩,
   ⟨Rect.unit ![0, 3072] S1024x768.size inb_S1024x6144_S1024x768_0_3072, piece c fh 4 inb_S8x1024x768_S1x1024x768_4_0_0⟩,
   ⟨Rect.unit ![0, 2304] S1024x768.size inb_S1024x6144_S1024x768_0_2304, piece c fh 3 inb_S8x1024x768_S1x1024x768_3_0_0⟩,
   ⟨Rect.unit ![0, 1536] S1024x768.size inb_S1024x6144_S1024x768_0_1536, piece c fh 2 inb_S8x1024x768_S1x1024x768_2_0_0⟩,
   ⟨Rect.unit ![0, 768] S1024x768.size inb_S1024x6144_S1024x768_0_768, piece c fh 1 inb_S8x1024x768_S1x1024x768_1_0_0⟩,
   ⟨Rect.unit ![0, 0] S1024x768.size inb_S1024x6144_S1024x768_0_0, piece c fh 0 inb_S8x1024x768_S1x1024x768_0_0_0⟩]

/-- They cover it. -/
theorem copies_cover (c : Dev nD) (fh : HbBuf0 (F := F) c hbM0_0) (y : S1024x6144.Idx) : ∃ p ∈ copies c fh, y ∈ p.1.set :=
  View.cover_of_tiledL (copies c fh) S1024x768.size (by sl_kernel_rfl) y

/-- The weight's pieces side by side: what the scratch holds from the first point on. -/
def joined (c : Dev nD) (fh : HbBuf0 (F := F) c hbM0_0) : Vec F S1024x6144 .bf16 := View.canon (copies c fh)

abbrev rA : Rect S512x6144 := Rect.unit (s := S512x6144) ![0, 0] S512x6144.size inb_S512x6144_S512x6144_0_0
abbrev rW : Rect S1024x6144 := Rect.unit (s := S1024x6144) ![0, 0] S1024x6144.size inb_S1024x6144_S1024x6144_0_0
abbrev rO : Rect S512x1024 := Rect.unit (s := S512x1024) ![0, 0] S512x1024.size inb_S512x1024_S512x1024_0_0

/-- The output block, of the block of rows and the joined weight. -/
def outD (x : Vec F S512x6144 .bf16) (w : Vec F S1024x6144 .bf16) : Vec F S512x1024 .bf16 :=
  View.canon [⟨rO, k0_pay1 (View.ld x rA) (View.ld w rW)⟩]
theorem outD_cover (p : Vec F S512x1024 .bf16) (y : S512x1024.Idx) :
    ∃ pc ∈ ([⟨rO, p⟩] : List (View.Piece (Elt F) S512x1024 .bf16)), y ∈ pc.1.set :=
  View.cover_of_tiled [⟨rO, p⟩] S512x1024.size (by rfl) y

/-- The body's eight copy counters at zero. -/
abbrev cells (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)

/-! ## The weight's array as read tokens, one per copy counter -/

/-- The weight's array at its twelve first read tokens and the remainder. -/
abbrev tokens (c : Dev nD) (fh : HbBuf0 (F := F) c hbM0_0) : sProp 𝕄 :=
  iprop((hbM0_0.view.loc (c : Thread nD τ) ↦{Transfers.shareDrop fullShare 12} fh)
          ∗ (hbM0_0.view.loc (c : Thread nD τ) ↦{Transfers.shareTokN fullShare 0} fh)
          ∗ (hbM0_0.view.loc (c : Thread nD τ) ↦{Transfers.shareTokN fullShare 1} fh)
          ∗ (hbM0_0.view.loc (c : Thread nD τ) ↦{Transfers.shareTokN fullShare 2} fh)
          ∗ (hbM0_0.view.loc (c : Thread nD τ) ↦{Transfers.shareTokN fullShare 3} fh)
          ∗ (hbM0_0.view.loc (c : Thread nD τ) ↦{Transfers.shareTokN fullShare 4} fh)
          ∗ (hbM0_0.view.loc (c : Thread nD τ) ↦{Transfers.shareTokN fullShare 5} fh)
          ∗ (hbM0_0.view.loc (c : Thread nD τ) ↦{Transfers.shareTokN fullShare 6} fh)
          ∗ (hbM0_0.view.loc (c : Thread nD τ) ↦{Transfers.shareTokN fullShare 7} fh)
          ∗ (hbM0_0.view.loc (c : Thread nD τ) ↦{Transfers.shareTokN fullShare 8} fh)
          ∗ (hbM0_0.view.loc (c : Thread nD τ) ↦{Transfers.shareTokN fullShare 9} fh)
          ∗ (hbM0_0.view.loc (c : Thread nD τ) ↦{Transfers.shareTokN fullShare 10} fh)
          ∗ (hbM0_0.view.loc (c : Thread nD τ) ↦{Transfers.shareTokN fullShare 11} fh))
/-- An array held whole is its read tokens and the remainder. -/
theorem toks (c : Dev nD) (fh : HbBuf0 (F := F) c hbM0_0) : (hbPt0 c hbM0_0 fh : sProp 𝕄) ⊣⊢ tokens c fh := by
  have e : (iprop((hbM0_0.view.loc (c : Thread nD τ) ↦{Transfers.shareDrop fullShare 12} fh)
      ∗ BI.bigSep (Finset.range 12) (fun i => hbM0_0.view.loc (c : Thread nD τ) ↦{Transfers.shareTokN fullShare i} fh)) : sProp 𝕄)
      = tokens c fh := by
    rw [BI.bigSep_eq_bigSepL_of_eq [0, 1, 2, 3, 4, 5, 6, 7, 8, 9, 10, 11] (by decide) (by decide)]
    rfl
  rw [← e]
  exact Transfers.pointsTo_toks_range fullShare 12

/-! ## The body at the first point and at the others -/

set_option maxHeartbeats 4000000 in
set_option sl_exec.dmaWindow true in
set_option sl_exec.dmaWindowSet true in
theorem body_first (c : Dev nD) (i : grid0.Coords) (arg1 : Memref sig .tc .vmem S512x6144 .bf16) (harg1 : arg1.IsWhole)
    (arg3 : Memref sig .tc .vmem S512x1024 .bf16) (harg3 : arg3.IsWhole) (arg4 : Memref sig .tc .vmem S1024x6144 .bf16) (harg4 : arg4.IsWhole)
    (hc : cond0_0 i) (x : Vec F S512x6144 .bf16) (fh : HbBuf0 (F := F) c hbM0_0) (W : Waits sig Unit) (K : PUnit → sProp 𝕄) :
    iprop(owns (c : Thread nD τ) arg1 fullShare x ∗ (∃ d, owns (c : Thread nD τ) arg3 fullShare d) ∗ (∃ d, owns (c : Thread nD τ) arg4 fullShare d)
        ∗ cells c ∗ hbPt0 c hbM0_0 fh ∗ owes (c : Thread nD τ) 0 W
        ∗ (iprop(owns (c : Thread nD τ) arg1 fullShare x ∗ owns (c : Thread nD τ) arg3 fullShare (outD x (joined c fh))
            ∗ owns (c : Thread nD τ) arg4 fullShare (joined c fh) ∗ cells c ∗ hbPt0 c hbM0_0 fh ∗ (∃ W', owes (c : Thread nD τ) 0 W')) -∗ K ⟨⟩))
      ⊢ wp frame (wpE (defs₀ (F := F)) Variants.none c none) Set.univ
          (cc0_ret_du i arg1 harg1 (Memref.whole main_arg1) (Memref.isWhole_whole _) arg3 harg3 arg4 harg4 cc0_scratch1) K := by
  simp only [cc0_ret_du_eq_skeleton]; unfold cc0_ret_du_skel
  simp only [k0_part1_eq_skeleton, k0_part2_eq_skeleton, k0_part3_eq_skeleton]
  unfold owns cells
  iintro ⟨⟨%f0, %hf0, H0⟩, ⟨%d1, %f1, -, H1⟩, ⟨%ds0, %fs0, -, HS0⟩, ⟨Hq0, Hq1, Hq2, Hq3, Hq4, Hq5, Hq6, Hq7⟩, Hh, HW, Hk⟩
  obtain rfl := harg1.eq_unread hf0
  ihave Ht := (toks c fh).1 $$ Hh
  icases Ht with ⟨Hr, Ht0, Ht1, Ht2, Ht3, Ht4, Ht5, Ht6, Ht7, Ht8, Ht9, Ht10, Ht11⟩
  sl_exec (disch := first | sl_exact hc)
  sl_step
  iapply Hk
  isplitl [H0]
  · iexists _; isplitr; · ipureintro; exact harg1.read_unread _
    iexact H0
  isplitl [H1]
  · iexists _; isplitr
    swap; · iexact H1
    ipureintro
    refine (View.read_writes_eq_canon _ _ _ (outD_cover _)).trans ?_
    have hw : body_first.sl.v4 c arg4 fh = View.ld (joined c fh) rW := by
      unfold body_first.sl.v4
      exact View.readCov_eq_canon' _ _ _
    rw [hw, View.readAt_eq_ld, hf0]
    rfl
  isplitl [HS0]
  · iexists _; isplitr
    swap; · iexact HS0
    ipureintro
    exact View.read_writes_eq_canon _ _ _ (copies_cover c fh)
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hr Ht0 Ht1 Ht2 Ht3 Ht4 Ht5 Ht6 Ht7 Ht8 Ht9 Ht10 Ht11]
  · iapply (toks c fh).2
    isplitl [Hr]; · iexact Hr
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    iexact Ht11
  iexists _; iexact HW

set_option maxHeartbeats 1000000 in
theorem body_next (c : Dev nD) (i : grid0.Coords) (arg1 : Memref sig .tc .vmem S512x6144 .bf16) (harg1 : arg1.IsWhole)
    (arg3 : Memref sig .tc .vmem S512x1024 .bf16) (harg3 : arg3.IsWhole) (arg4 : Memref sig .tc .vmem S1024x6144 .bf16) (harg4 : arg4.IsWhole)
    (hc : ¬cond0_0 i) (x : Vec F S512x6144 .bf16) (w : Vec F S1024x6144 .bf16) (W : Waits sig Unit) (K : PUnit → sProp 𝕄) :
    iprop(owns (c : Thread nD τ) arg1 fullShare x ∗ (∃ d, owns (c : Thread nD τ) arg3 fullShare d) ∗ owns (c : Thread nD τ) arg4 fullShare w
        ∗ owes (c : Thread nD τ) 0 W
        ∗ (iprop(owns (c : Thread nD τ) arg1 fullShare x ∗ owns (c : Thread nD τ) arg3 fullShare (outD x w)
            ∗ owns (c : Thread nD τ) arg4 fullShare w ∗ (∃ W', owes (c : Thread nD τ) 0 W')) -∗ K ⟨⟩))
      ⊢ wp frame (wpE (defs₀ (F := F)) Variants.none c none) Set.univ
          (cc0_ret_du i arg1 harg1 (Memref.whole main_arg1) (Memref.isWhole_whole _) arg3 harg3 arg4 harg4 cc0_scratch1) K := by
  simp only [cc0_ret_du_eq_skeleton]; unfold cc0_ret_du_skel
  simp only [k0_part1_eq_skeleton, k0_part2_eq_skeleton, k0_part3_eq_skeleton]
  unfold owns
  iintro ⟨⟨%f0, %hf0, H0⟩, ⟨%d1, %f1, -, H1⟩, ⟨%fs0, %hfs0, HS0⟩, HW, Hk⟩
  subst hf0 hfs0
  sl_exec (disch := first | sl_exact hc)
  sl_step
  iapply Hk
  isplitl [H0]
  · iexists f0; isplitr; · ipureintro; rfl
    iexact H0
  isplitl [H1]
  · iexists _; isplitr
    swap; · iexact H1
    ipureintro
    exact View.read_writes_eq_canon _ _ _ (outD_cover _)
  isplitl [HS0]
  · iexists fs0; isplitr; · ipureintro; rfl
    iexact HS0
  iexists _; iexact HW

end Cert.RetDuIdeal.Hand

end
-- ==== Proof.RetDu.Launch.lean ====
/- The run of the call that multiplies a gradient by the transposed joined weight: after the first grid point the scratch
   holds the joined weight, and after every point the output's block is the product of that point's block of rows. -/
module

public import proofs.«01_k».proof.Proof.RetDu.Body
public import Idealize.ShloMosaic.Lib.Claim

@[expose] public section

set_option maxRecDepth 16384

noncomputable section

namespace Cert.RetDuIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.RetDuIdeal Cert.RetDuIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The joined weight of the launch memory. -/
abbrev weight (c : Dev nD) : Vec F S1024x6144 .bf16 := joined c (V m c main_arg1)

/-- Between points: the scratch at the joined weight, the generator register, the copy counters at zero, the weight's array
    as launched. -/
def kept (c : Dev nD) : sProp 𝕄 :=
  iprop(owns (c : Thread nD τ) scM0_0 fullShare (weight m c) ∗ (∃ r, prngReg c r) ∗ cells c ∗ hbPt0 c hbM0_0 (V m c main_arg1))

/-- The same before the first point: the scratch at anything. -/
theorem start_eq (c : Dev nD) : (Pipeline.ΦD osem0 spec0 H0 (V m) c : sProp 𝕄)
    = iprop((∃ d, owns (c : Thread nD τ) scM0_0 fullShare d) ∗ (∃ r, prngReg c r) ∗ cells c ∗ hbPt0 c hbM0_0 (V m c main_arg1)) := PhiD0_eq m c

/-- The invariant before point `n`. -/
def inv0 (c : Dev nD) (n : ℕ) : sProp 𝕄 := if n = 0 then Pipeline.ΦD osem0 spec0 H0 (V m) c else kept m c

/-- What the pipeline's proof names: after point `t` the rows' buffer at its block and the output's at the product. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outD (iblk m c 0 t) (weight m c)
  Φ t := inv0 m c t.val
  q _ := fullShare
  owed _ := 0

theorem inv_zero (c : Dev nD) (t : Fin (cfg0.N + 1)) (h : t.val = 0) :
    (dats m 0 c).Φ t = Pipeline.ΦD osem0 spec0 H0 (V m) c := by
  show inv0 m c t.val = _
  unfold inv0; exact if_pos h
theorem inv_pos (c : Dev nD) (t : Fin (cfg0.N + 1)) (h : t.val ≠ 0) : (dats m 0 c).Φ t = kept m c := by
  show inv0 m c t.val = _
  unfold inv0; exact if_neg h
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outD (iblk m c 0 t) (weight m c) := by dsimp only [dats]
theorem before0_0 (c : Dev nD) (t : Fin cfg0.N) (d) : (dats m 0 c).before 0 t d = iblk m c 0 t :=
  before0_0_of m (dats m 0 c) (A_eq m c 0) (after0_0 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- The body at any point, the first or another. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  have hN : t.val < 8 := lt_of_lt_of_eq t.isLt (show cfg0.N = 8 from N_0)
  rw [inv_pos m c t.succ (Nat.succ_ne_zero _), after0_0, after0_1]
  unfold Dat.owesAt Pipeline.owesWithin kept
  rw [show (dats m 0 c).owed t.castSucc = 0 from rfl, show (dats m 0 c).owed t.succ = 0 from rfl]
  by_cases hz : t.val = 0
  · rw [inv_zero m c t.castSucc hz, start_eq]
    iintro ⟨⟨HS, Hg, Hq, Hh⟩, ⟨%W, -, HW⟩, ⟨%d0, H0⟩, ⟨%d1, H1⟩⟩
    iapply (body_first c (grid0.coords t) _ _ _ _ _ _ ((hcond0_0 t).mpr (by omega)) (iblk m c 0 t) (V m c main_arg1) W _)
    isplitl [H0]; · iexact H0
    isplitl [H1]; · iexists _; iexact H1
    isplitl [HS]; · iexact HS
    isplitl [Hq]; · iexact Hq
    isplitl [Hh]; · iexact Hh
    isplitl [HW]; · iexact HW
    iintro ⟨H0, H1, HS, Hq, Hh, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    iexact H1
  · rw [inv_pos m c t.castSucc hz]
    unfold kept
    iintro ⟨⟨HS, Hg, Hq, Hh⟩, ⟨%W, -, HW⟩, ⟨%d0, H0⟩, ⟨%d1, H1⟩⟩
    iapply (body_next c (grid0.coords t) _ _ _ _ _ _ (fun h => hz (by have := (hcond0_0 t).mp h; omega)) (iblk m c 0 t) (weight m c) W _)
    isplitl [H0]; · iexact H0
    isplitl [H1]; · iexists _; iexact H1
    isplitl [HS]; · iexact HS
    isplitl [HW]; · iexact HW
    iintro ⟨H0, H1, HS, ⟨%W', HW'⟩⟩
    isplitl [HS Hg Hq Hh]
    · isplitl [HS]; · iexact HS
      isplitl [Hg]; · iexact Hg
      isplitl [Hq]; · iexact Hq
      iexact Hh
    isplitl [HW']
    · iexists W'; isplitr; · ipureintro; exact fun _ _ => Or.inl trivial
      iexact HW'
    isplitl [H0]; · iexact H0
    iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [inv_zero m c 0 rfl]

/-- After the last point the named contents of the scratch are forgotten. -/
theorem hout (c : Dev nD) : (dats m 0 c).Φ (Fin.last cfg0.N) ⊢ Pipeline.ΦD osem0 spec0 H0 (V m) c := by
  rw [inv_pos m c (Fin.last cfg0.N) (by rw [Fin.val_last]; have : cfg0.N = 8 := N_0; omega), start_eq]
  unfold kept
  iintro ⟨HS, Hg, Hq, Hh⟩
  isplitl [HS]
  · iexists _; iexact HS
  isplitl [Hg]; · iexact Hg
  isplitl [Hq]; · iexact Hq
  iexact Hh

/-! ## The run and the frame -/

set_option backward.isDefEq.respectTransparency.types false in
/-- Every weakly fair execution ends with the arrays at what the write-backs leave and the counters at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run with its result and arguments named. -/
theorem run_vals : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 1,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run m ρ)

/-- The frame: the arguments and the counters end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_vals m ρ)

end Cert.RetDuIdeal.Hand

end
-- ==== Proof.RetDu.Value.lean ====
/- What the call leaves in its output, at an index: the product with the transposed joined weight. -/
module

public import proofs.«01_k».proof.Proof.RetDu.Launch
public import proofs.«01_k».proof.Proof.Proj.Model
public import Idealize.ShloMosaic.Lib.Pointwise
public import Idealize.ShloMosaic.Lib.Pipeline.ValueKit.Tiles
public import Idealize.ShloMosaic.Lib.Pipeline.ValueKit.Geometry
public import Idealize.ShloMosaic.Lib.Pipeline.ReadBack
public import Idealize.ShloMosaic.Lib.ValueLayout

@[expose] public section

set_option maxRecDepth 16384

noncomputable section

namespace Cert.RetDuIdeal.Hand

open Idealize.ShloMosaic Idealize.ShloMosaic.TcCoe Idealize.ShloMosaic.Tactic
open Cert.RetDuIdeal Cert.RetDuIdeal.Gen
open Cert.ProjMath (pc pl col pc_col pl_col)
open scoped BigOperators

variable (m : (ℓ : Loc nD τ sig) → Buf (Elt Ideal) ℓ) (ρ : Dev nD → PrngReg)

/-- A copied piece at row `k` and column `l`. -/
theorem piece_at (c : Dev nD) (fh : HbBuf0 (F := Ideal) c hbM0_0) (p : Fin 8)
    (h : ∀ a, (![p.val, 0, 0] : Fin 3 → ℕ) a + S1x1024x768.size a ≤ S8x1024x768.size a) (k : Fin 1024) (l : Fin 768) :
    (piece c fh p.val h : S1024x768.Idx → EReal) (ix2 k l) = (fh : S8x1024x768.Idx → EReal) (ix3 p k l) := by
  show (fh : S8x1024x768.Idx → EReal) ((Rect.unit (s := S8x1024x768) ![p.val, 0, 0] S1x1024x768.size h).emb
    (Shape.reshapeEquiv squeezes_S1x1024x768_S1024x768.numel_eq (ix2 k l))) = _
  refine congrArg fh ?_
  refine (congrArg _ (ValueIdx.reshapeEquiv_ix2_1ab _ k l)).trans ?_
  funext a; apply Fin.ext
  match a with
  | ⟨0, _⟩ => show p.val + 1 * 0 = p.val; omega
  | ⟨1, _⟩ => show 0 + 1 * k.val = k.val; omega
  | ⟨2, _⟩ => show 0 + 1 * l.val = l.val; omega

/-- Column `j` of the joined weight is its column of its piece. -/
theorem joined_at (c : Dev nD) (fh : HbBuf0 (F := Ideal) c hbM0_0) (k : Fin 1024) (j : Fin 6144) :
    (joined c fh : S1024x6144.Idx → EReal) (ix2 k j) = (fh : S8x1024x768.Idx → EReal) (ix3 (pc j) k (pl j)) := by
  have key : ∀ (p : Fin 8) (h : ∀ a, (![p.val, 0, 0] : Fin 3 → ℕ) a + S1x1024x768.size a ≤ S8x1024x768.size a) (x : S1024x768.Idx),
      k.val = (x 0).val → j.val = 768 * p.val + (x 1).val →
      (piece c fh p.val h : S1024x768.Idx → EReal) x = (fh : S8x1024x768.Idx → EReal) (ix3 (pc j) k (pl j)) := by
    intro p h x h0 h1
    obtain ⟨k', l, rfl⟩ : ∃ (k' : Fin 1024) (l : Fin 768), x = ix2 k' l := ⟨x 0, x 1, eq_ix2 x⟩
    obtain rfl : k = k' := Fin.ext h0
    obtain rfl : j = col p l := Fin.ext h1
    rw [piece_at, pc_col, pl_col]
  unfold joined
  canon_tiles x hx using copies_cover c fh _
  · exact key 7 _ x hx0 hx1
  · exact key 6 _ x hx0 hx1
  · exact key 5 _ x hx0 hx1
  · exact key 4 _ x hx0 hx1
  · exact key 3 _ x hx0 hx1
  · exact key 2 _ x hx0 hx1
  · exact key 1 _ x hx0 hx1
  · exact key 0 _ x hx0 (hx1.trans (by simp))

theorem outD_at (x : Vec Ideal S512x6144 .bf16) (w : Vec Ideal S1024x6144 .bf16) (i : Fin 512) (k : Fin 1024) :
    outD x w (ix2 i k) = ∑ j : Fin 6144, (x (ix2 i j) : EReal) * w (ix2 k j) := by
  unfold outD
  canon_tiles y hy using outD_cover (F := Ideal) _ _
  all_goals open_payloads
  all_goals pointwise [k0_pay1]
  obtain rfl : i = y 0 := Fin.ext hy0
  obtain rfl : k = y 1 := Fin.ext hy1
  rfl

/-! ## The windows -/

/-- Row `r` of block `t`. -/
def row (t : Fin cfg0.N) (r : Fin 512) : Fin 4096 := ⟨512 * t.val + r.val, by have : t.val < 8 := t.isLt.trans_eq N_0; omega⟩

theorem ix0 : ∀ t : Fin cfg0.N, win0_0.index t (0 : Fin 2) = t.val ∧ win0_0.index t (1 : Fin 2) = 0 :=
  (by decide +kernel : ∀ t : Fin grid0.N, _)
theorem emb0 (t : Fin cfg0.N) (r : Fin 512) (j : Fin 6144) : ((cfg0.win 0).blk t).view.emb (ix2 r j) = ix2 (row t r) j := by
  obtain ⟨e0, e1⟩ := ix0 t
  funext a; apply Fin.ext
  match a with
  | ⟨0, _⟩ => show win0_0.index t (0 : Fin 2) * 512 + 1 * r.val = 512 * t.val + r.val; rw [e0]; omega
  | ⟨1, _⟩ => show win0_0.index t (1 : Fin 2) * 6144 + 1 * j.val = j.val; rw [e1]; omega
theorem blk0 (c : Dev nD) (t : Fin cfg0.N) (r : Fin 512) (j : Fin 6144) :
    (iblk m c 0 t : S512x6144.Idx → EReal) (ix2 r j) = (V m c main_arg0 : S4096x6144.Idx → EReal) (ix2 (row t r) j) :=
  congrArg (V m c main_arg0) (emb0 t r j)
theorem ix1 : ∀ t : Fin cfg0.N, win0_1.index t (0 : Fin 2) = t.val ∧ win0_1.index t (1 : Fin 2) = 0 :=
  (by decide +kernel : ∀ t : Fin grid0.N, _)
theorem emb1 (t : Fin cfg0.N) (r : Fin 512) (k : Fin 1024) : ((cfg0.win 1).blk t).view.emb (ix2 r k) = ix2 (row t r) k := by
  obtain ⟨e0, e1⟩ := ix1 t
  funext a; apply Fin.ext
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega
theorem flush : ∀ t : Fin cfg0.N, (cfg0.win 1).flush t = true := (by decide +kernel : ∀ t : Fin grid0.N, win0_1.flush t = true)
theorem disj : ∀ t t' : Fin cfg0.N, (cfg0.win 1).flush t = true → (cfg0.win 1).flush t' = true → t ≠ t' →
    Disjoint ((cfg0.win 1).blk t).view.set ((cfg0.win 1).blk t').view.set :=
  (cfg0.win 1).hdisj_of_index_inj
    (by decide +kernel : ∀ t t' : Fin grid0.N, win0_1.flush t = true → win0_1.flush t' = true → win0_1.index t = win0_1.index t' → t = t')

/-! ## The output -/

abbrev ad (c : Dev nD) (i : Fin 4096) (j : Fin 6144) : EReal := (m ((c.tc : Thread nD τ).loc main_arg0) : S4096x6144.Idx → EReal) (ix2 i j)
abbrev aw (c : Dev nD) (p : Fin 8) (k : Fin 1024) (l : Fin 768) : EReal := (m ((c.tc : Thread nD τ).loc main_arg1) : S8x1024x768.Idx → EReal) (ix3 p k l)

attribute [local irreducible] iblk

theorem fin (c : Dev nD) (t : Fin cfg0.N) (r : Fin 512) (k : Fin 1024) :
    ((dats m 0 c).arrAt 1 cfg0.N : S4096x1024.Idx → EReal) (ix2 (row t r) k) = ∑ j : Fin 6144, ad m c (row t r) j * aw m c (pc j) k (pl j) := by
  have hE := (dats m 0 c).arrAt_emb_eq_flushed 1 disj t (flush t) (ix2 r k)
  rw [emb1] at hE
  refine hE.trans (Eq.trans ?_ ((outD_at (iblk m c 0 t) (weight m c) r k).trans ?_))
  · rw [← after0_1]; rfl
  · simp only [blk0, joined_at, V_main_arg0, V_main_arg1]

/-- The gradient at row `i` and column `k`: the sum over the weight's columns. -/
theorem du_at (c : Dev nD) (i : Fin 4096) (k : Fin 1024) :
    ((dats m 0 c).arrAt 1 cfg0.N : S4096x1024.Idx → EReal) (ix2 i k) = ∑ j : Fin 6144, ad m c i j * aw m c (pc j) k (pl j) := by
  have h := fin m c ⟨i.val / 512, (by omega : i.val / 512 < 8).trans_eq N_0.symm⟩ ⟨i.val % 512, by omega⟩ k
  rwa [show row ⟨i.val / 512, (by omega : i.val / 512 < 8).trans_eq N_0.symm⟩ ⟨i.val % 512, by omega⟩ = i from
    Fin.ext (by show 512 * (i.val / 512) + i.val % 512 = i.val; omega)] at h

end Cert.RetDuIdeal.Hand

end
-- ==== Proof.RetDu.Claims.lean ====
/- The claims about the gradient of the retention mixer's input: the three frames, and the value over the reals. -/
module

public import proofs.«01_k».proof.Defs
public import proofs.«01_k».proof.Proof.Gen.RetDu
public import proofs.«01_k».proof.Proof.Gen.RetDuReferenceIdeal.Run
public import proofs.«01_k».proof.Proof.Gen.RetDuReferenceIdeal.Read
public import proofs.«01_k».proof.Proof.RetDu.Value
public import proofs.«01_k».proof.Proof.Mlp.Ext
public import Idealize.ShloMosaic.Lib.Quiescent

@[expose] public section

set_option maxRecDepth 16384

noncomputable section

namespace Cert.RetDuReferenceIdeal.Hand

open Idealize.ShloMosaic Idealize.ShloMosaic.TcCoe Idealize.ShloMosaic.Tactic
open Cert.RetDuReferenceIdeal Cert.RetDuReferenceIdeal.Gen Cert.RetDuReferenceIdeal.Read
open Cert.ProjMath (pc pl)
open scoped BigOperators

/-- The reference's gradient at an index. -/
theorem r7 (x0 : (⟨S4096x6144, .bf16⟩ : BufTy).Contents (Elt Ideal)) (x1 : (⟨S8x1024x768, .bf16⟩ : BufTy).Contents (Elt Ideal))
    (i : Fin 4096) (k : Fin 1024) : (val_main_v7 (F := Ideal) x0 x1 : S4096x1024.Idx → EReal) (ix2 i k)
      = ∑ j : Fin 6144, (x0 (ix2 i j) : EReal) * x1 (ix3 (pc j) k (pl j)) := by
  pointwise [val_main_v7, val_main_v6, val_main_v5, val_main_v3, val_main_v2, val_main_v1]
  rfl

end Cert.RetDuReferenceIdeal.Hand

namespace Cert.RetDuMath

open Idealize.ShloMosaic Idealize.ShloMosaic.TcCoe Idealize.SL.Sem
open Cert.MlpMath (ext2)

/-- The body at the bit patterns is the idealized program's. -/
theorem bodies_eq : Cert.RetDu.defs₀ (F := Bits) = Cert.RetDuIdeal.defs₀ (F := Bits) :=
  congrArg Defs.onTc (funext fun ℓ => funext fun a => match ℓ, a with
    | 0, (_, _) => rfl)
theorem defs_eq : Cert.RetDu.defs (F := Bits) = Cert.RetDuIdeal.defs (F := Bits) :=
  congrArg (Pipeline.defs (Cert.RetDuIdeal.pcfgs (F := Bits))) bodies_eq
theorem main_eq : Cert.RetDu.main (F := Bits) = Cert.RetDuIdeal.main (F := Bits) := rfl

set_option maxHeartbeats 2000000 in
/-- The program at the bit patterns: the run is the idealized program's, whose text is the same. -/
theorem frame_kernel : Cert.quiescent_RetDu := by
  intro m ρ _
  rw [defs_eq, main_eq]
  exact Cert.RetDuIdeal.Hand.frame (F := Bits) m ρ

theorem frame_kernelIdeal : Cert.quiescent_RetDuIdeal := fun m ρ _ => Cert.RetDuIdeal.Hand.frame (F := Ideal) m ρ

theorem frame_reference : Cert.quiescent_RetDuReferenceIdeal := fun m ρ _ =>
  (θ_run Cert.RetDuReferenceIdeal.defs _ _).mono (fun r h => ⟨fun c => (h c).2, sem_eq_zero_of_no_sems (by decide) r.2⟩)
    (Cert.RetDuReferenceIdeal.Value.run (F := Ideal) m ρ)

open Cert.RetDuReferenceIdeal.Hand Cert.RetDuReferenceIdeal.Read Cert.RetDuIdeal.Hand Cert.RetDuIdeal.Gen in
/-- Over the reals, the gradient is the reference's. -/
theorem algebraic : Cert.algebraic_RetDuIdeal_RetDuReferenceIdeal := by
  intro m ρ m' ρ' _ hagree
  refine ⟨fun c => (dats m 0 c).arrAt 1 Cert.RetDuIdeal.cfg0.N,
    (θ_run Cert.RetDuIdeal.defs _ _).mono (fun _ h => h.1) (run_vals m ρ),
    (θ_run Cert.RetDuReferenceIdeal.defs _ _).mono (fun r h c => ?_) (Cert.RetDuReferenceIdeal.Value.run (F := Ideal) m' ρ')⟩
  obtain ⟨e0, e1⟩ := hagree c
  obtain ⟨r0, ra⟩ := h c
  refine ⟨r0.trans ?_, ra⟩
  rw [val_main_v7_eq, e0, e1]
  exact ext2 fun i k => (r7 _ _ i k).trans (du_at m c i k).symm

end Cert.RetDuMath

end
-- ==== Proof.RetDwout.Value.lean ====
/- What the call leaves in its output, at an index. Its grid goes twice over each band of the output: the first point of
   a band leaves the product over the first half of the rows in scratch, the second adds that over the other half and
   rounds the sum into the output. -/
module

public import proofs.«01_k».proof.Proof.Gen.RetDwoutIdeal.Frame
public import proofs.«01_k».proof.Proof.Proj.Model
public import Idealize.ShloMosaic.Lib.Pointwise
public import Idealize.ShloMosaic.Lib.Pipeline.ValueKit.Tiles
public import Idealize.ShloMosaic.Lib.Pipeline.ValueKit.Geometry
public import Idealize.ShloMosaic.Lib.Pipeline.ReadBack

@[expose] public section

set_option maxRecDepth 16384

noncomputable section

namespace Cert.RetDwoutIdeal.Hand

open Idealize.ShloMosaic Idealize.ShloMosaic.TcCoe Idealize.ShloMosaic.Tactic Idealize.SL.Sem
open Cert.RetDwoutIdeal Cert.RetDwoutIdeal.Gen
open Cert.ProjMath (half band half_of band_of)
open scoped BigOperators

variable (m : (ℓ : Loc nD τ sig) → Buf (Elt Ideal) ℓ) (ρ : Dev nD → PrngReg)

/-! ## The body's two cases -/

/-- The product of two blocks at an index. -/
def prod (x : S2048x512.Idx → EReal) (y : S2048x1024.Idx → EReal) (e : Fin 512) (n : Fin 1024) : EReal :=
  ∑ r : Fin 2048, x (ix2 r e) * y (ix2 r n)

/-- At the first point of a band: the scratch. -/
theorem first_at (c : Dev nD) (t : Fin cfg0.N) (h0 : t.val % 2 = 0) (e : Fin 512) (n : Fin 1024) :
    (outsAt0 m c t.val t.isLt).2 (ix2 e n) = prod (iblk m c 0 t) (iblk m c 1 t) e n := by
  rw [outsAt0_A m c t h0 (by omega) (by omega)]
  unfold sout0_A_0; dsimp only
  rw [View.read_writes_eq_canon _ _ _ (scover0_A_0 c _ _ _ _ _ _ _ _ _ _ _ _ _ _)]
  unfold kernelRun0_A; dsimp only
  sl_unfold_words
  canon_tiles x hx using scover0_A_0 c (grid0.coords t) (ms0_0 t) (hs0_0 t) (ms0_1 t) (hs0_1 t) (ms0_2 t) (hs0_2 t) scM0_0 (Memref.isWhole_whole _) ((hcond0_0 t).mpr h0) (fun h => absurd ((hcond0_1 t).mp h) (by omega)) (fun h => absurd ((hcond0_2 t).mp h) (by omega)) (iblk m c 0 t) (iblk m c 1 t) _
  all_goals try simp (disch := decide) only [↓View.readCov_skip, ↓View.readCov_fill]
  all_goals try simp only [View.readAt_eq_ld, Memref.IsWhole.read_unread]
  all_goals open_payloads
  all_goals pointwise [k0_pay2, k0_pay1]
  obtain rfl : e = x 0 := Fin.ext hx0
  obtain rfl : n = x 1 := Fin.ext hx1
  rfl

/-- At the second: the output, over what the first left in the scratch. -/
theorem second_at (c : Dev nD) (t : Fin cfg0.N) (h0 : ¬t.val % 2 = 0) (e : Fin 512) (n : Fin 1024) :
    (outsAt0 m c t.val t.isLt).1 (ix2 e n)
      = (outsAt0 m c (t.val - 1) (by have := t.isLt; omega)).2 (ix2 e n) + prod (iblk m c 0 t) (iblk m c 1 t) e n := by
  rw [outsAt0_B m c t h0 (by omega) (by omega)]
  generalize (outsAt0 m c (t.val - 1) (by have := t.isLt; omega)).2 = xs
  unfold out0_B_2; dsimp only
  rw [View.read_writes_eq_canon _ _ _ (cover0_B_2 c _ _ _ _ _ _ _ _ _ _ _ _ _ _ _)]
  unfold kernelRun0_B; dsimp only
  sl_unfold_words
  canon_tiles x hx using cover0_B_2 c (grid0.coords t) (ms0_0 t) (hs0_0 t) (ms0_1 t) (hs0_1 t) (ms0_2 t) (hs0_2 t) scM0_0 (Memref.isWhole_whole _) (fun h => absurd ((hcond0_0 t).mp h) (by omega)) ((hcond0_1 t).mpr (by omega)) ((hcond0_2 t).mpr (by omega)) (iblk m c 0 t) (iblk m c 1 t) xs _
  all_goals try simp (disch := decide) only [↓View.readCov_skip, ↓View.readCov_fill]
  all_goals try simp only [View.readAt_eq_ld, Memref.IsWhole.read_unread]
  all_goals open_payloads
  all_goals pointwise [k0_pay4, k0_pay3, k0_pay1]
  obtain rfl : e = x 0 := Fin.ext hx0
  obtain rfl : n = x 1 := Fin.ext hx1
  rw [← eq_ix2 x]
  exact congrArg (· + _) (congrFun (Memref.IsWhole.read_unread (Memref.isWhole_whole cc0_scratch0) xs) x)

/-! ## The windows -/

/-- The point at half `a` of the rows, for band `b`. -/
def pt (b : Fin 4) (a : Fin 2) : Fin cfg0.N := ⟨2 * b.val + a.val, by rw [show cfg0.N = 8 from N_0]; omega⟩

theorem ix0 : ∀ (b : Fin 4) (a : Fin 2), win0_0.index (pt b a) (0 : Fin 2) = a.val ∧ win0_0.index (pt b a) (1 : Fin 2) = b.val := by
  decide +kernel
theorem ix1 : ∀ (b : Fin 4) (a : Fin 2), win0_1.index (pt b a) (0 : Fin 2) = a.val ∧ win0_1.index (pt b a) (1 : Fin 2) = 0 := by
  decide +kernel
theorem ix2' : ∀ (b : Fin 4) (a : Fin 2), win0_2.index (pt b a) (0 : Fin 2) = b.val ∧ win0_2.index (pt b a) (1 : Fin 2) = 0 := by
  decide +kernel
theorem blk0 (c : Dev nD) (b : Fin 4) (a : Fin 2) (r : Fin 2048) (e : Fin 512) :
    (iblk m c 0 (pt b a) : S2048x512.Idx → EReal) (ix2 r e) = (V m c main_arg0 : S4096x2048.Idx → EReal) (ix2 (half a r) (band b e)) := by
  obtain ⟨e0, e1⟩ := ix0 b a
  refine congrArg (V m c main_arg0) (?_ : ((cfg0.win 0).blk (pt b a)).view.emb (ix2 r e) = _)
  funext d; apply Fin.ext
  match d with
  | ⟨0, _⟩ => show win0_0.index (pt b a) (0 : Fin 2) * 2048 + 1 * r.val = 2048 * a.val + r.val; rw [e0]; omega
  | ⟨1, _⟩ => show win0_0.index (pt b a) (1 : Fin 2) * 512 + 1 * e.val = 512 * b.val + e.val; rw [e1]; omega
theorem blk1 (c : Dev nD) (b : Fin 4) (a : Fin 2) (r : Fin 2048) (n : Fin 1024) :
    (iblk m c 1 (pt b a) : S2048x1024.Idx → EReal) (ix2 r n) = (V m c main_arg1 : S4096x1024.Idx → EReal) (ix2 (half a r) n) := by
  obtain ⟨e0, e1⟩ := ix1 b a
  refine congrArg (V m c main_arg1) (?_ : ((cfg0.win 1).blk (pt b a)).view.emb (ix2 r n) = _)
  funext d; apply Fin.ext
  match d with
  | ⟨0, _⟩ => show win0_1.index (pt b a) (0 : Fin 2) * 2048 + 1 * r.val = 2048 * a.val + r.val; rw [e0]; omega
  | ⟨1, _⟩ => show win0_1.index (pt b a) (1 : Fin 2) * 1024 + 1 * n.val = n.val; rw [e1]; omega
theorem emb2 (b : Fin 4) (a : Fin 2) (e : Fin 512) (n : Fin 1024) :
    ((cfg0.win 2).blk (pt b a)).view.emb (ix2 e n) = (ix2 (band b e) n : S2048x1024.Idx) := by
  obtain ⟨e0, e1⟩ := ix2' b a
  funext d; apply Fin.ext
  match d with
  | ⟨0, _⟩ => show win0_2.index (pt b a) (0 : Fin 2) * 512 + 1 * e.val = 512 * b.val + e.val; rw [e0]; omega
  | ⟨1, _⟩ => show win0_2.index (pt b a) (1 : Fin 2) * 1024 + 1 * n.val = n.val; rw [e1]; omega
theorem flush : ∀ b : Fin 4, (cfg0.win 2).flush (pt b 1) = true := by decide +kernel
theorem disj : ∀ t t' : Fin cfg0.N, (cfg0.win 2).flush t = true → (cfg0.win 2).flush t' = true → t ≠ t' →
    Disjoint ((cfg0.win 2).blk t).view.set ((cfg0.win 2).blk t').view.set :=
  (cfg0.win 2).hdisj_of_index_inj
    (by decide +kernel : ∀ t t' : Fin grid0.N, win0_2.flush t = true → win0_2.flush t' = true → win0_2.index t = win0_2.index t' → t = t')

/-! ## The output -/

/-- A sum over the rows, half by half. -/
theorem sum_halves (f : Fin 4096 → EReal) : ∑ i : Fin 4096, f i = ∑ r : Fin 2048, f (half 0 r) + ∑ r : Fin 2048, f (half 1 r) := by
  refine (Fin.sum_univ_add (a := 2048) (b := 2048) f).trans ?_
  refine congrArg₂ (· + ·) (Finset.sum_congr rfl fun r _ => congrArg f (Fin.ext ?_)) (Finset.sum_congr rfl fun r _ => congrArg f (Fin.ext ?_))
  · show r.val = 2048 * 0 + r.val; omega
  · show 2048 + r.val = 2048 * 1 + r.val; omega

abbrev ao (c : Dev nD) (i : Fin 4096) (e : Fin 2048) : EReal := (m ((c.tc : Thread nD τ).loc main_arg0) : S4096x2048.Idx → EReal) (ix2 i e)
abbrev ay (c : Dev nD) (i : Fin 4096) (n : Fin 1024) : EReal := (m ((c.tc : Thread nD τ).loc main_arg1) : S4096x1024.Idx → EReal) (ix2 i n)

theorem prod_pt (c : Dev nD) (b : Fin 4) (a : Fin 2) (e : Fin 512) (n : Fin 1024) :
    prod (iblk m c 0 (pt b a)) (iblk m c 1 (pt b a)) e n = ∑ r : Fin 2048, ao m c (half a r) (band b e) * ay m c (half a r) n := by
  unfold prod
  simp only [blk0, blk1, V_main_arg0, V_main_arg1]

attribute [local irreducible] iblk outsAt0 prod

theorem fin (c : Dev nD) (b : Fin 4) (e : Fin 512) (n : Fin 1024) :
    ((dats m 0 c).arrAt 2 cfg0.N : S2048x1024.Idx → EReal) (ix2 (band b e) n)
      = ∑ i : Fin 4096, ao m c i (band b e) * ay m c i n := by
  have hE := (dats m 0 c).arrAt_emb_eq_flushed 2 disj (pt b 1) (flush b) (ix2 e n)
  rw [emb2] at hE
  have hS := second_at m c (pt b 1) (by show ¬(2 * b.val + 1) % 2 = 0; omega) e n
  have hF := first_at m c (pt b 0) (by show (2 * b.val + 0) % 2 = 0; omega) e n
  rw [sum_halves, ← prod_pt m c b 0 e n, ← prod_pt m c b 1 e n]
  refine hE.trans (Eq.trans ?_ (hS.trans (congrArg (· + _) hF)))
  rw [← after0_2]; rfl

/-- The gradient at row `e` and column `n`: the sum over all rows of the two arrays. -/
theorem dwout_at (c : Dev nD) (e : Fin 2048) (n : Fin 1024) :
    ((dats m 0 c).arrAt 2 cfg0.N : S2048x1024.Idx → EReal) (ix2 e n) = ∑ i : Fin 4096, ao m c i e * ay m c i n := by
  have h := fin m c ⟨e.val / 512, by omega⟩ ⟨e.val % 512, by omega⟩ n
  rwa [show band (⟨e.val / 512, by omega⟩ : Fin 4) ⟨e.val % 512, by omega⟩ = e from band_of (n := 4) e] at h

/-- The run, and the result's array. -/
theorem run_vals : θ_run defs (onTc (τ := τ) (main (F := Ideal))) ⟨m, fun _ => 0, ρ⟩ (fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩) (Gen.run_main_quiescent m ρ)

end Cert.RetDwoutIdeal.Hand

end
-- ==== Proof.RetDwout.Claims.lean ====
/- The claims about the gradient of the retention mixer's last weight: the three frames, and the value over the reals. -/
module

public import proofs.«01_k».proof.Defs
public import proofs.«01_k».proof.Proof.Gen.RetDwout
public import proofs.«01_k».proof.Proof.Gen.RetDwoutReferenceIdeal.Run
public import proofs.«01_k».proof.Proof.Gen.RetDwoutReferenceIdeal.Read
public import proofs.«01_k».proof.Proof.RetDwout.Value
public import proofs.«01_k».proof.Proof.Mlp.Ext
public import Idealize.ShloMosaic.Lib.Quiescent

@[expose] public section

set_option maxRecDepth 16384

noncomputable section

namespace Cert.RetDwoutReferenceIdeal.Hand

open Idealize.ShloMosaic Idealize.ShloMosaic.TcCoe Idealize.ShloMosaic.Tactic
open Cert.RetDwoutReferenceIdeal Cert.RetDwoutReferenceIdeal.Gen Cert.RetDwoutReferenceIdeal.Read
open scoped BigOperators

/-- The reference's gradient at an index. -/
theorem r6 (x0 : (⟨S4096x2048, .bf16⟩ : BufTy).Contents (Elt Ideal)) (x1 : (⟨S4096x1024, .bf16⟩ : BufTy).Contents (Elt Ideal))
    (e : Fin 2048) (n : Fin 1024) : (val_main_v6 (F := Ideal) x0 x1 : S2048x1024.Idx → EReal) (ix2 e n)
      = ∑ i : Fin 4096, (x0 (ix2 i e) : EReal) * x1 (ix2 i n) := by
  pointwise [val_main_v6, val_main_v5, val_main_v4, val_main_v3, val_main_v1]
  exact Finset.sum_congr rfl fun i _ => mul_comm _ _

end Cert.RetDwoutReferenceIdeal.Hand

namespace Cert.RetDwoutMath

open Idealize.ShloMosaic Idealize.ShloMosaic.TcCoe Idealize.SL.Sem
open Cert.MlpMath (ext2)

/-- The body at the bit patterns is the idealized program's. -/
theorem bodies_eq : Cert.RetDwout.defs₀ (F := Bits) = Cert.RetDwoutIdeal.defs₀ (F := Bits) :=
  congrArg Defs.onTc (funext fun ℓ => funext fun a => match ℓ, a with
    | 0, (_, _) => rfl)
theorem defs_eq : Cert.RetDwout.defs (F := Bits) = Cert.RetDwoutIdeal.defs (F := Bits) :=
  congrArg (Pipeline.defs (Cert.RetDwoutIdeal.pcfgs (F := Bits))) bodies_eq
theorem main_eq : Cert.RetDwout.main (F := Bits) = Cert.RetDwoutIdeal.main (F := Bits) := rfl

set_option maxHeartbeats 2000000 in
/-- The program at the bit patterns: the run is the idealized program's, whose text is the same. -/
theorem frame_kernel : Cert.quiescent_RetDwout := by
  intro m ρ _
  rw [defs_eq, main_eq]
  exact Cert.RetDwoutIdeal.Gen.frame (F := Bits) m ρ

theorem frame_kernelIdeal : Cert.quiescent_RetDwoutIdeal := fun m ρ _ => Cert.RetDwoutIdeal.Gen.frame (F := Ideal) m ρ

theorem frame_reference : Cert.quiescent_RetDwoutReferenceIdeal := fun m ρ _ =>
  (θ_run Cert.RetDwoutReferenceIdeal.defs _ _).mono (fun r h => ⟨fun c => (h c).2, sem_eq_zero_of_no_sems (by decide) r.2⟩)
    (Cert.RetDwoutReferenceIdeal.Value.run (F := Ideal) m ρ)

open Cert.RetDwoutReferenceIdeal.Hand Cert.RetDwoutReferenceIdeal.Read Cert.RetDwoutIdeal.Hand Cert.RetDwoutIdeal.Gen in
/-- Over the reals, the gradient is the reference's. -/
theorem algebraic : Cert.algebraic_RetDwoutIdeal_RetDwoutReferenceIdeal := by
  intro m ρ m' ρ' _ hagree
  refine ⟨fun c => (dats m 0 c).arrAt 2 Cert.RetDwoutIdeal.cfg0.N,
    (θ_run Cert.RetDwoutIdeal.defs _ _).mono (fun _ h => h.1) (run_vals m ρ),
    (θ_run Cert.RetDwoutReferenceIdeal.defs _ _).mono (fun r h c => ?_) (Cert.RetDwoutReferenceIdeal.Value.run (F := Ideal) m' ρ')⟩
  obtain ⟨e0, e1⟩ := hagree c
  obtain ⟨r0, ra⟩ := h c
  refine ⟨r0.trans ?_, ra⟩
  rw [val_main_v6_eq, e0, e1]
  exact ext2 fun e n => (r6 _ _ e n).trans (dwout_at m c e n).symm

end Cert.RetDwoutMath

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mlp
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.MlpDu
public import proofs.«01_k».proof.Proof.Gen.MlpDuIdeal
public import proofs.«01_k».proof.Proof.Gen.MlpDuIdeal.Skeleton
public import proofs.«01_k».proof.Proof.Gen.MlpDuIdeal.Launch
public import proofs.«01_k».proof.Proof.Gen.MlpDuIdeal.Points
public import proofs.«01_k».proof.Proof.Gen.MlpDuIdeal.Frame.Runs
public import proofs.«01_k».proof.Proof.Gen.MlpDuReferenceIdeal
public import proofs.«01_k».proof.Proof.Gen.MlpDuReferenceIdeal.Run
public import proofs.«01_k».proof.Proof.Gen.MlpDuReferenceIdeal.Read
public import proofs.«01_k».proof.Proof.Gen.RetDu
public import proofs.«01_k».proof.Proof.Gen.RetDuIdeal
public import proofs.«01_k».proof.Proof.Gen.RetDuIdeal.Skeleton
public import proofs.«01_k».proof.Proof.Gen.RetDuIdeal.Launch
public import proofs.«01_k».proof.Proof.Gen.RetDuIdeal.Points
public import proofs.«01_k».proof.Proof.Gen.RetDuIdeal.Frame.Runs
public import proofs.«01_k».proof.Proof.Gen.RetDuReferenceIdeal
public import proofs.«01_k».proof.Proof.Gen.RetDuReferenceIdeal.Run
public import proofs.«01_k».proof.Proof.Gen.RetDuReferenceIdeal.Read
public import proofs.«01_k».proof.Proof.Gen.RetDwout
public import proofs.«01_k».proof.Proof.Gen.RetDwoutIdeal
public import proofs.«01_k».proof.Proof.Gen.RetDwoutIdeal.Skeleton
public import proofs.«01_k».proof.Proof.Gen.RetDwoutIdeal.Launch
public import proofs.«01_k».proof.Proof.Gen.RetDwoutIdeal.Points
public import proofs.«01_k».proof.Proof.Gen.RetDwoutIdeal.Frame
public import proofs.«01_k».proof.Proof.Gen.RetDwoutReferenceIdeal
public import proofs.«01_k».proof.Proof.Gen.RetDwoutReferenceIdeal.Run
public import proofs.«01_k».proof.Proof.Gen.RetDwoutReferenceIdeal.Read
public import proofs.«01_k».proof.Proof.Ret.Claims
public import proofs.«01_k».proof.Proof.Mlp.Claims
public import proofs.«01_k».proof.Proof.Proj.Claims
public import proofs.«01_k».proof.Proof.MlpDu.Claims
public import proofs.«01_k».proof.Proof.RetDu.Claims
public import proofs.«01_k».proof.Proof.RetDwout.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Proj.Gen.facts, Cert.ProjIdeal.Gen.facts, Cert.ProjReferenceIdeal.Gen.facts,
    Cert.MlpDu.Gen.facts, Cert.MlpDuIdeal.Gen.facts, Cert.MlpDuReferenceIdeal.Gen.facts,
    Cert.RetDu.Gen.facts, Cert.RetDuIdeal.Gen.facts, Cert.RetDuReferenceIdeal.Gen.facts,
    Cert.RetDwout.Gen.facts, Cert.RetDwoutIdeal.Gen.facts, Cert.RetDwoutReferenceIdeal.Gen.facts,
    Cert.Ret.frame_kernel, Cert.Ret.frame_kernelIdeal, Cert.Ret.frame_reference,
    Cert.MlpMath.frame_kernel, Cert.MlpMath.frame_kernelIdeal, Cert.MlpMath.frame_reference,
    Cert.ProjMath.frame_kernel, Cert.ProjMath.frame_kernelIdeal, Cert.ProjMath.frame_reference,
    Cert.MlpDuMath.frame_kernel, Cert.MlpDuMath.frame_kernelIdeal, Cert.MlpDuMath.frame_reference,
    Cert.RetDuMath.frame_kernel, Cert.RetDuMath.frame_kernelIdeal, Cert.RetDuMath.frame_reference,
    Cert.RetDwoutMath.frame_kernel, Cert.RetDwoutMath.frame_kernelIdeal, Cert.RetDwoutMath.frame_reference,
    trivial, Cert.Ret.algebraic, trivial, Cert.MlpMath.algebraic, trivial, Cert.ProjMath.algebraic,
    trivial, Cert.MlpDuMath.algebraic, trivial, Cert.RetDuMath.algebraic, trivial, Cert.RetDwoutMath.algebraic⟩

end Cert.Proof

end
